-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.Statement Cert.KernelIdeal.S60x2x20x2x128 Cert.KernelIdeal.S60x2x20x1x128
  ∧ IdealRules.bf16_pair.Statement Cert.KernelIdeal.S4800x128 Cert.KernelIdeal.S2400x128
  ∧ IdealRules.bf16_pair.Statement Cert.KernelIdeal.S64x2x1x2x128 Cert.KernelIdeal.S64x2x1x1x128
  ∧ IdealRules.bf16_pair.Statement Cert.KernelIdeal.S256x128 Cert.KernelIdeal.S128x128
  ∧ IdealRules.bf16_pair.Statement Cert.KernelIdeal.S60x2x1x2x128 Cert.KernelIdeal.S60x2x1x1x128
  ∧ IdealRules.bf16_pair.Statement Cert.KernelIdeal.S240x128 Cert.KernelIdeal.S120x128
  ∧ IdealRules.bf16_pair.Statement Cert.KernelIdeal.S60x2x2x32 Cert.KernelIdeal.S60x2x1x32

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28_0) = v0 c
          ∧ r.2.mem ((c.tc : Thread Cert.ReferenceIdeal.nD Cert.ReferenceIdeal.τ).loc Cert.ReferenceIdeal.main_v28_1) = v1 c
          ∧ r.2.mem ((c.tc : Thread Cert.ReferenceIdeal.nD Cert.ReferenceIdeal.τ).loc Cert.ReferenceIdeal.main_v28_2) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x12x10x2560 : Shape := ⟨4, ![2, 12, 10, 2560]⟩
abbrev S3x3x2560x1280 : Shape := ⟨4, ![3, 3, 2560, 1280]⟩
abbrev S1280 : Shape := ⟨1, ![1280]⟩
abbrev S3x3x2560x32 : Shape := ⟨4, ![3, 3, 2560, 32]⟩
abbrev S32x1280 : Shape := ⟨2, ![32, 1280]⟩
abbrev S_ : Shape := ⟨0, ![]⟩

class Facts : Prop where
  bitsLt_bf16_f32 : FTy.bits .bf16 < FTy.bits .f32
  bcast_S_S2x12x10x2560 : S_.BroadcastsInDim S2x12x10x2560 (![] : Fin 0 → Fin S2x12x10x2560.rank)
  reducesTo_S2x12x10x2560_S_d0_1_2_3 : S2x12x10x2560.ReducesTo [0, 1, 2, 3] S_
  h_S_ : 0 < S_.numel

variable [Facts]

def fn {F : FTy → Type} [FloatOps F] (main_arg0 : FVec F S2x12x10x2560 .bf16) (main_arg1 : FVec F S3x3x2560x1280 .fp8e4m3) (main_arg2 : FVec F S1280 .f32) (main_arg3 : FVec F S1280 .f32) (main_arg4 : FVec F S3x3x2560x32 .bf16) (main_arg5 : FVec F S32x1280 .bf16) : IVec S_ 1 :=
  let main_v0 : FVec F S2x12x10x2560 .f32 := (extf .f32 · bitsLt_bf16_f32) main_arg0
  let main_v1 : FVec F S2x12x10x2560 .f32 := Host.absf main_v0
  let main_cst : FVec F S_ .f32 := constant S_ .f32 0x7F7F0000#32
  let main_v2 : FVec F S2x12x10x2560 .f32 := broadcastInDim S2x12x10x2560 ![] bcast_S_S2x12x10x2560 main_cst
  let main_v3 : IVec S2x12x10x2560 1 := cmpf .ole main_v1 main_v2
  let main_c : IVec S_ 1 := constantI S_ 1 1#1
  let main_v4 : IVec S_ 1 := (fun x v => Host.reduce IntOp.andi x v reducesTo_S2x12x10x2560_S_d0_1_2_3 h_S_) main_v3 main_c
  main_v4
-- ==== Kernel.lean ====
abbrev S2x12x10x2560 : Shape := ⟨4, ![2, 12, 10, 2560]⟩
abbrev S3x3x2560x1280 : Shape := ⟨4, ![3, 3, 2560, 1280]⟩
abbrev S1280 : Shape := ⟨1, ![1280]⟩
abbrev S3x3x2560x32 : Shape := ⟨4, ![3, 3, 2560, 32]⟩
abbrev S32x1280 : Shape := ⟨2, ![32, 1280]⟩
abbrev S12x10x2x2560 : Shape := ⟨4, ![12, 10, 2, 2560]⟩
abbrev S120x2x20x128 : Shape := ⟨4, ![120, 2, 20, 128]⟩
abbrev S120x20x2x128 : Shape := ⟨4, ![120, 20, 2, 128]⟩
abbrev S9x2560x1280 : Shape := ⟨3, ![9, 2560, 1280]⟩
abbrev S3x3x32x2560 : Shape := ⟨4, ![3, 3, 32, 2560]⟩
abbrev S288x2560 : Shape := ⟨2, ![288, 2560]⟩
abbrev S120x10x2x128 : Shape := ⟨4, ![120, 10, 2, 128]⟩
abbrev S120x2x32 : Shape := ⟨3, ![120, 2, 32]⟩
abbrev S2x10x12x2560 : Shape := ⟨4, ![2, 10, 12, 2560]⟩
abbrev S2 : Shape := ⟨1, ![2]⟩
abbrev S64x2x20x2x128 : Shape := ⟨5, ![64, 2, 20, 2, 128]⟩
abbrev S3x20x384x128 : Shape := ⟨4, ![3, 20, 384, 128]⟩
abbrev S256x1280 : Shape := ⟨2, ![256, 1280]⟩
abbrev S336x384 : Shape := ⟨2, ![336, 384]⟩
abbrev S60x2x10x2x128 : Shape := ⟨5, ![60, 2, 10, 2, 128]⟩
abbrev S60x2x2x32 : Shape := ⟨4, ![60, 2, 2, 32]⟩
abbrev S9 : Shape := ⟨1, ![9]⟩
abbrev S10 : Shape := ⟨1, ![10]⟩
abbrev S1 : Shape := ⟨1, ![1]⟩
abbrev S_ : Shape := ⟨0, ![]⟩
abbrev S60x1x20x2x128 : Shape := ⟨5, ![60, 1, 20, 2, 128]⟩
abbrev S60x20x2x128 : Shape := ⟨4, ![60, 20, 2, 128]⟩
abbrev S1x2560x1280 : Shape := ⟨3, ![1, 2560, 1280]⟩
abbrev S2560x1280 : Shape := ⟨2, ![2560, 1280]⟩
abbrev S4x2x20x2x128 : Shape := ⟨5, ![4, 2, 20, 2, 128]⟩
abbrev S64x2x20x1x128 : Shape := ⟨5, ![64, 2, 20, 1, 128]⟩
abbrev S2560x128 : Shape := ⟨2, ![2560, 128]⟩
abbrev S2400x128 : Shape := ⟨2, ![2400, 128]⟩
abbrev S60x2x20x2x128 : Shape := ⟨5, ![60, 2, 20, 2, 128]⟩
abbrev S60x2x20x1x128 : Shape := ⟨5, ![60, 2, 20, 1, 128]⟩
abbrev S300x8x128 : Shape := ⟨3, ![300, 8, 128]⟩
abbrev S8x128 : Shape := ⟨2, ![8, 128]⟩
abbrev S1x8x128 : Shape := ⟨3, ![1, 8, 128]⟩
abbrev S1x1x1 : Shape := ⟨3, ![1, 1, 1]⟩
abbrev S1x1 : Shape := ⟨2, ![1, 1]⟩
abbrev S1x256 : Shape := ⟨2, ![1, 256]⟩
abbrev S16x128 : Shape := ⟨2, ![16, 128]⟩
abbrev S1x128 : Shape := ⟨2, ![1, 128]⟩
abbrev S1x2 : Shape := ⟨2, ![1, 2]⟩
abbrev S384x128 : Shape := ⟨2, ![384, 128]⟩
abbrev S128x128 : Shape := ⟨2, ![128, 128]⟩
abbrev S64x2x1x2x128 : Shape := ⟨5, ![64, 2, 1, 2, 128]⟩
abbrev S64x2x1x1x128 : Shape := ⟨5, ![64, 2, 1, 1, 128]⟩
abbrev S256x128 : Shape := ⟨2, ![256, 128]⟩
abbrev S64x128 : Shape := ⟨2, ![64, 128]⟩
abbrev S1x1x384x128 : Shape := ⟨4, ![1, 1, 384, 128]⟩
abbrev S1x1x64x128 : Shape := ⟨4, ![1, 1, 64, 128]⟩
abbrev S1x1x256x128 : Shape := ⟨4, ![1, 1, 256, 128]⟩
abbrev S40x128 : Shape := ⟨2, ![40, 128]⟩
abbrev S10x4x128 : Shape := ⟨3, ![10, 4, 128]⟩
abbrev S20x128 : Shape := ⟨2, ![20, 128]⟩
abbrev S10x2x128 : Shape := ⟨3, ![10, 2, 128]⟩
abbrev S1x1x40x128 : Shape := ⟨4, ![1, 1, 40, 128]⟩
abbrev S32x128 : Shape := ⟨2, ![32, 128]⟩
abbrev S1x1x32x128 : Shape := ⟨4, ![1, 1, 32, 128]⟩
abbrev S380x128 : Shape := ⟨2, ![380, 128]⟩
abbrev S1x1x380x128 : Shape := ⟨4, ![1, 1, 380, 128]⟩
abbrev S10x1x128 : Shape := ⟨3, ![10, 1, 128]⟩
abbrev S1x10x4x128 : Shape := ⟨4, ![1, 10, 4, 128]⟩
abbrev S120x128 : Shape := ⟨2, ![120, 128]⟩
abbrev S60x2x1x2x128 : Shape := ⟨5, ![60, 2, 1, 2, 128]⟩
abbrev S60x2x1x1x128 : Shape := ⟨5, ![60, 2, 1, 1, 128]⟩
abbrev S240x128 : Shape := ⟨2, ![240, 128]⟩
abbrev S240x2560 : Shape := ⟨2, ![240, 2560]⟩
abbrev S240x288 : Shape := ⟨2, ![240, 288]⟩
abbrev S240x96 : Shape := ⟨2, ![240, 96]⟩
abbrev S240x384 : Shape := ⟨2, ![240, 384]⟩
abbrev S40x384 : Shape := ⟨2, ![40, 384]⟩
abbrev S48x384 : Shape := ⟨2, ![48, 384]⟩
abbrev S120x32 : Shape := ⟨2, ![120, 32]⟩
abbrev S60x2x1x32 : Shape := ⟨4, ![60, 2, 1, 32]⟩
abbrev S60x2x32 : Shape := ⟨3, ![60, 2, 32]⟩
abbrev S60x1x2x32 : Shape := ⟨4, ![60, 1, 2, 32]⟩
abbrev S240x32 : Shape := ⟨2, ![240, 32]⟩
abbrev S240x1280 : Shape := ⟨2, ![240, 1280]⟩
abbrev S256x2560 : Shape := ⟨2, ![256, 2560]⟩
abbrev S1x1280 : Shape := ⟨2, ![1, 1280]⟩
abbrev S60x2x10x1x128 : Shape := ⟨5, ![60, 2, 10, 1, 128]⟩
abbrev S1200x128 : Shape := ⟨2, ![1200, 128]⟩
abbrev S60x10x2x128 : Shape := ⟨4, ![60, 10, 2, 128]⟩
abbrev S60x1x10x2x128 : Shape := ⟨5, ![60, 1, 10, 2, 128]⟩
abbrev S120x2x10x128 : Shape := ⟨4, ![120, 2, 10, 128]⟩
abbrev S12x10x2x1280 : Shape := ⟨4, ![12, 10, 2, 1280]⟩
abbrev S2x12x10x1280 : Shape := ⟨4, ![2, 12, 10, 1280]⟩
abbrev S12x10x2x32 : Shape := ⟨4, ![12, 10, 2, 32]⟩
abbrev S2x12x10x32 : Shape := ⟨4, ![2, 12, 10, 32]⟩

abbrev nBuf : Space → Nat
  | .hbm => 22
  | .vmem => 13
  | .smem => 0
  | _ => 0

abbrev bufTy : (tb : Table) → Fin (tcTables nBuf tb) → BufTy
  | .hbm, ⟨0, _⟩ => ⟨S2x12x10x2560, .bf16⟩
  | .hbm, ⟨1, _⟩ => ⟨S3x3x2560x1280, .fp8e4m3⟩
  | .hbm, ⟨2, _⟩ => ⟨S1280, .f32⟩
  | .hbm, ⟨3, _⟩ => ⟨S1280, .f32⟩
  | .hbm, ⟨4, _⟩ => ⟨S3x3x2560x32, .bf16⟩
  | .hbm, ⟨5, _⟩ => ⟨S32x1280, .bf16⟩
  | .hbm, ⟨6, _⟩ => ⟨S12x10x2x2560, .bf16⟩
  | .hbm, ⟨7, _⟩ => ⟨S120x2x20x128, .bf16⟩
  | .hbm, ⟨8, _⟩ => ⟨S120x20x2x128, .bf16⟩
  | .hbm, ⟨9, _⟩ => ⟨S9x2560x1280, .fp8e4m3⟩
  | .hbm, ⟨10, _⟩ => ⟨S3x3x32x2560, .bf16⟩
  | .hbm, ⟨11, _⟩ => ⟨S288x2560, .bf16⟩
  | .hbm, ⟨12, _⟩ => ⟨S120x10x2x128, .bf16⟩
  | .hbm, ⟨13, _⟩ => ⟨S120x2x32, .bf16⟩
  | .hbm, ⟨14, _⟩ => ⟨S2x10x12x2560, .fp8e4m3⟩
  | .hbm, ⟨15, _⟩ => ⟨S2, .f32⟩
  | .hbm, ⟨16, _⟩ => ⟨S120x2x10x128, .bf16⟩
  | .hbm, ⟨17, _⟩ => ⟨S12x10x2x1280, .bf16⟩
  | .hbm, ⟨18, _⟩ => ⟨S2x12x10x1280, .bf16⟩
  | .hbm, ⟨19, _⟩ => ⟨S12x10x2x32, .bf16⟩
  | .hbm, ⟨20, _⟩ => ⟨S2x12x10x32, .bf16⟩
  | .hbm, ⟨21, _⟩ => ⟨S2x12x10x2560, .fp8e4m3⟩
  | .local _ .vmem, ⟨0, _⟩ => ⟨S64x2x20x2x128, .bf16⟩
  | .local _ .vmem, ⟨1, _⟩ => ⟨S3x20x384x128, .fp8e4m3⟩
  | .local _ .vmem, ⟨2, _⟩ => ⟨S9x2560x1280, .fp8e4m3⟩
  | .local _ .vmem, ⟨3, _⟩ => ⟨S1280, .f32⟩
  | .local _ .vmem, ⟨4, _⟩ => ⟨S1280, .f32⟩
  | .local _ .vmem, ⟨5, _⟩ => ⟨S288x2560, .bf16⟩
  | .local _ .vmem, ⟨6, _⟩ => ⟨S32x1280, .bf16⟩
  | .local _ .vmem, ⟨7, _⟩ => ⟨S256x1280, .f32⟩
  | .local _ .vmem, ⟨8, _⟩ => ⟨S336x384, .f32⟩
  | .local _ .vmem, ⟨9, _⟩ => ⟨S60x2x10x2x128, .bf16⟩
  | .local _ .vmem, ⟨10, _⟩ => ⟨S60x2x2x32, .bf16⟩
  | .local _ .vmem, ⟨11, _⟩ => ⟨S2x10x12x2560, .fp8e4m3⟩
  | .local _ .vmem, ⟨12, _⟩ => ⟨S2, .f32⟩
  | _, _ => ⟨S2x12x10x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [BitOps F]

abbrev grid0 : Pipeline.Grid := .none
-- ==== KernelIdeal.lean ====
abbrev S4800x128 : Shape := ⟨2, ![4800, 128]⟩
variable {F : FTy → Type} [FloatOps F]
-- ==== ReferenceIdeal.lean ====
abbrev S2x12x10x2560 : Shape := ⟨4, ![2, 12, 10, 2560]⟩
abbrev S3x3x2560x1280 : Shape := ⟨4, ![3, 3, 2560, 1280]⟩
abbrev S1280 : Shape := ⟨1, ![1280]⟩
abbrev S3x3x2560x32 : Shape := ⟨4, ![3, 3, 2560, 32]⟩
abbrev S32x1280 : Shape := ⟨2, ![32, 1280]⟩
abbrev S_ : Shape := ⟨0, ![]⟩
abbrev S2 : Shape := ⟨1, ![2]⟩
abbrev S254 : Shape := ⟨1, ![254]⟩
abbrev S1x254 : Shape := ⟨2, ![1, 254]⟩
abbrev S2x1 : Shape := ⟨2, ![2, 1]⟩
abbrev S2x254 : Shape := ⟨2, ![2, 254]⟩
abbrev S2x1x1x1 : Shape := ⟨4, ![2, 1, 1, 1]⟩
abbrev S2x14x12x2560 : Shape := ⟨4, ![2, 14, 12, 2560]⟩
abbrev S2x12x10x1280 : Shape := ⟨4, ![2, 12, 10, 1280]⟩
abbrev S2x12x10x32 : Shape := ⟨4, ![2, 12, 10, 32]⟩
abbrev S240x1280 : Shape := ⟨2, ![240, 1280]⟩
abbrev S240x32 : Shape := ⟨2, ![240, 32]⟩
abbrev S240x2560 : Shape := ⟨2, ![240, 2560]⟩
abbrev S1x1x2560x1280 : Shape := ⟨4, ![1, 1, 2560, 1280]⟩
abbrev S2560x1280 : Shape := ⟨2, ![2560, 1280]⟩
abbrev S1x1x2560x32 : Shape := ⟨4, ![1, 1, 2560, 32]⟩
abbrev S2560x32 : Shape := ⟨2, ![2560, 32]⟩
abbrev S2x120x1280 : Shape := ⟨3, ![2, 120, 1280]⟩
abbrev S2x1x1 : Shape := ⟨3, ![2, 1, 1]⟩
abbrev S1x1x1280 : Shape := ⟨3, ![1, 1, 1280]⟩
abbrev S2x1x1280 : Shape := ⟨3, ![2, 1, 1280]⟩

abbrev nBuf : Space → Nat
  | .hbm => 61
  | .vmem => 12
  | .smem => 0
  | _ => 0

abbrev bufTy : (tb : Table) → Fin (tcTables nBuf tb) → BufTy
  | .hbm, ⟨0, _⟩ => ⟨S2x12x10x2560, .bf16⟩
  | .hbm, ⟨1, _⟩ => ⟨S3x3x2560x1280, .fp8e4m3⟩
  | .hbm, ⟨2, _⟩ => ⟨S1280, .f32⟩
  | .hbm, ⟨3, _⟩ => ⟨S1280, .f32⟩
  | .hbm, ⟨4, _⟩ => ⟨S3x3x2560x32, .bf16⟩
  | .hbm, ⟨5, _⟩ => ⟨S32x1280, .bf16⟩
  | .hbm, ⟨6, _⟩ => ⟨S2x12x10x2560, .f32⟩
  | .hbm, ⟨7, _⟩ => ⟨S2x12x10x2560, .f32⟩
  | .hbm, ⟨8, _⟩ => ⟨S_, .f32⟩
  | .hbm, ⟨9, _⟩ => ⟨S2, .f32⟩
  | .hbm, ⟨10, _⟩ => ⟨S_, .f32⟩
  | .hbm, ⟨11, _⟩ => ⟨S2, .f32⟩
  | .hbm, ⟨12, _⟩ => ⟨S2, .f32⟩
  | .hbm, ⟨13, _⟩ => ⟨S254, .i32⟩
  | .hbm, ⟨14, _⟩ => ⟨S_, .i32⟩
  | .hbm, ⟨15, _⟩ => ⟨S254, .i32⟩
  | .hbm, ⟨16, _⟩ => ⟨S254, .i32⟩
  | .hbm, ⟨17, _⟩ => ⟨S254, .f32⟩
  | .hbm, ⟨18, _⟩ => ⟨S_, .f32⟩
  | .hbm, ⟨19, _⟩ => ⟨S254, .f32⟩
  | .hbm, ⟨20, _⟩ => ⟨S254, .f32⟩
  | .hbm, ⟨21, _⟩ => ⟨S1x254, .f32⟩
  | .hbm, ⟨22, _⟩ => ⟨S2x1, .f32⟩
  | .hbm, ⟨23, _⟩ => ⟨S2x254, .f32⟩
  | .hbm, ⟨24, _⟩ => ⟨S2x254, .f32⟩
  | .hbm, ⟨25, _⟩ => ⟨S2x254, .i1⟩
  | .hbm, ⟨26, _⟩ => ⟨S1x254, .f32⟩
  | .hbm, ⟨27, _⟩ => ⟨S_, .f32⟩
  | .hbm, ⟨28, _⟩ => ⟨S_, .f32⟩
  | .hbm, ⟨29, _⟩ => ⟨S2x254, .f32⟩
  | .hbm, ⟨30, _⟩ => ⟨S2x254, .f32⟩
  | .hbm, ⟨31, _⟩ => ⟨S2x254, .f32⟩
  | .hbm, ⟨32, _⟩ => ⟨S_, .f32⟩
  | .hbm, ⟨33, _⟩ => ⟨S2, .f32⟩
  | .hbm, ⟨34, _⟩ => ⟨S_, .f32⟩
  | .hbm, ⟨35, _⟩ => ⟨S2, .f32⟩
  | .hbm, ⟨36, _⟩ => ⟨S2, .i1⟩
  | .hbm, ⟨37, _⟩ => ⟨S_, .f32⟩
  | .hbm, ⟨38, _⟩ => ⟨S_, .f32⟩
  | .hbm, ⟨39, _⟩ => ⟨S2, .f32⟩
  | .hbm, ⟨40, _⟩ => ⟨S2, .f32⟩
  | .hbm, ⟨41, _⟩ => ⟨S2x1x1x1, .f32⟩
  | .hbm, ⟨42, _⟩ => ⟨S2x12x10x2560, .f32⟩
  | .hbm, ⟨43, _⟩ => ⟨S2x12x10x2560, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2x12x10x2560, .f32⟩
  | .hbm, ⟨48, _⟩ => ⟨S2x12x10x2560, .f32⟩
  | .hbm, ⟨49, _⟩ => ⟨S_, .f32⟩
  | .hbm, ⟨50, _⟩ => ⟨S2x12x10x2560, .f32⟩
  | .hbm, ⟨51, _⟩ => ⟨S2x12x10x2560, .f32⟩
  | .hbm, ⟨52, _⟩ => ⟨S_, .i32⟩
  | .hbm, ⟨53, _⟩ => ⟨S_, .f32⟩
  | .hbm, ⟨54, _⟩ => ⟨S2x14x12x2560, .f32⟩
  | .hbm, ⟨55, _⟩ => ⟨S_, .i32⟩
  | .hbm, ⟨56, _⟩ => ⟨S_, .bf16⟩
  | .hbm, ⟨57, _⟩ => ⟨S2x14x12x2560, .bf16⟩
  | .hbm, ⟨58, _⟩ => ⟨S2x12x10x1280, .bf16⟩
  | .hbm, ⟨59, _⟩ => ⟨S2x12x10x32, .bf16⟩
  | .hbm, ⟨60, _⟩ => ⟨S2x12x10x2560, .fp8e4m3⟩
  | .local _ .vmem, ⟨0, _⟩ => ⟨S2x12x10x2560, .f32⟩
  | .local _ .vmem, ⟨1, _⟩ => ⟨S2x14x12x2560, .f32⟩
  | .local _ .vmem, ⟨2, _⟩ => ⟨S2, .f32⟩
  | .local _ .vmem, ⟨3, _⟩ => ⟨S2x14x12x2560, .bf16⟩
  | .local _ .vmem, ⟨4, _⟩ => ⟨S3x3x2560x1280, .fp8e4m3⟩
  | .local _ .vmem, ⟨5, _⟩ => ⟨S1280, .f32⟩
  | .local _ .vmem, ⟨6, _⟩ => ⟨S1280, .f32⟩
  | .local _ .vmem, ⟨7, _⟩ => ⟨S3x3x2560x32, .bf16⟩
  | .local _ .vmem, ⟨8, _⟩ => ⟨S32x1280, .bf16⟩
  | .local _ .vmem, ⟨9, _⟩ => ⟨S2x12x10x1280, .bf16⟩
  | .local _ .vmem, ⟨10, _⟩ => ⟨S2x12x10x32, .bf16⟩
  | .local _ .vmem, ⟨11, _⟩ => ⟨S2x12x10x2560, .fp8e4m3⟩
  | _, _ => ⟨S2x12x10x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_cst_7 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v25 : Ref sig .tc := ⟨.hbm, 51, rfl⟩
abbrev main_c_8 : Ref sig .tc := ⟨.hbm, 52, rfl⟩
abbrev main_call3_v0 : Ref sig .tc := ⟨.hbm, 53, rfl⟩
abbrev main_v26 : Ref sig .tc := ⟨.hbm, 54, rfl⟩
abbrev main_c_9 : Ref sig .tc := ⟨.hbm, 55, rfl⟩
abbrev main_call4_v0 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v28_2 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x12x10x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x14x12x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x14x12x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3x2560x1280 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x3x2560x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x12x10x1280 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x12x10x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12x10x2560 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.lean ====
/-
  The body of the kernel, run once: from the six operands, the four results and the thirteen scratch buffers held whole
  and the nineteen counters at zero, it runs to its return with the operands as they were and the results at the contents
  the run finds.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Tactic
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

/-- The proof's user algebra: the pipeline library's beside the transfers' counters. -/
local notation "𝕄" => MT nD τ sig Unit (Elt F) ℕ (Pipeline.UD sig nD τ) ℕ

abbrev M0 : Memref sig .tc .hbm S120x20x2x128 .bf16 := Memref.whole main_v2
abbrev M1 : Memref sig .tc .hbm S9x2560x1280 .fp8e4m3 := Memref.whole main_v3
abbrev M2 : Memref sig .tc .hbm S1280 .f32 := Memref.whole main_arg2
abbrev M3 : Memref sig .tc .hbm S1280 .f32 := Memref.whole main_arg3
abbrev M4 : Memref sig .tc .hbm S288x2560 .bf16 := Memref.whole main_v5
abbrev M5 : Memref sig .tc .hbm S32x1280 .bf16 := Memref.whole main_arg5
abbrev M6 : Memref sig .tc .hbm S120x10x2x128 .bf16 := Memref.whole main_v6_0
abbrev M7 : Memref sig .tc .hbm S120x2x32 .bf16 := Memref.whole main_v6_1
abbrev M8 : Memref sig .tc .hbm S2x10x12x2560 .fp8e4m3 := Memref.whole main_v6_2
abbrev M9 : Memref sig .tc .hbm S2 .f32 := Memref.whole main_v6_3
abbrev M10 : Memref sig .tc .vmem S64x2x20x2x128 .bf16 := Memref.whole cc0_scratch0
abbrev M11 : Memref sig .tc .vmem S3x20x384x128 .fp8e4m3 := Memref.whole cc0_scratch1
abbrev M12 : Memref sig .tc .vmem S9x2560x1280 .fp8e4m3 := Memref.whole cc0_scratch2
abbrev M13 : Memref sig .tc .vmem S1280 .f32 := Memref.whole cc0_scratch3
abbrev M14 : Memref sig .tc .vmem S1280 .f32 := Memref.whole cc0_scratch4
abbrev M15 : Memref sig .tc .vmem S288x2560 .bf16 := Memref.whole cc0_scratch5
abbrev M16 : Memref sig .tc .vmem S32x1280 .bf16 := Memref.whole cc0_scratch6
abbrev M17 : Memref sig .tc .vmem S256x1280 .f32 := Memref.whole cc0_scratch7
abbrev M18 : Memref sig .tc .vmem S336x384 .f32 := Memref.whole cc0_scratch8
abbrev M19 : Memref sig .tc .vmem S60x2x10x2x128 .bf16 := Memref.whole cc0_scratch9
abbrev M20 : Memref sig .tc .vmem S60x2x2x32 .bf16 := Memref.whole cc0_scratch10
abbrev M21 : Memref sig .tc .vmem S2x10x12x2560 .fp8e4m3 := Memref.whole cc0_scratch11
abbrev M22 : Memref sig .tc .vmem S2 .f32 := Memref.whole cc0_scratch12
abbrev MBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : MBuf (F := F) c M) : sProp 𝕄 :=
  M.view.loc (c : Thread nD τ) ↦{fullShare} f

set_option sl_exec.dmaWindow true in
/-- The run of the body, with the contents it leaves in the four results. -/
noncomputable def bodyRun (c : Dev nD) (f0 : MBuf (F := F) c M0) (f1 : MBuf (F := F) c M1) (f2 : MBuf (F := F) c M2) (f3 : MBuf (F := F) c M3) (f4 : MBuf (F := F) c M4) (f5 : MBuf (F := F) c M5) (f6 : MBuf (F := F) c M6) (f7 : MBuf (F := F) c M7) (f8 : MBuf (F := F) c M8) (f9 : MBuf (F := F) c M9) (f10 : MBuf (F := F) c M10) (f11 : MBuf (F := F) c M11) (f12 : MBuf (F := F) c M12) (f13 : MBuf (F := F) c M13) (f14 : MBuf (F := F) c M14) (f15 : MBuf (F := F) c M15) (f16 : MBuf (F := F) c M16) (f17 : MBuf (F := F) c M17) (f18 : MBuf (F := F) c M18) (f19 : MBuf (F := F) c M19) (f20 : MBuf (F := F) c M20) (f21 : MBuf (F := F) c M21) (f22 : MBuf (F := F) c M22) :
    { L : MBuf (F := F) c M6 × MBuf (F := F) c M7 × MBuf (F := F) c M8 × MBuf (F := F) c M9 //
      ∀ (W : Waits sig Unit) (K : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0
            ∗ owes (c : Thread nD τ) 0 W
            ∗ (iprop(pt c M0 f0 ∗ pt c M1 f1 ∗ pt c M2 f2 ∗ pt c M3 f3 ∗ pt c M4 f4 ∗ pt c M5 f5
                ∗ pt c M6 L.1 ∗ pt c M7 L.2.1 ∗ pt c M8 L.2.2.1 ∗ pt c M9 L.2.2.2
                ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f)
                ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0
                ∗ (∃ W', owes (c : Thread nD τ) 0 W')) -∗ K ⟨⟩))
          ⊢ wp frame (wpE (defs₀ (F := F)) Variants.none c none) Set.univ
              (cc0__body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) cc0_scratch13 cc0_scratch14) K } := by
  refine ⟨⟨?_, ?_, ?_, ?_⟩, fun W K => ?run⟩
  case run =>
    iintro ⟨H0, H1, H2, H3, H4, H5, H6, H7, H8, H9, H10, H11, H12, H13, H14, H15, H16, H17, H18, H19, H20, H21, H22, Hq0, Hq1, Hq2, Hq3, Hq4, Hq5, Hq6, Hq7, Hq8, Hq9, Hq10, Hq11, Hq12, Hq13, Hq14, Hq15, Hq16, Hq17, Hq18, HW, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    iexists _; iexact HW

end Cert.Kernel.Hand

end
-- ==== Proof.KernelFrame.lean ====
/-
  The frame: the program terminates, its six argument arrays end unchanged, every semaphore counter ends at zero. The
  kernel reads its operands and writes its four results by its own transfers (`Pipeline.θ_run_frame_dmaR_around`).
-/
module

public import proofs.«01_k».proof.Proof.KernelRun
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The operands the body reads, the results it writes, the arrays the host lines after it write. -/
def H0 : Finset (Ref sig .tc) := {main_v2, main_v3, main_arg2, main_arg3, main_v5, main_arg5}
def R0 : Finset (Ref sig .tc) := {main_v6_0, main_v6_1, main_v6_2, main_v6_3}
def T0 : Finset (Ref sig .tc) := {main_v7, main_v8, main_v9, main_v10, main_v11, main_v12}
theorem H0_sub : H0 ⊆ Pipeline.restRefs sig cfg0.spec := by decide
theorem R0_sub : R0 ⊆ Pipeline.restRefs sig cfg0.spec \ H0 := by decide

/-- The body's nineteen counters. -/
abbrev osem0 : Fin 19 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15, 16, 17, 18] (by decide) (by decide)]; rfl
theorem readPts_eq (c : Dev nD) (V : (b : Ref sig .tc) → Buf (Elt F) ((c : Thread nD τ).loc b)) :
    (bigSep H0 (fun b => ((c : Thread nD τ).loc b) ↦{fullShare} V b) : sProp 𝕄)
      = iprop(pt c M0 (V main_v2) ∗ pt c M1 (V main_v3) ∗ pt c M2 (V main_arg2) ∗ pt c M3 (V main_arg3) ∗ pt c M4 (V main_v5) ∗ pt c M5 (V main_arg5)) := by
  rw [BI.bigSep_eq_bigSepL_of_eq [main_v2, main_v3, main_arg2, main_arg3, main_v5, main_arg5] (by decide) (by decide)]; rfl
theorem writtenPts_eq (c : Dev nD) (V : (b : Ref sig .tc) → Buf (Elt F) ((c : Thread nD τ).loc b)) :
    (bigSep R0 (fun b => ((c : Thread nD τ).loc b) ↦{fullShare} V b) : sProp 𝕄)
      = iprop(pt c M6 (V main_v6_0) ∗ pt c M7 (V main_v6_1) ∗ pt c M8 (V main_v6_2) ∗ pt c M9 (V main_v6_3)) := by
  rw [BI.bigSep_eq_bigSepL_of_eq [main_v6_0, main_v6_1, main_v6_2, main_v6_3] (by decide) (by decide)]; rfl
theorem ownedPts_eq (c : Dev nD) :
    (Pipeline.owned R0 c : sProp 𝕄) = iprop((∃ f, pt c M6 f) ∗ (∃ f, pt c M7 f) ∗ (∃ f, pt c M8 f) ∗ (∃ f, pt c M9 f)) := by
  unfold Pipeline.owned; rw [BI.bigSep_eq_bigSepL_of_eq [main_v6_0, main_v6_1, main_v6_2, main_v6_3] (by decide) (by decide)]; rfl

abbrev Vc (c : Dev nD) (b : Ref sig .tc) : Buf (Elt F) ((c : Thread nD τ).loc b) := V0 m c (Proc.devRef .tc b)

theorem PhiDR_eq (c : Dev nD) :
    (Pipeline.ΦDR osem0 cfg0.spec H0 R0 (Vc m) c : sProp 𝕄)
      = iprop(iprop((∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop(pt c M0 (Vc m c main_v2) ∗ pt c M1 (Vc m c main_v3) ∗ pt c M2 (Vc m c main_arg2) ∗ pt c M3 (Vc m c main_arg3) ∗ pt c M4 (Vc m c main_v5) ∗ pt c M5 (Vc m c main_arg5))
          ∗ iprop((∃ f, pt c M6 f) ∗ (∃ f, pt c M7 f) ∗ (∃ f, pt c M8 f) ∗ (∃ f, pt c M9 f))) := by
  rw [Pipeline.ΦDR_eq, scopedRest0_eq, ownSems00_eq, readPts_eq, ownedPts_eq]

/-- The proof data of the one region: the body's operands as the region finds them, its results at some contents. -/
def dats (_ : Fin 1) (c : Dev nD) : Dat τ (Elt F) Unit ℕ (Pipeline.UD sig nD τ) ℕ cfg0 c where
  A w := Fin.elim0 w
  after w t := Fin.elim0 w
  Φ _ := Pipeline.ΦDR osem0 cfg0.spec H0 R0 (Vc m) c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem bigSep_none {P : Fin 0 → sProp 𝕄} : bigSep Finset.univ P = iprop(emp) := by
  rw [Finset.univ_eq_empty, BI.bigSep_empty]; rfl

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost
  rw [show (dats m 0 c).Φ t.castSucc = Pipeline.ΦDR osem0 cfg0.spec H0 R0 (Vc m) c from rfl,
    show (dats m 0 c).Φ t.succ = Pipeline.ΦDR osem0 cfg0.spec H0 R0 (Vc m) c from rfl, PhiDR_eq]
  unfold Dat.owesAt
  rw [show (dats m 0 c).owed t.castSucc = 0 from rfl, show (dats m 0 c).owed t.succ = 0 from rfl]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, Hg, ⟨Hq0, Hq1, Hq2, Hq3, Hq4, Hq5, Hq6, Hq7, Hq8, Hq9, Hq10, Hq11, Hq12, Hq13, Hq14, Hq15, Hq16, Hq17, Hq18⟩, ⟨H0, H1, H2, H3, H4, H5⟩, ⟨⟨%f6, H6⟩, ⟨%f7, H7⟩, ⟨%f8, H8⟩, ⟨%f9, H9⟩⟩⟩, ⟨%W, -, HW⟩, He⟩
  iapply ((bodyRun c (Vc m c main_v2) (Vc m c main_v3) (Vc m c main_arg2) (Vc m c main_arg3) (Vc m c main_v5) (Vc m c main_arg5) f6 f7 f8 f9 f10 f11 f12 f13 f14 f15 f16 f17 f18 f19 f20 f21 f22).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨H0, H1, H2, H3, H4, H5, H6, H7, H8, H9, H10, H11, H12, H13, H14, H15, H16, H17, H18, H19, H20, H21, H22, Hq0, Hq1, Hq2, Hq3, Hq4, Hq5, Hq6, Hq7, Hq8, Hq9, Hq10, Hq11, Hq12, Hq13, Hq14, Hq15, Hq16, Hq17, Hq18, ⟨%W', HW⟩⟩
  isplitl [H0 H1 H2 H3 H4 H5 H6 H7 H8 H9 H10 H11 H12 H13 H14 H15 H16 H17 H18 H19 H20 H21 H22 Hq0 Hq1 Hq2 Hq3 Hq4 Hq5 Hq6 Hq7 Hq8 Hq9 Hq10 Hq11 Hq12 Hq13 Hq14 Hq15 Hq16 Hq17 Hq18 Hg]
  · isplitl [H10 H11 H12 H13 H14 H15 H16 H17 H18 H19 H20 H21 H22]
    · isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    isplitl [Hg]; · iexact Hg
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    iexists _; iexact H9
  isplitl [HW]
  · iexists W'; isplitr; · ipureintro; exact fun _ _ => Or.inl trivial
    iexact HW
  iexact He

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

theorem A_eq (c : Dev nD) (w : Fin cfg0.W) : (dats m 0 c).A w = V0 m c (Proc.devRef .tc (Pipeline.arrRef cfg0.spec w)) := Fin.elim0 w

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (Vc m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem run_main : θ_run defs (onTc (τ := τ) (main (F := F))) (s₀ m ρ) (fun r => Pipeline.FramePostR cfgs (dats m) 0 (R0 ∪ T0) (Vc m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      simp only [List.mem_singleton, forall_eq]
      intro op hop b hb
      simp only [hostOps1, List.mem_cons, List.not_mem_nil, or_false] at hop
      rcases hop with rfl | rfl | rfl | rfl | rfl | rfl <;>
        (simp only [StableHlo.unary_writes, StableHlo.reshape_writes, Finset.mem_singleton] at hb
         have hb' := Proc.devRef_injective _ hb
         subst hb'; decide))
    (hmain := hmainD m Variants.none) (hA := A_eq m)
    (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Hand

end
-- ==== Proof.KernelIdealRun.lean ====
/-
  The body of the kernel, run once: from the six operands, the four results and the thirteen scratch buffers held whole
  and the nineteen counters at zero, it runs to its return with the operands as they were and the results at the contents
  the run finds.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev M0 : Memref sig .tc .hbm S120x20x2x128 .bf16 := Memref.whole main_v2
abbrev M1 : Memref sig .tc .hbm S9x2560x1280 .fp8e4m3 := Memref.whole main_v3
abbrev M2 : Memref sig .tc .hbm S1280 .f32 := Memref.whole main_arg2
abbrev M3 : Memref sig .tc .hbm S1280 .f32 := Memref.whole main_arg3
abbrev M4 : Memref sig .tc .hbm S288x2560 .bf16 := Memref.whole main_v5
abbrev M5 : Memref sig .tc .hbm S32x1280 .bf16 := Memref.whole main_arg5
abbrev M6 : Memref sig .tc .hbm S120x10x2x128 .bf16 := Memref.whole main_v6_0
abbrev M7 : Memref sig .tc .hbm S120x2x32 .bf16 := Memref.whole main_v6_1
abbrev M8 : Memref sig .tc .hbm S2x10x12x2560 .fp8e4m3 := Memref.whole main_v6_2
abbrev M9 : Memref sig .tc .hbm S2 .f32 := Memref.whole main_v6_3
abbrev M10 : Memref sig .tc .vmem S64x2x20x2x128 .bf16 := Memref.whole cc0_scratch0
abbrev M11 : Memref sig .tc .vmem S3x20x384x128 .fp8e4m3 := Memref.whole cc0_scratch1
abbrev M12 : Memref sig .tc .vmem S9x2560x1280 .fp8e4m3 := Memref.whole cc0_scratch2
abbrev M13 : Memref sig .tc .vmem S1280 .f32 := Memref.whole cc0_scratch3
abbrev M14 : Memref sig .tc .vmem S1280 .f32 := Memref.whole cc0_scratch4
abbrev M15 : Memref sig .tc .vmem S288x2560 .bf16 := Memref.whole cc0_scratch5
abbrev M16 : Memref sig .tc .vmem S32x1280 .bf16 := Memref.whole cc0_scratch6
abbrev M17 : Memref sig .tc .vmem S256x1280 .f32 := Memref.whole cc0_scratch7
abbrev M18 : Memref sig .tc .vmem S336x384 .f32 := Memref.whole cc0_scratch8
abbrev M19 : Memref sig .tc .vmem S60x2x10x2x128 .bf16 := Memref.whole cc0_scratch9
abbrev M20 : Memref sig .tc .vmem S60x2x2x32 .bf16 := Memref.whole cc0_scratch10
abbrev M21 : Memref sig .tc .vmem S2x10x12x2560 .fp8e4m3 := Memref.whole cc0_scratch11
abbrev M22 : Memref sig .tc .vmem S2 .f32 := Memref.whole cc0_scratch12
abbrev MBuf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : MBuf (F := F) c M) : sProp 𝕄 :=
  M.view.loc (c : Thread nD τ) ↦{fullShare} f

set_option sl_exec.dmaWindow true in
/-- The run of the body, with the contents it leaves in the four results. -/
noncomputable def bodyRun (c : Dev nD) (f0 : MBuf (F := F) c M0) (f1 : MBuf (F := F) c M1) (f2 : MBuf (F := F) c M2) (f3 : MBuf (F := F) c M3) (f4 : MBuf (F := F) c M4) (f5 : MBuf (F := F) c M5) (f6 : MBuf (F := F) c M6) (f7 : MBuf (F := F) c M7) (f8 : MBuf (F := F) c M8) (f9 : MBuf (F := F) c M9) (f10 : MBuf (F := F) c M10) (f11 : MBuf (F := F) c M11) (f12 : MBuf (F := F) c M12) (f13 : MBuf (F := F) c M13) (f14 : MBuf (F := F) c M14) (f15 : MBuf (F := F) c M15) (f16 : MBuf (F := F) c M16) (f17 : MBuf (F := F) c M17) (f18 : MBuf (F := F) c M18) (f19 : MBuf (F := F) c M19) (f20 : MBuf (F := F) c M20) (f21 : MBuf (F := F) c M21) (f22 : MBuf (F := F) c M22) :
    { L : MBuf (F := F) c M6 × MBuf (F := F) c M7 × MBuf (F := F) c M8 × MBuf (F := F) c M9 //
      ∀ (W : Waits sig Unit) (K : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22
            ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0
            ∗ owes (c : Thread nD τ) 0 W
            ∗ (iprop(pt c M0 f0 ∗ pt c M1 f1 ∗ pt c M2 f2 ∗ pt c M3 f3 ∗ pt c M4 f4 ∗ pt c M5 f5
                ∗ pt c M6 L.1 ∗ pt c M7 L.2.1 ∗ pt c M8 L.2.2.1 ∗ pt c M9 L.2.2.2
                ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f)
                ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0
                ∗ (∃ W', owes (c : Thread nD τ) 0 W')) -∗ K ⟨⟩))
          ⊢ wp frame (wpE (defs₀ (F := F)) Variants.none c none) Set.univ
              (cc0__body M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) M12 (Memref.isWhole_whole _) M13 (Memref.isWhole_whole _) M14 (Memref.isWhole_whole _) M15 (Memref.isWhole_whole _) M16 (Memref.isWhole_whole _) M17 (Memref.isWhole_whole _) M18 (Memref.isWhole_whole _) M19 (Memref.isWhole_whole _) M20 (Memref.isWhole_whole _) M21 (Memref.isWhole_whole _) M22 (Memref.isWhole_whole _) cc0_scratch13 cc0_scratch14) K } := by
  refine ⟨⟨?_, ?_, ?_, ?_⟩, fun W K => ?run⟩
  case run =>
    iintro ⟨H0, H1, H2, H3, H4, H5, H6, H7, H8, H9, H10, H11, H12, H13, H14, H15, H16, H17, H18, H19, H20, H21, H22, Hq0, Hq1, Hq2, Hq3, Hq4, Hq5, Hq6, Hq7, Hq8, Hq9, Hq10, Hq11, Hq12, Hq13, Hq14, Hq15, Hq16, Hq17, Hq18, HW, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    iexists _; iexact HW

end Cert.KernelIdeal.Hand

end
-- ==== Proof.KernelIdealFrame.lean ====
/-
  The frame: the program terminates, its six argument arrays end unchanged, every semaphore counter ends at zero. The
  kernel reads its operands and writes its four results by its own transfers (`Pipeline.θ_run_frame_dmaR_around`).
-/
module

public import proofs.«01_k».proof.Proof.KernelIdealRun
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands the body reads, the results it writes, the arrays the host lines after it write. -/
def H0 : Finset (Ref sig .tc) := {main_v2, main_v3, main_arg2, main_arg3, main_v5, main_arg5}
def R0 : Finset (Ref sig .tc) := {main_v6_0, main_v6_1, main_v6_2, main_v6_3}
def T0 : Finset (Ref sig .tc) := {main_v7, main_v8, main_v9, main_v10, main_v11, main_v12}
theorem H0_sub : H0 ⊆ Pipeline.restRefs sig cfg0.spec := by decide
theorem R0_sub : R0 ⊆ Pipeline.restRefs sig cfg0.spec \ H0 := by decide

/-- The body's nineteen counters. -/
abbrev osem0 : Fin 19 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15, 16, 17, 18] (by decide) (by decide)]; rfl
theorem readPts_eq (c : Dev nD) (V : (b : Ref sig .tc) → Buf (Elt F) ((c : Thread nD τ).loc b)) :
    (bigSep H0 (fun b => ((c : Thread nD τ).loc b) ↦{fullShare} V b) : sProp 𝕄)
      = iprop(pt c M0 (V main_v2) ∗ pt c M1 (V main_v3) ∗ pt c M2 (V main_arg2) ∗ pt c M3 (V main_arg3) ∗ pt c M4 (V main_v5) ∗ pt c M5 (V main_arg5)) := by
  rw [BI.bigSep_eq_bigSepL_of_eq [main_v2, main_v3, main_arg2, main_arg3, main_v5, main_arg5] (by decide) (by decide)]; rfl
theorem writtenPts_eq (c : Dev nD) (V : (b : Ref sig .tc) → Buf (Elt F) ((c : Thread nD τ).loc b)) :
    (bigSep R0 (fun b => ((c : Thread nD τ).loc b) ↦{fullShare} V b) : sProp 𝕄)
      = iprop(pt c M6 (V main_v6_0) ∗ pt c M7 (V main_v6_1) ∗ pt c M8 (V main_v6_2) ∗ pt c M9 (V main_v6_3)) := by
  rw [BI.bigSep_eq_bigSepL_of_eq [main_v6_0, main_v6_1, main_v6_2, main_v6_3] (by decide) (by decide)]; rfl
theorem ownedPts_eq (c : Dev nD) :
    (Pipeline.owned R0 c : sProp 𝕄) = iprop((∃ f, pt c M6 f) ∗ (∃ f, pt c M7 f) ∗ (∃ f, pt c M8 f) ∗ (∃ f, pt c M9 f)) := by
  unfold Pipeline.owned; rw [BI.bigSep_eq_bigSepL_of_eq [main_v6_0, main_v6_1, main_v6_2, main_v6_3] (by decide) (by decide)]; rfl

abbrev Vc (c : Dev nD) (b : Ref sig .tc) : Buf (Elt F) ((c : Thread nD τ).loc b) := V0 m c (Proc.devRef .tc b)

theorem PhiDR_eq (c : Dev nD) :
    (Pipeline.ΦDR osem0 cfg0.spec H0 R0 (Vc m) c : sProp 𝕄)
      = iprop(iprop((∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop(pt c M0 (Vc m c main_v2) ∗ pt c M1 (Vc m c main_v3) ∗ pt c M2 (Vc m c main_arg2) ∗ pt c M3 (Vc m c main_arg3) ∗ pt c M4 (Vc m c main_v5) ∗ pt c M5 (Vc m c main_arg5))
          ∗ iprop((∃ f, pt c M6 f) ∗ (∃ f, pt c M7 f) ∗ (∃ f, pt c M8 f) ∗ (∃ f, pt c M9 f))) := by
  rw [Pipeline.ΦDR_eq, scopedRest0_eq, ownSems00_eq, readPts_eq, ownedPts_eq]

/-- The proof data of the one region: the body's operands as the region finds them, its results at some contents. -/
def dats (_ : Fin 1) (c : Dev nD) : Dat τ (Elt F) Unit ℕ (Pipeline.UD sig nD τ) ℕ cfg0 c where
  A w := Fin.elim0 w
  after w t := Fin.elim0 w
  Φ _ := Pipeline.ΦDR osem0 cfg0.spec H0 R0 (Vc m) c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem bigSep_none {P : Fin 0 → sProp 𝕄} : bigSep Finset.univ P = iprop(emp) := by
  rw [Finset.univ_eq_empty, BI.bigSep_empty]; rfl

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost
  rw [show (dats m 0 c).Φ t.castSucc = Pipeline.ΦDR osem0 cfg0.spec H0 R0 (Vc m) c from rfl,
    show (dats m 0 c).Φ t.succ = Pipeline.ΦDR osem0 cfg0.spec H0 R0 (Vc m) c from rfl, PhiDR_eq]
  unfold Dat.owesAt
  rw [show (dats m 0 c).owed t.castSucc = 0 from rfl, show (dats m 0 c).owed t.succ = 0 from rfl]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, Hg, ⟨Hq0, Hq1, Hq2, Hq3, Hq4, Hq5, Hq6, Hq7, Hq8, Hq9, Hq10, Hq11, Hq12, Hq13, Hq14, Hq15, Hq16, Hq17, Hq18⟩, ⟨H0, H1, H2, H3, H4, H5⟩, ⟨⟨%f6, H6⟩, ⟨%f7, H7⟩, ⟨%f8, H8⟩, ⟨%f9, H9⟩⟩⟩, ⟨%W, -, HW⟩, He⟩
  iapply ((bodyRun c (Vc m c main_v2) (Vc m c main_v3) (Vc m c main_arg2) (Vc m c main_arg3) (Vc m c main_v5) (Vc m c main_arg5) f6 f7 f8 f9 f10 f11 f12 f13 f14 f15 f16 f17 f18 f19 f20 f21 f22).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨H0, H1, H2, H3, H4, H5, H6, H7, H8, H9, H10, H11, H12, H13, H14, H15, H16, H17, H18, H19, H20, H21, H22, Hq0, Hq1, Hq2, Hq3, Hq4, Hq5, Hq6, Hq7, Hq8, Hq9, Hq10, Hq11, Hq12, Hq13, Hq14, Hq15, Hq16, Hq17, Hq18, ⟨%W', HW⟩⟩
  isplitl [H0 H1 H2 H3 H4 H5 H6 H7 H8 H9 H10 H11 H12 H13 H14 H15 H16 H17 H18 H19 H20 H21 H22 Hq0 Hq1 Hq2 Hq3 Hq4 Hq5 Hq6 Hq7 Hq8 Hq9 Hq10 Hq11 Hq12 Hq13 Hq14 Hq15 Hq16 Hq17 Hq18 Hg]
  · isplitl [H10 H11 H12 H13 H14 H15 H16 H17 H18 H19 H20 H21 H22]
    · isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    isplitl [Hg]; · iexact Hg
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    iexists _; iexact H9
  isplitl [HW]
  · iexists W'; isplitr; · ipureintro; exact fun _ _ => Or.inl trivial
    iexact HW
  iexact He

theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

theorem A_eq (c : Dev nD) (w : Fin cfg0.W) : (dats m 0 c).A w = V0 m c (Proc.devRef .tc (Pipeline.arrRef cfg0.spec w)) := Fin.elim0 w

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (Vc m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem run_main : θ_run defs (onTc (τ := τ) (main (F := F))) (s₀ m ρ) (fun r => Pipeline.FramePostR cfgs (dats m) 0 (R0 ∪ T0) (Vc m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := by
      simp only [List.mem_singleton, forall_eq]
      intro op hop b hb
      simp only [hostOps1, List.mem_cons, List.not_mem_nil, or_false] at hop
      rcases hop with rfl | rfl | rfl | rfl | rfl | rfl <;>
        (simp only [StableHlo.unary_writes, StableHlo.reshape_writes, Finset.mem_singleton] at hb
         have hb' := Proc.devRef_injective _ hb
         subst hb'; decide))
    (hmain := hmainD m Variants.none) (hA := A_eq m)
    (hin := fun _ => .rfl) (hout := fun _ => .rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.KernelIdeal.Hand

end
-- ==== Proof.Struct.lean ====
/-
  The long straight text of the body, folded: what one lane block of the input does to the padded codes and to the code
  result, written once for a block number, and the twenty blocks of the run recognised as its instances.
-/
module

public import proofs.«01_k».proof.Proof.KernelIdealRun

@[expose] public section

noncomputable section

namespace Cert.KernelIdeal.Hand

open Cert.KernelIdeal Cert.KernelIdeal.Gen
open Idealize.ShloMosaic Idealize.ShloMosaic.TcCoe

variable {F : FTy → Type} [FloatOps F]

/-- A write into the padded codes. -/
abbrev CPiece (F : FTy → Type) : Type := View.Piece (Elt F) S3x20x384x128 .fp8e4m3

/-- A write into the code result. -/
abbrev XPiece (F : FTy → Type) : Type := View.Piece (Elt F) S2x10x12x2560 .fp8e4m3

/-- Rows `r` to `r + n` of lane block `ct` of copy `j` of the padded codes. -/
abbrev cRect (j ct r n : ℕ) (h : ∀ a : Fin 4, (![j, ct, r, 0] : Fin 4 → ℕ) a + (![1, 1, n, 128] : Fin 4 → ℕ) a ≤ S3x20x384x128.size a) :
    Rect S3x20x384x128 :=
  Rect.unit ![j, ct, r, 0] ![1, 1, n, 128] h

theorem cInb {j ct r n : ℕ} (hj : j < 3) (hc : ct < 20) (hr : r + n ≤ 384) :
    ∀ a : Fin 4, (![j, ct, r, 0] : Fin 4 → ℕ) a + (![1, 1, n, 128] : Fin 4 → ℕ) a ≤ S3x20x384x128.size a := by
  intro a
  match a with
  | 0 => exact hj
  | 1 => exact hc
  | 2 => exact hr
  | 3 => exact Nat.le_refl 128

theorem mInb {r n : ℕ} (hr : r + n ≤ 384) :
    ∀ a : Fin 2, (![r, 0] : Fin 2 → ℕ) a + (![n, 128] : Fin 2 → ℕ) a ≤ S384x128.size a := by
  intro a
  match a with
  | 0 => exact hr
  | 1 => exact Nat.le_refl 128

/-- Rows `r` to `r + n` of lane block `ct` of copy `j`, as the body reads them. -/
def ldMid (c : Dev nD) (f11 : MBuf (F := F) c M11) (L : List (CPiece F)) (ct r n : ℕ) (hc : ct < 20) (hr : r + n ≤ 384) :
    Vec F ⟨2, ![n, 128]⟩ .fp8e4m3 :=
  View.readAt (s := S384x128) (Elt F)
    ((M11.slice (Rect.unit ![1, ct, 0, 0] S1x1x384x128.size (cInb (by decide) hc (Nat.le_refl 384))) (fun _ => rfl)).squeeze S384x128
      squeezes_S1x1x384x128_S384x128).view
    (Rect.unit (s := S384x128) ![r, 0] ![n, 128] (mInb hr)).toLoadRect (M11.view.writes (Elt F) f11 L)

/-- The codes of one lane block: scaled, clipped, rounded. -/
def quant (inv : FVec F S16x128 .bf16) (raw : Vec F S64x2x1x2x128 .bf16) : FVec F S256x128 .fp8e4m3 :=
  truncf .fp8e4m3 (minimumf (broadcast S256x128 (Scalar.ofBits .bf16 0x43E0#16))
    (maximumf (broadcast S256x128 (Scalar.ofBits .bf16 0xC3E0#16))
      (mulf
        (interleaveRows S256x128
          (shapeCast S128x128 (rowsOfParity 0 S64x2x1x1x128 raw bitcasts_S64x2x1x2x128_w16_S64x2x1x1x128_w32) shapeCasts_S64x2x1x1x128_S128x128)
          (shapeCast S128x128 (rowsOfParity 1 S64x2x1x1x128 raw bitcasts_S64x2x1x2x128_w16_S64x2x1x1x128_w32) shapeCasts_S64x2x1x1x128_S128x128)
          bitcasts_S256x128_w16_S128x128_w32)
        (concatenate S256x128 0 [⟨S16x128, inv⟩, ⟨S16x128, inv⟩, ⟨S16x128, inv⟩, ⟨S16x128, inv⟩, ⟨S16x128, inv⟩, ⟨S16x128, inv⟩,
          ⟨S16x128, inv⟩, ⟨S16x128, inv⟩, ⟨S16x128, inv⟩, ⟨S16x128, inv⟩, ⟨S16x128, inv⟩, ⟨S16x128, inv⟩, ⟨S16x128, inv⟩,
          ⟨S16x128, inv⟩, ⟨S16x128, inv⟩, ⟨S16x128, inv⟩]
          concatenates_S16x128_S16x128_S16x128_S16x128_S16x128_S16x128_S16x128_S16x128_S16x128_S16x128_S16x128_S16x128_S16x128_S16x128_S16x128_S16x128_S256x128_d0))))
    bitsLt_fp8e4m3_bf16

/-- The zeros of the format of the codes. -/
abbrev z8 : F .fp8e4m3 := Scalar.ofBits .fp8e4m3 0x00#8

/-- The padding rows above and below a half: the other half's rows, moved by one half. -/
def haloAbove (v : Vec F S40x128 .fp8e4m3) : Vec F S1x1x40x128 .fp8e4m3 :=
  k0_pay23 (k0_pay22 v) z8

/-- The three zero fills, the codes, the two halos and the two shifted copies of lane block `ct`, in the order of the body. -/
def codeStep (c : Dev nD) (f11 : MBuf (F := F) c M11) (ct : ℕ) (hc : ct < 20) (q : FVec F S256x128 .fp8e4m3) (L : List (CPiece F)) :
    List (CPiece F) :=
  let L3 : List (CPiece F) :=
    ⟨cRect 1 ct 320 64 (cInb (by decide) hc (by decide)), shapeCast S1x1x64x128 (shapeCast S64x128 (broadcast S64x128 (z8 (F := F))) shapeCasts_S64x128_S64x128) shapeCasts_S64x128_S1x1x64x128⟩ ::
    ⟨cRect 1 ct 64 256 (cInb (by decide) hc (by decide)), shapeCast S1x1x256x128 (shapeCast S256x128 q shapeCasts_S256x128_S256x128) shapeCasts_S256x128_S1x1x256x128⟩ ::
    ⟨cRect 1 ct 0 64 (cInb (by decide) hc (by decide)), shapeCast S1x1x64x128 (shapeCast S64x128 (broadcast S64x128 (z8 (F := F))) shapeCasts_S64x128_S64x128) shapeCasts_S64x128_S1x1x64x128⟩ :: L
  let L4 : List (CPiece F) := ⟨cRect 1 ct 24 40 (cInb (by decide) hc (by decide)), haloAbove (ldMid c f11 L3 ct 264 40 hc (by decide))⟩ :: L3
  let L5 : List (CPiece F) := ⟨cRect 1 ct 304 40 (cInb (by decide) hc (by decide)), k0_pay24 (ldMid c f11 L4 ct 64 40 hc (by decide))⟩ :: L4
  let L7 : List (CPiece F) := ⟨cRect 2 ct 352 32 (cInb (by decide) hc (by decide)), k0_pay27 (k0_pay26 (F := F))⟩ ::
    ⟨cRect 0 ct 0 32 (cInb (by decide) hc (by decide)), k0_pay25 (F := F)⟩ :: L5
  let L8 : List (CPiece F) := ⟨cRect 0 ct 4 380 (cInb (by decide) hc (by decide)), k0_pay28 k0_pay16 (ldMid c f11 L7 ct 0 380 hc (by decide))⟩ :: L7
  ⟨cRect 2 ct 0 380 (cInb (by decide) hc (by decide)), k0_pay29 k0_pay17 (ldMid c f11 L8 ct 4 380 hc (by decide))⟩ :: L8

theorem hInb {k : ℕ} (h : k < 2) :
    ∀ a : Fin 5, (![0, k, 0, 0, 0] : Fin 5 → ℕ) a + S60x1x20x2x128.size a ≤ S64x2x20x2x128.size a := by
  intro a
  match a with
  | 0 => exact (by decide : 60 ≤ 64)
  | 1 => exact h
  | 2 => exact Nat.le_refl 20
  | 3 => exact Nat.le_refl 2
  | 4 => exact Nat.le_refl 128

/-- Half `k` of the input's memory, as the transfer that fills it sees it. -/
abbrev xsHalf (k : ℕ) (h : k < 2) :
    Memref sig .tc .vmem S60x20x2x128 .bf16 :=
  (M10.slice (Rect.unit (s := S64x2x20x2x128) ![0, k, 0, 0, 0] S60x1x20x2x128.size (hInb h)) (fun _ => rfl)).squeeze S60x20x2x128 squeezes_S60x1x20x2x128_S60x20x2x128

/-- The padded input as the body leaves it in memory. -/
def xsBuf (c : Dev nD) (f0 : MBuf (F := F) c M0) (f10 : MBuf (F := F) c M10) : MBuf (F := F) c M10 :=
  let g0 : MBuf (F := F) c M10 := (xsHalf 0 Nat.zero_lt_two).view.write (Elt F) f10 (bodyRun.sl.dma0 c f0) Finset.univ
  let g1 : MBuf (F := F) c M10 := (xsHalf 1 Nat.one_lt_two).view.write (Elt F) g0 (bodyRun.sl.dma0_1 c f0) Finset.univ
  M10.view.writes (Elt F) g1
    [⟨Rect.unit ![60, 0, 0, 0, 0] S4x2x20x2x128.size inb_S64x2x20x2x128_S4x2x20x2x128_60_0_0_0_0, k0_pay2 k0_pay1⟩]

/-- Lane block `ct` of the input. -/
def rawq (c : Dev nD) (f0 : MBuf (F := F) c M0) (f10 : MBuf (F := F) c M10) (ct : ℕ)
    (h : ∀ a : Fin 5, (![0, 0, ct, 0, 0] : Fin 5 → ℕ) a + S64x2x1x2x128.size a ≤ S64x2x20x2x128.size a) : Vec F S64x2x1x2x128 .bf16 :=
  View.readAt (Elt F) M10.view (Rect.unit (s := S64x2x20x2x128) ![0, 0, ct, 0, 0] S64x2x1x2x128.size h).toLoadRect (xsBuf c f0 f10)

theorem xInb {ct : ℕ} (h : ct < 20) :
    ∀ a : Fin 5, (![0, 0, ct, 0, 0] : Fin 5 → ℕ) a + S64x2x1x2x128.size a ≤ S64x2x20x2x128.size a := by
  intro a
  match a with
  | 0 => exact Nat.le_refl 64
  | 1 => exact Nat.le_refl 2
  | 2 => exact h
  | 3 => exact Nat.le_refl 2
  | 4 => exact Nat.le_refl 128

/-- The codes of lane block `ct`. -/
def qAt (c : Dev nD) (f0 : MBuf (F := F) c M0) (f10 : MBuf (F := F) c M10) (ct : ℕ) (h : ct < 20) : FVec F S256x128 .fp8e4m3 :=
  quant (bodyRun.sl.r_9 c f0 f10) (rawq c f0 f10 ct (xInb h))

/-- The padded codes after the first `n` lane blocks. -/
def codesUpTo (c : Dev nD) (f0 : MBuf (F := F) c M0) (f10 : MBuf (F := F) c M10) (f11 : MBuf (F := F) c M11) :
    (n : ℕ) → n ≤ 20 → List (CPiece F)
  | 0, _ => []
  | n + 1, h => codeStep c f11 n h (qAt c f0 f10 n h) (codesUpTo c f0 f10 f11 n (Nat.le_of_lt h))

theorem rInb {b k l : ℕ} (hb : b < 2) (hk : k + 4 ≤ 12) (hl : l + 128 ≤ 2560) :
    ∀ a : Fin 4, (![b, 0, k, l] : Fin 4 → ℕ) a + S1x10x4x128.size a ≤ S2x10x12x2560.size a := by
  intro a
  match a with
  | 0 => exact hb
  | 1 => exact Nat.le_refl 10
  | 2 => exact hk
  | 3 => exact hl

theorem lInb {ct : ℕ} (h : ct < 20) : ct * 128 + 128 ≤ 2560 := by omega

/-- Image row `j` of each half, its four interleaved rows apart. -/
def xcRow (c : Dev nD) (f11 : MBuf (F := F) c M11) (L : List (CPiece F)) (ct : ℕ) (hc : ct < 20) (j : ℕ) (hj : 64 + 40 * j + 40 ≤ 384) :
    FVec F S10x4x128 .fp8e4m3 :=
  shapeCast S10x4x128 (ldMid c f11 L ct (64 + 40 * j) 40 hc hj) shapeCasts_S40x128_S10x4x128

/-- Four image rows side by side. -/
def quad (a b c d : FVec F S10x1x128 .fp8e4m3) : FVec F S1x10x4x128 .fp8e4m3 :=
  shapeCast S1x10x4x128 (concatenate S10x4x128 1 [⟨S10x1x128, a⟩, ⟨S10x1x128, b⟩, ⟨S10x1x128, c⟩, ⟨S10x1x128, d⟩]
    concatenates_S10x1x128_S10x1x128_S10x1x128_S10x1x128_S10x4x128_d1) shapeCasts_S10x4x128_S1x10x4x128

/-- One of the four interleaved rows. -/
def pick (k : ℕ) (h : k < 4) (v : FVec F S10x4x128 .fp8e4m3) : FVec F S10x1x128 .fp8e4m3 :=
  extractStridedSlice S10x1x128 ![0, k, 0] v ⟨rfl, fun a => match a with
    | 0 => Nat.le_refl 10
    | 1 => h
    | 2 => Nat.le_refl 128⟩

/-- The six writes of lane block `ct` into the code result, from the padded codes at that moment. -/
def xcStep (c : Dev nD) (f11 : MBuf (F := F) c M11) (ct : ℕ) (hc : ct < 20) (L : List (CPiece F)) (X : List (XPiece F)) : List (XPiece F) :=
  let w0 := xcRow c f11 L ct hc 0 (by decide)
  let w1 := xcRow c f11 L ct hc 1 (by decide)
  let w2 := xcRow c f11 L ct hc 2 (by decide)
  let w3 := xcRow c f11 L ct hc 3 (by decide)
  let w4 := xcRow c f11 L ct hc 4 (by decide)
  let w5 := xcRow c f11 L ct hc 5 (by decide)
  let p (b k : ℕ) (hb : b < 2) (hk : k + 4 ≤ 12) (v : FVec F S1x10x4x128 .fp8e4m3) : XPiece F :=
    ⟨Rect.unit (s := S2x10x12x2560) ![b, 0, k, ct * 128] S1x10x4x128.size (rInb hb hk (lInb hc)), v⟩
  let q0 (v : FVec F S10x4x128 .fp8e4m3) := pick 0 (by decide) v
  let q1 (v : FVec F S10x4x128 .fp8e4m3) := pick 1 (by decide) v
  let q2 (v : FVec F S10x4x128 .fp8e4m3) := pick 2 (by decide) v
  let q3 (v : FVec F S10x4x128 .fp8e4m3) := pick 3 (by decide) v
  p 1 8 (by decide) (by decide) (quad (q3 w2) (q3 w3) (q3 w4) (q3 w5)) ::
  p 1 4 (by decide) (by decide) (quad (q1 w4) (q1 w5) (q3 w0) (q3 w1)) ::
  p 1 0 (by decide) (by decide) (quad (q1 w0) (q1 w1) (q1 w2) (q1 w3)) ::
  p 0 8 (by decide) (by decide) (quad (q2 w2) (q2 w3) (q2 w4) (q2 w5)) ::
  p 0 4 (by decide) (by decide) (quad (q0 w4) (q0 w5) (q2 w0) (q2 w1)) ::
  p 0 0 (by decide) (by decide) (quad (q0 w0) (q0 w1) (q0 w2) (q0 w3)) :: X

/-- The padded codes after lane block `n`, as the run names them. -/
def codesTab (c : Dev nD) (f0 : MBuf (F := F) c M0) (f10 : MBuf (F := F) c M10) (f11 : MBuf (F := F) c M11) : ℕ → List (CPiece F)
  | 0 => bodyRun.sl.H11_9 c f0 f10 f11
  | 1 => bodyRun.sl.H11_18 c f0 f10 f11
  | 2 => bodyRun.sl.H11_27 c f0 f10 f11
  | 3 => bodyRun.sl.H11_36 c f0 f10 f11
  | 4 => bodyRun.sl.H11_45 c f0 f10 f11
  | 5 => bodyRun.sl.H11_54 c f0 f10 f11
  | 6 => bodyRun.sl.H11_63 c f0 f10 f11
  | 7 => bodyRun.sl.H11_72 c f0 f10 f11
  | 8 => bodyRun.sl.H11_81 c f0 f10 f11
  | 9 => bodyRun.sl.H11_90 c f0 f10 f11
  | 10 => bodyRun.sl.H11_99 c f0 f10 f11
  | 11 => bodyRun.sl.H11_108 c f0 f10 f11
  | 12 => bodyRun.sl.H11_117 c f0 f10 f11
  | 13 => bodyRun.sl.H11_126 c f0 f10 f11
  | 14 => bodyRun.sl.H11_135 c f0 f10 f11
  | 15 => bodyRun.sl.H11_144 c f0 f10 f11
  | 16 => bodyRun.sl.H11_153 c f0 f10 f11
  | 17 => bodyRun.sl.H11_162 c f0 f10 f11
  | 18 => bodyRun.sl.H11_171 c f0 f10 f11
  | 19 => bodyRun.sl.H11_180 c f0 f10 f11
  | _ => []

/-- The writes into the code result before lane block `n`, as the run names them. -/
def xcTab (c : Dev nD) (f0 : MBuf (F := F) c M0) (f10 : MBuf (F := F) c M10) (f11 : MBuf (F := F) c M11) : ℕ → List (XPiece F)
  | 0 => []
  | 1 => bodyRun.sl.H21_6 c f0 f10 f11
  | 2 => bodyRun.sl.H21_12 c f0 f10 f11
  | 3 => bodyRun.sl.H21_18 c f0 f10 f11
  | 4 => bodyRun.sl.H21_24 c f0 f10 f11
  | 5 => bodyRun.sl.H21_30 c f0 f10 f11
  | 6 => bodyRun.sl.H21_36 c f0 f10 f11
  | 7 => bodyRun.sl.H21_42 c f0 f10 f11
  | 8 => bodyRun.sl.H21_48 c f0 f10 f11
  | 9 => bodyRun.sl.H21_54 c f0 f10 f11
  | 10 => bodyRun.sl.H21_60 c f0 f10 f11
  | 11 => bodyRun.sl.H21_66 c f0 f10 f11
  | 12 => bodyRun.sl.H21_72 c f0 f10 f11
  | 13 => bodyRun.sl.H21_78 c f0 f10 f11
  | 14 => bodyRun.sl.H21_84 c f0 f10 f11
  | 15 => bodyRun.sl.H21_90 c f0 f10 f11
  | 16 => bodyRun.sl.H21_96 c f0 f10 f11
  | 17 => bodyRun.sl.H21_102 c f0 f10 f11
  | 18 => bodyRun.sl.H21_108 c f0 f10 f11
  | 19 => bodyRun.sl.H21_114 c f0 f10 f11
  | 20 => bodyRun.sl.H21_120 c f0 f10 f11
  | _ => []

/-- Twenty lane blocks side by side. -/
def cat256 (f : Fin 20 → FVec F S256x128 .fp8e4m3) : FVec F S256x2560 .fp8e4m3 :=
  concatenate S256x2560 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩, ⟨S256x128, f 8⟩, ⟨S256x128, f 9⟩, ⟨S256x128, f 10⟩, ⟨S256x128, f 11⟩, ⟨S256x128, f 12⟩, ⟨S256x128, f 13⟩, ⟨S256x128, f 14⟩, ⟨S256x128, f 15⟩, ⟨S256x128, f 16⟩, ⟨S256x128, f 17⟩, ⟨S256x128, f 18⟩, ⟨S256x128, f 19⟩]
    concatenates_S256x128_S256x128_S256x128_S256x128_S256x128_S256x128_S256x128_S256x128_S256x128_S256x128_S256x128_S256x128_S256x128_S256x128_S256x128_S256x128_S256x128_S256x128_S256x128_S256x128_S256x2560_d1

/-- Twenty lane blocks side by side. -/
def cat240 (f : Fin 20 → FVec F S240x128 .bf16) : FVec F S240x2560 .bf16 :=
  concatenate S240x2560 1 [⟨S240x128, f 0⟩, ⟨S240x128, f 1⟩, ⟨S240x128, f 2⟩, ⟨S240x128, f 3⟩, ⟨S240x128, f 4⟩, ⟨S240x128, f 5⟩, ⟨S240x128, f 6⟩, ⟨S240x128, f 7⟩, ⟨S240x128, f 8⟩, ⟨S240x128, f 9⟩, ⟨S240x128, f 10⟩, ⟨S240x128, f 11⟩, ⟨S240x128, f 12⟩, ⟨S240x128, f 13⟩, ⟨S240x128, f 14⟩, ⟨S240x128, f 15⟩, ⟨S240x128, f 16⟩, ⟨S240x128, f 17⟩, ⟨S240x128, f 18⟩, ⟨S240x128, f 19⟩]
    concatenates_S240x128_S240x128_S240x128_S240x128_S240x128_S240x128_S240x128_S240x128_S240x128_S240x128_S240x128_S240x128_S240x128_S240x128_S240x128_S240x128_S240x128_S240x128_S240x128_S240x128_S240x2560_d1

/-- The left operand of a tap: copy `j` of the padded codes from row `r` on. -/
def tapLhs (L : List (CPiece F)) (j r : ℕ) (hj : j < 3) (hr : r + 256 ≤ 384) : FVec F S256x2560 .fp8e4m3 :=
  cat256 fun ct => shapeCast S256x128 (M11.view.readCov L (cRect j ct.1 r 256 (cInb hj ct.2 hr)).toLoadRect) shapeCasts_S1x1x256x128_S256x128

theorem wInb {t : ℕ} (h : t < 9) : ∀ a : Fin 3, (![t, 0, 0] : Fin 3 → ℕ) a + S1x2560x1280.size a ≤ S9x2560x1280.size a := by
  intro a
  match a with
  | 0 => exact h
  | 1 => exact Nat.le_refl 2560
  | 2 => exact Nat.le_refl 1280

/-- Tap `t` of the weights in memory, as the transfer that fills it sees it. -/
abbrev wTap (t : ℕ) (h : t < 9) : Memref sig .tc .vmem S2560x1280 .fp8e4m3 :=
  (M12.slice (Rect.unit (s := S9x2560x1280) ![t, 0, 0] S1x2560x1280.size (wInb h)) (fun _ => rfl)).squeeze S2560x1280 squeezes_S1x2560x1280_S2560x1280

/-- Tap `t` of the weights' source. -/
abbrev wSrc (t : ℕ) (h : t < 9) : Memref sig .tc .hbm S2560x1280 .fp8e4m3 :=
  (M1.slice (Rect.unit (s := S9x2560x1280) ![t, 0, 0] S1x2560x1280.size (wInb h)) (fun _ => rfl)).squeeze S2560x1280 squeezes_S1x2560x1280_S2560x1280

/-- The transfer of tap `t`. -/
def wPut (c : Dev nD) (f1 : MBuf (F := F) c M1) (t : ℕ) (h : t < 9) (g : MBuf (F := F) c M12) : MBuf (F := F) c M12 :=
  (wTap t h).view.write (Elt F) g (ReadAs.same.apply ((wSrc t h).view.read (Elt F) f1)) Finset.univ

theorem lt9 {t : ℕ} (h : Nat.blt t 9 = true) : t < 9 := Nat.le_of_ble_eq_true h

/-- The weights in memory once the nine transfers are done. -/
def wBuf (c : Dev nD) (f1 : MBuf (F := F) c M1) (f12 : MBuf (F := F) c M12) : MBuf (F := F) c M12 :=
  wPut c f1 8 (lt9 rfl) (wPut c f1 7 (lt9 rfl) (wPut c f1 6 (lt9 rfl) (wPut c f1 2 (lt9 rfl) (wPut c f1 1 (lt9 rfl)
    (wPut c f1 0 (lt9 rfl) (wPut c f1 5 (lt9 rfl) (wPut c f1 4 (lt9 rfl) (wPut c f1 3 (lt9 rfl) f12))))))))

/-- Tap `t` of the weights, as the body reads it. -/
def wLd (c : Dev nD) (f1 : MBuf (F := F) c M1) (f12 : MBuf (F := F) c M12) (t : ℕ) (h : t < 9) : Vec F S1x2560x1280 .fp8e4m3 :=
  M12.view.readAt (Elt F) (Rect.unit (s := S9x2560x1280) ![t, 0, 0] S1x2560x1280.size (wInb h)).toLoadRect (wBuf c f1 f12)

/-- A write into the accumulator. -/
abbrev APiece (F : FTy → Type) : Type := View.Piece (Elt F) S256x1280 .f32

/-- One tap's product, added to the accumulator. -/
def accPut (lhs : FVec F S256x2560 .fp8e4m3) (w : Vec F S1x2560x1280 .fp8e4m3) (A : List (APiece F)) : List (APiece F) :=
  ⟨Rect.unit ![0, 0] S256x1280.size inb_S256x1280_S256x1280_0_0,
    shapeCast S256x1280 (addf (M17.view.readCov A (Rect.unit ![0, 0] S256x1280.size inb_S256x1280_S256x1280_0_0).toLoadRect)
      (matmul dot_S256x2560_S2560x1280_S256x1280_1_0_0_1_n_n none lhs (shapeCast S2560x1280 w shapeCasts_S1x2560x1280_S2560x1280)
        (constant S256x1280 .f32 0x00000000#32))) shapeCasts_S256x1280_S256x1280⟩ :: A

/-- The accumulator after the nine taps, in the order of the body. -/
def accAll (c : Dev nD) (f1 : MBuf (F := F) c M1) (f12 : MBuf (F := F) c M12) (L : List (CPiece F)) : List (APiece F) :=
  let A0 : List (APiece F) := [⟨Rect.unit ![0, 0] S256x1280.size inb_S256x1280_S256x1280_0_0, k0_pay564⟩]
  let A1 := accPut (tapLhs L 0 64 (by decide) (by decide)) (wLd c f1 f12 3 (lt9 rfl)) A0
  let A2 := accPut (tapLhs L 1 64 (by decide) (by decide)) (wLd c f1 f12 4 (lt9 rfl)) A1
  let A3 := accPut (tapLhs L 2 64 (by decide) (by decide)) (wLd c f1 f12 5 (lt9 rfl)) A2
  let A4 := accPut (tapLhs L 0 24 (by decide) (by decide)) (wLd c f1 f12 0 (lt9 rfl)) A3
  let A5 := accPut (tapLhs L 1 24 (by decide) (by decide)) (wLd c f1 f12 1 (lt9 rfl)) A4
  let A6 := accPut (tapLhs L 2 24 (by decide) (by decide)) (wLd c f1 f12 2 (lt9 rfl)) A5
  let A7 := accPut (tapLhs L 0 104 (by decide) (by decide)) (wLd c f1 f12 6 (lt9 rfl)) A6
  let A8 := accPut (tapLhs L 1 104 (by decide) (by decide)) (wLd c f1 f12 7 (lt9 rfl)) A7
  accPut (tapLhs L 2 104 (by decide) (by decide)) (wLd c f1 f12 8 (lt9 rfl)) A8

/-- The input in memory without its zero tail. -/
def xsIn (c : Dev nD) (f0 : MBuf (F := F) c M0) (f10 : MBuf (F := F) c M10) : MBuf (F := F) c M10 :=
  let g0 : MBuf (F := F) c M10 := (xsHalf 0 Nat.zero_lt_two).view.write (Elt F) f10 (bodyRun.sl.dma0 c f0) Finset.univ
  (xsHalf 1 Nat.one_lt_two).view.write (Elt F) g0 (bodyRun.sl.dma0_1 c f0) Finset.univ

theorem pInb {ct : ℕ} (h : ct < 20) :
    ∀ a : Fin 5, (![0, 0, ct, 0, 0] : Fin 5 → ℕ) a + S60x2x1x2x128.size a ≤ S64x2x20x2x128.size a := by
  intro a
  match a with
  | 0 => exact (by decide : 60 ≤ 64)
  | 1 => exact Nat.le_refl 2
  | 2 => exact h
  | 3 => exact Nat.le_refl 2
  | 4 => exact Nat.le_refl 128

/-- The input's rows of one lane block, as the first low-rank product reads them. -/
def downRows (raw : Vec F S60x2x1x2x128 .bf16) : FVec F S240x128 .bf16 :=
  interleaveRows S240x128
    (shapeCast S120x128 (rowsOfParity 0 S60x2x1x1x128 raw bitcasts_S60x2x1x2x128_w16_S60x2x1x1x128_w32) shapeCasts_S60x2x1x1x128_S120x128)
    (shapeCast S120x128 (rowsOfParity 1 S60x2x1x1x128 raw bitcasts_S60x2x1x2x128_w16_S60x2x1x1x128_w32) shapeCasts_S60x2x1x1x128_S120x128)
    bitcasts_S240x128_w16_S120x128_w32

/-- The input's rows, all lane blocks. -/
def downLhs (c : Dev nD) (f0 : MBuf (F := F) c M0) (f10 : MBuf (F := F) c M10) : FVec F S240x2560 .bf16 :=
  cat240 fun ct => downRows (M10.view.readAt (Elt F)
    (Rect.unit (s := S64x2x20x2x128) ![0, 0, ct.1, 0, 0] S60x2x1x2x128.size (pInb ct.2)).toLoadRect (xsIn c f0 f10))

/-- The first low-rank product, its lanes filled up with zeros. -/
def downProd (lhs : FVec F S240x2560 .bf16) (ld : Vec F S288x2560 .bf16) : FVec F S240x384 .f32 :=
  concatenate S240x384 1
    [⟨S240x288, matmul dot_S240x2560_S288x2560_S240x288_1_1_0_0_n_n none lhs ld (constant S240x288 .f32 0x00000000#32)⟩,
      ⟨S240x96, broadcast S240x96 (Scalar.ofBits .f32 0x00000000#32)⟩] concatenates_S240x288_S240x96_S240x384_d1

end Cert.KernelIdeal.Hand
-- ==== Proof.StructOut.lean ====
/-
  The stores into the first two results' staging arrays, as lists with one entry for each block of lanes.
-/
module

public import proofs.«01_k».proof.Proof.Struct

@[expose] public section

set_option maxRecDepth 100000
set_option maxHeartbeats 1000000

noncomputable section

namespace Cert.KernelIdeal.Hand

open Cert.KernelIdeal Cert.KernelIdeal.Gen
open Idealize.ShloMosaic Idealize.ShloMosaic.TcCoe

variable {F : FTy → Type} [FloatOps F]

theorem ySlice {n : ℕ} (h : n < 10) : S240x1280.Slices ![0, n * 128] S240x128 := by
  have : ∀ m : Fin 10, S240x1280.Slices ![0, m.val * 128] S240x128 := by decide
  exact this ⟨n, h⟩

theorem yInb {n : ℕ} (h : n < 10) : ∀ a, (![0, 0, n, 0, 0] : Fin 5 → ℕ) a + S60x2x1x2x128.size a ≤ S60x2x10x2x128.size a := by
  intro a
  match a with
  | 0 => exact le_refl 60
  | 1 => exact le_refl 2
  | 2 => exact h
  | 3 => exact le_refl 2
  | 4 => exact le_refl 128

/-- One block of lanes of the result, its rows sorted into the staging array's order. -/
def yBlock (n : ℕ) (h : n < 10) (y : FVec F S240x1280 .bf16) : Vec F S60x2x1x2x128 .bf16 :=
  interleaveRows S60x2x1x2x128
    (shapeCast S60x2x1x1x128 (rowsOfParity 0 S120x128 (extractStridedSlice S240x128 ![0, n * 128] y (ySlice h)) bitcasts_S240x128_w16_S120x128_w32) shapeCasts_S120x128_S60x2x1x1x128)
    (shapeCast S60x2x1x1x128 (rowsOfParity 1 S120x128 (extractStridedSlice S240x128 ![0, n * 128] y (ySlice h)) bitcasts_S240x128_w16_S120x128_w32) shapeCasts_S120x128_S60x2x1x1x128)
    bitcasts_S60x2x1x2x128_w16_S60x2x1x1x128_w32

/-- The stores of the first `n` blocks. -/
def yList (y : FVec F S240x1280 .bf16) : (n : ℕ) → n ≤ 10 → List (View.Piece (Elt F) S60x2x10x2x128 .bf16)
  | 0, _ => []
  | n + 1, h => ⟨Rect.unit ![0, 0, n, 0, 0] S60x2x1x2x128.size (yInb h), yBlock n h y⟩ :: yList y n (Nat.le_of_succ_le h)

theorem y_eq (c : Dev nD) (f0 : MBuf (F := F) c M0) (f1 : MBuf (F := F) c M1) (f2 : MBuf (F := F) c M2) (f3 : MBuf (F := F) c M3) (f4 : MBuf (F := F) c M4)
    (f5 : MBuf (F := F) c M5) (f10 : MBuf (F := F) c M10) (f11 : MBuf (F := F) c M11) (f12 : MBuf (F := F) c M12) (f13 : MBuf (F := F) c M13)
    (f14 : MBuf (F := F) c M14) (f15 : MBuf (F := F) c M15) (f16 : MBuf (F := F) c M16) :
    bodyRun.sl.H19_10 c f0 f1 f2 f3 f4 f5 f10 f11 f12 f13 f14 f15 f16 = yList (bodyRun.sl.r_106 c f0 f1 f2 f3 f4 f5 f10 f11 f12 f13 f14 f15 f16) 10 (le_refl 10) := (rfl)

end Cert.KernelIdeal.Hand
-- ==== Proof.StructEq.lean ====
module

public import proofs.«01_k».proof.Proof.Struct

@[expose] public section

set_option maxRecDepth 100000
set_option maxHeartbeats 1000000

noncomputable section

namespace Cert.KernelIdeal.Hand

open Cert.KernelIdeal Cert.KernelIdeal.Gen
open Idealize.ShloMosaic Idealize.ShloMosaic.TcCoe

variable {F : FTy → Type} [FloatOps F]

theorem codes_eq (c : Dev nD) (f0 : MBuf (F := F) c M0) (f10 : MBuf (F := F) c M10) (f11 : MBuf (F := F) c M11) :
    bodyRun.sl.H11_180 c f0 f10 f11 = codesUpTo c f0 f10 f11 20 (Nat.le_refl 20) := (rfl)

/-- The named codes are the structured ones. -/
theorem codesTab_eq (c : Dev nD) (f0 : MBuf (F := F) c M0) (f10 : MBuf (F := F) c M10) (f11 : MBuf (F := F) c M11) : (n : ℕ) → (h : n < 20) →
    codesTab c f0 f10 f11 n = codesUpTo c f0 f10 f11 (n + 1) h
  | 0, _ => (rfl)
  | 1, _ => (rfl)
  | 2, _ => (rfl)
  | 3, _ => (rfl)
  | 4, _ => (rfl)
  | 5, _ => (rfl)
  | 6, _ => (rfl)
  | 7, _ => (rfl)
  | 8, _ => (rfl)
  | 9, _ => (rfl)
  | 10, _ => (rfl)
  | 11, _ => (rfl)
  | 12, _ => (rfl)
  | 13, _ => (rfl)
  | 14, _ => (rfl)
  | 15, _ => (rfl)
  | 16, _ => (rfl)
  | 17, _ => (rfl)
  | 18, _ => (rfl)
  | 19, _ => (rfl)
  | _ + 20, h => absurd h (by omega)

/-- The named writes into the code result are the structured ones, lane block by lane block. -/
theorem xcTab_eq (c : Dev nD) (f0 : MBuf (F := F) c M0) (f10 : MBuf (F := F) c M10) (f11 : MBuf (F := F) c M11) : (n : ℕ) → (h : n < 19) →
    xcTab c f0 f10 f11 (n + 1) = xcStep c f11 n (Nat.lt_succ_of_lt h) (codesTab c f0 f10 f11 n) (xcTab c f0 f10 f11 n)
  | 0, _ => (rfl)
  | 1, _ => (rfl)
  | 2, _ => (rfl)
  | 3, _ => (rfl)
  | 4, _ => (rfl)
  | 5, _ => (rfl)
  | 6, _ => (rfl)
  | 7, _ => (rfl)
  | 8, _ => (rfl)
  | 9, _ => (rfl)
  | 10, _ => (rfl)
  | 11, _ => (rfl)
  | 12, _ => (rfl)
  | 13, _ => (rfl)
  | 14, _ => (rfl)
  | 15, _ => (rfl)
  | 16, _ => (rfl)
  | 17, _ => (rfl)
  | 18, _ => (rfl)
  | _ + 19, h => absurd h (by omega)

/-- The last lane block, where every word of the padded codes has been written. -/
theorem xcTab_last (c : Dev nD) (f0 : MBuf (F := F) c M0) (f10 : MBuf (F := F) c M10) (f11 : MBuf (F := F) c M11) :
    xcTab c f0 f10 f11 20 = xcStep c M11.view.junk 19 (by decide) (codesTab c f0 f10 f11 19) (xcTab c f0 f10 f11 19) := (rfl)

end Cert.KernelIdeal.Hand
-- ==== Proof.Codes.lean ====
/-
  What the padded codes hold, lane block by lane block, over the extended reals.
-/
module

public import proofs.«01_k».proof.Proof.StructEq
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The zero of the format of the codes is zero. -/
theorem ofBits8 : Ideal.ofBits FTy.fp8e4m3 0#8 = 0 := by
  have h := Ideal.ofBits_zero FTy.fp8e4m3
  exact h

/-- The mask of the first column, as the body computes it from a row number. -/
theorem maskR : ∀ n : Fin 384, IntOp.cmpi CmpIPredicate.ne
    (IntOp.remsi ArithUnit.vector (IntOp.addi (IntOp.shrui ArithUnit.vector (BitVec.ofNat 32 n.val) 2#32) 4#32) 10#32) 0#32
      = if (n.val / 4 + 4) % 10 = 0 then 0#1 else 1#1 := by
  decide +kernel

/-- The mask of the last column. -/
theorem maskL : ∀ n : Fin 384, IntOp.cmpi CmpIPredicate.ne
    (IntOp.remsi ArithUnit.vector (IntOp.addi (IntOp.shrui ArithUnit.vector (BitVec.ofNat 32 n.val) 2#32) 4#32) 10#32) 9#32
      = if (n.val / 4 + 4) % 10 = 9 then 0#1 else 1#1 := by
  decide +kernel

/-- The halo above, row by row: the first half's rows go to the second half, two rows on. -/
theorem haloAbove_apply (v : Vec Ideal S40x128 .fp8e4m3) (i : Fin 40) (l : Fin 128) :
    haloAbove v (ix4 0 0 i l) = if h : i.val % 4 < 2 then 0 else v (ix2 ⟨i.val - 2, by omega⟩ l) := by
  pointwise [haloAbove, k0_pay23, k0_pay22]
  have e : i.val / 4 * 4 + (i.val % 4 - 2) = i.val - 2 ∨ i.val % 4 < 2 := by omega
  by_cases h : i.val % 4 < 2
  · rw [dif_pos h, dif_pos h]
    exact ofBits8
  · rw [dif_neg h, dif_neg h]
    exact congrArg v (congrArg (ix2 · l) (Fin.ext (e.resolve_right h)))

theorem haloBelow_apply (v : Vec Ideal S40x128 .fp8e4m3) (i : Fin 40) (l : Fin 128) :
    k0_pay24 v (ix4 0 0 i l) = if h : i.val % 4 < 2 then v (ix2 ⟨i.val + 2, by omega⟩ l) else 0 := by
  pointwise [k0_pay24]
  split_ifs with h
  · exact congrArg v (congrArg (ix2 · l) (Fin.ext (by show i.val / 4 * 4 + (2 + i.val % 4) = i.val + 2; omega)))
  · exact ofBits8

theorem shiftR_apply (v : Vec Ideal S380x128 .fp8e4m3) (i : Fin 380) (l : Fin 128) :
    k0_pay28 k0_pay16 v (ix4 0 0 i l) = if ((i.val + 4) / 4 + 4) % 10 = 0 then 0 else v (ix2 i l) := by
  pointwise [k0_pay28, k0_pay16]
  have e := maskR ⟨4 + i.val, by omega⟩
  rw [show (⟨4 + i.val, by omega⟩ : Fin 384).val = 4 + i.val from rfl] at e
  rw [e, ofBits8, Nat.add_comm 4]
  split_ifs <;> rfl

theorem shiftL_apply (v : Vec Ideal S380x128 .fp8e4m3) (i : Fin 380) (l : Fin 128) :
    k0_pay29 k0_pay17 v (ix4 0 0 i l) = if (i.val / 4 + 4) % 10 = 9 then 0 else v (ix2 i l) := by
  pointwise [k0_pay29, k0_pay17]
  have e := maskL ⟨i.val, by omega⟩
  rw [show (⟨i.val, by omega⟩ : Fin 384).val = i.val from rfl] at e
  rw [e, ofBits8]
  split_ifs <;> rfl

/-- A squeezed block read through its own shape. -/
theorem unsqueeze (w : S1x1x384x128.Idx → EReal) (R : Fin 384) (l : Fin 128) :
    shapeCast (α := EReal) S384x128 w (by decide) (ix2 R l) = w (ix4 0 0 R l) := by
  pointwise

/-- A place of the padded codes after a list of writes. -/
def cv (c : Dev nD) (f11 : MBuf (F := Ideal) c M11) (L : List (CPiece Ideal)) (j : Fin 3) (ct : Fin 20) (R : Fin 384) (l : Fin 128) : EReal :=
  M11.view.read (Elt Ideal) (M11.view.writes (Elt Ideal) f11 L) (ix4 j ct R l)

theorem ldMid_apply (c : Dev nD) (f11 : MBuf (F := Ideal) c M11) (L : List (CPiece Ideal)) (ct r n : ℕ) (hc : ct < 20) (hr : r + n ≤ 384)
    (i : Fin n) (l : Fin 128) :
    ldMid c f11 L ct r n hc hr (ix2 i l) = cv c f11 L 1 ⟨ct, hc⟩ ⟨r + i, by omega⟩ l := by
  have h := unsqueeze (fun y => M11.view.read (Elt Ideal) (M11.view.writes (Elt Ideal) f11 L)
    ((cRect 1 ct 0 384 (cInb (by decide) hc (Nat.le_refl 384))).emb y)) ⟨r + i, by omega⟩ l
  have e : (cRect 1 ct 0 384 (cInb (by decide) hc (Nat.le_refl 384))).emb (ix4 0 0 ⟨r + i, by omega⟩ l)
      = ix4 1 ⟨ct, hc⟩ ⟨r + i, by omega⟩ l := Rect.emb_eq_of_coords _ _ _ fun a => by
    match a with
    | 0 => rfl
    | 1 => show ct = ct + 1 * 0; omega
    | 2 => show r + i.val = 0 + 1 * (r + i.val); omega
    | 3 => show l.val = 0 + 1 * l.val; omega
  rw [e] at h
  rw [cv, ← h]
  have e2 : (Rect.unit (s := S384x128) ![r, 0] ![n, 128] (mInb hr)).emb (ix2 i l) = ix2 ⟨r + i, by omega⟩ l :=
    Rect.emb_eq_of_coords _ _ _ fun a => by
      match a with
      | 0 => show r + i.val = r + 1 * i.val; omega
      | 1 => show l.val = 0 + 1 * l.val; omega
  rw [← e2]
  rfl

theorem cv_hit (c : Dev nD) (f11 : MBuf (F := Ideal) c M11) (L : List (CPiece Ideal)) (j ct r n : ℕ) (h : _) (w : (cRect j ct r n h).shape.Idx → EReal)
    (j' : Fin 3) (ct' : Fin 20) (R : Fin 384) (l : Fin 128) (h0 : j'.val = j) (h1 : ct'.val = ct) (h2 : r ≤ R.val) (h3 : R.val - r < n) :
    cv c f11 (⟨cRect j ct r n h, w⟩ :: L) j' ct' R l = w (ix4 0 0 ⟨R - r, h3⟩ l) := by
  refine View.read_writes_cons_hit_of_coords M11.view f11 (cRect j ct r n h) w L (ix4 0 0 ⟨R - r, h3⟩ l) (ix4 j' ct' R l) ?_
  intro a
  match a with
  | 0 => exact h0.trans (by simp)
  | 1 => exact h1.trans (by simp)
  | 2 => show R.val = r + 1 * (R.val - r); omega
  | 3 => show l.val = 0 + 1 * l.val; omega

theorem cv_miss (c : Dev nD) (f11 : MBuf (F := Ideal) c M11) (L : List (CPiece Ideal)) (j ct r n : ℕ) (h : _) (w : (cRect j ct r n h).shape.Idx → EReal)
    (j' : Fin 3) (ct' : Fin 20) (R : Fin 384) (l : Fin 128) (h0 : j'.val ≠ j ∨ ct'.val ≠ ct ∨ R.val < r ∨ r + n ≤ R.val) :
    cv c f11 (⟨cRect j ct r n h, w⟩ :: L) j' ct' R l = cv c f11 L j' ct' R l := by
  rcases h0 with h0 | h0 | h0
  · exact View.read_writes_cons_miss_of_axis M11.view f11 _ L (ix4 j' ct' R l) 0 j 1 rfl rfl rfl (by show j'.val < j ∨ j + 1 ≤ j'.val; omega)
  · exact View.read_writes_cons_miss_of_axis M11.view f11 _ L (ix4 j' ct' R l) 1 ct 1 rfl rfl rfl (by show ct'.val < ct ∨ ct + 1 ≤ ct'.val; omega)
  · exact View.read_writes_cons_miss_of_axis M11.view f11 _ L (ix4 j' ct' R l) 2 r n rfl rfl rfl h0

/-- One padded image of a lane block, from the block's codes: image `b`, padded row `i`, padded column `w`. -/
def padQ (q : FVec Ideal S256x128 .fp8e4m3) (b i w : ℕ) (l : Fin 128) : EReal :=
  if h : b < 2 ∧ 1 ≤ i ∧ i ≤ 12 ∧ 1 ≤ w ∧ w ≤ 10 then
    q (ix2 ⟨4 * ((i - 1) % 6 * 10 + (w - 1)) + 2 * ((i - 1) / 6) + b, by omega⟩ l)
  else 0

/-- A row of copy `j` of the padded codes. -/
def rowQ (q : FVec Ideal S256x128 .fp8e4m3) (j R : ℕ) (l : Fin 128) : EReal :=
  padQ q (R % 2) (R / 2 % 2 * 6 + (R / 4 - 6) / 10) ((R / 4 - 6) % 10 + j) l

theorem padQ_in (q : FVec Ideal S256x128 .fp8e4m3) (b i w : ℕ) (l : Fin 128) (k : Fin 256)
    (h : b < 2 ∧ 1 ≤ i ∧ i ≤ 12 ∧ 1 ≤ w ∧ w ≤ 10) (hk : k.val = 4 * ((i - 1) % 6 * 10 + (w - 1)) + 2 * ((i - 1) / 6) + b) :
    padQ q b i w l = q (ix2 k l) := by
  rw [padQ, dif_pos h]
  exact congrArg q (congrArg (ix2 · l) (Fin.ext hk.symm))

theorem padQ_out (q : FVec Ideal S256x128 .fp8e4m3) (b i w : ℕ) (l : Fin 128) (h : ¬ (b < 2 ∧ 1 ≤ i ∧ i ≤ 12 ∧ 1 ≤ w ∧ w ≤ 10)) :
    padQ q b i w l = 0 := by
  rw [padQ, dif_neg h]

theorem q_piece (q : FVec Ideal S256x128 .fp8e4m3) (i : Fin 256) (l : Fin 128) :
    shapeCast S1x1x256x128 (shapeCast S256x128 q shapeCasts_S256x128_S256x128) shapeCasts_S256x128_S1x1x256x128 (ix4 0 0 i l) = q (ix2 i l) := by
  pointwise

/-- Where a row of the codes lies in the padded image. -/
theorem rowPlace : ∀ R : Fin 384, 64 ≤ R.val → R.val < 304 →
    R.val - 64 = 4 * ((R.val / 2 % 2 * 6 + (R.val / 4 - 6) / 10 - 1) % 6 * 10 + ((R.val / 4 - 6) % 10 + 1 - 1))
      + 2 * ((R.val / 2 % 2 * 6 + (R.val / 4 - 6) / 10 - 1) / 6) + R.val % 2 := by
  decide +kernel

/-- The unshifted copy of a lane block right after its writes. -/
theorem mid_step (c : Dev nD) (f11 : MBuf (F := Ideal) c M11) (ct : ℕ) (hc : ct < 20) (q : FVec Ideal S256x128 .fp8e4m3) (L : List (CPiece Ideal))
    (P : List (CPiece Ideal)) (hP : ∃ (L4 L3 : List (CPiece Ideal)), P = ⟨cRect 1 ct 304 40 (cInb (by decide) hc (by decide)), k0_pay24 (ldMid c f11 L4 ct 64 40 hc (by decide))⟩ :: L4
      ∧ L4 = ⟨cRect 1 ct 24 40 (cInb (by decide) hc (by decide)), haloAbove (ldMid c f11 L3 ct 264 40 hc (by decide))⟩ :: L3
      ∧ ∃ z z', L3 = ⟨cRect 1 ct 320 64 (cInb (by decide) hc (by decide)), z⟩ ::
        ⟨cRect 1 ct 64 256 (cInb (by decide) hc (by decide)), shapeCast S1x1x256x128 (shapeCast S256x128 q shapeCasts_S256x128_S256x128) shapeCasts_S256x128_S1x1x256x128⟩ ::
        ⟨cRect 1 ct 0 64 (cInb (by decide) hc (by decide)), z'⟩ :: L)
    (R : Fin 384) (l : Fin 128) (h1 : 24 ≤ R.val) (h2 : R.val < 344) :
    cv c f11 P 1 ⟨ct, hc⟩ R l = rowQ q 1 R.val l := by
  obtain ⟨L4, L3, rfl, h4, z, z', h3⟩ := hP
  have hq (S : Fin 384) (a : 64 ≤ S.val) (b : S.val < 320) : cv c f11 L3 1 ⟨ct, hc⟩ S l = q (ix2 ⟨S.val - 64, by omega⟩ l) := by
    subst h3
    refine (cv_miss _ _ _ _ _ _ _ _ _ _ _ _ _ (by right; right; left; exact b)).trans ?_
    refine (cv_hit c f11 _ 1 ct 64 256 _ _ 1 ⟨ct, hc⟩ S l rfl rfl a (by omega)).trans ?_
    rw [q_piece]
  by_cases ha : 304 ≤ R.val
  · refine (cv_hit c f11 L4 1 ct 304 40 _ _ 1 ⟨ct, hc⟩ R l rfl rfl ha (by omega)).trans ?_
    rw [haloBelow_apply]
    by_cases hm : (R.val - 304) % 4 < 2
    · rw [dif_pos hm, ldMid_apply]
      subst h4
      rw [cv_miss _ _ _ _ _ _ _ _ _ _ _ _ _ (by right; right; right; show 24 + 40 ≤ 64 + (R.val - 304 + 2); omega),
        hq _ (by show 64 ≤ 64 + (R.val - 304 + 2); omega) (by show 64 + (R.val - 304 + 2) < 320; omega)]
      rw [rowQ, padQ_in _ _ _ _ _ ⟨64 + (R.val - 304 + 2) - 64, by omega⟩]
      · omega
      · show 64 + (R.val - 304 + 2) - 64 = _
        omega
    · rw [dif_neg hm, rowQ, padQ_out]
      omega
  · rw [cv_miss _ _ _ _ _ _ _ _ _ _ _ _ _ (by right; right; left; omega)]
    subst h4
    by_cases hb : R.val < 64
    · refine (cv_hit c f11 L3 1 ct 24 40 _ _ 1 ⟨ct, hc⟩ R l rfl rfl h1 (by omega)).trans ?_
      rw [haloAbove_apply]
      by_cases hm : (R.val - 24) % 4 < 2
      · rw [dif_pos hm, rowQ, padQ_out]
        omega
      · rw [dif_neg hm, ldMid_apply,
          hq _ (by show 64 ≤ 264 + (R.val - 24 - 2); omega) (by show 264 + (R.val - 24 - 2) < 320; omega)]
        rw [rowQ, padQ_in _ _ _ _ _ ⟨264 + (R.val - 24 - 2) - 64, by omega⟩]
        · omega
        · show 264 + (R.val - 24 - 2) - 64 = _
          omega
    · rw [cv_miss _ _ _ _ _ _ _ _ _ _ _ _ _ (by right; right; right; omega), hq R (by omega) (by omega)]
      rw [rowQ, padQ_in _ _ _ _ _ ⟨R.val - 64, by omega⟩]
      · omega
      · exact rowPlace R (by omega) (by omega)

/-- A lane block's three copies right after its writes. -/
theorem own_step (c : Dev nD) (f11 : MBuf (F := Ideal) c M11) (ct : ℕ) (hc : ct < 20) (q : FVec Ideal S256x128 .fp8e4m3) (L : List (CPiece Ideal))
    (j : Fin 3) (R : Fin 384) (l : Fin 128) (h1 : 24 ≤ R.val) (h2 : R.val < 344) :
    cv c f11 (codeStep c f11 ct hc q L) j ⟨ct, hc⟩ R l = rowQ q j.val R.val l := by
  have hj : j = 0 ∨ j = 1 ∨ j = 2 := by omega
  unfold codeStep
  extract_lets L3 L4 L5 L7 L8
  have hm (S : Fin 384) (a : 24 ≤ S.val) (b : S.val < 344) : cv c f11 L5 1 ⟨ct, hc⟩ S l = rowQ q 1 S.val l :=
    mid_step c f11 ct hc q L L5 ⟨L4, L3, rfl, rfl, _, _, rfl⟩ S l a b
  have h7 (S : Fin 384) : cv c f11 L7 1 ⟨ct, hc⟩ S l = cv c f11 L5 1 ⟨ct, hc⟩ S l := by
    rw [cv_miss _ _ _ _ _ _ _ _ _ _ _ _ _ (by left; decide), cv_miss _ _ _ _ _ _ _ _ _ _ _ _ _ (by left; decide)]
  have h8 (S : Fin 384) : cv c f11 L8 1 ⟨ct, hc⟩ S l = cv c f11 L5 1 ⟨ct, hc⟩ S l := by
    rw [cv_miss _ _ _ _ _ _ _ _ _ _ _ _ _ (by left; decide), h7]
  rcases hj with rfl | rfl | rfl
  · refine (cv_miss _ _ _ _ _ _ _ _ _ _ _ _ _ (by left; decide)).trans ?_
    refine (cv_hit c f11 L7 0 ct 4 380 _ _ 0 ⟨ct, hc⟩ R l rfl rfl (by omega) (by omega)).trans ?_
    rw [shiftR_apply]
    by_cases hz : (R.val / 4 + 4) % 10 = 0
    · rw [if_pos (by show ((R.val - 4 + 4) / 4 + 4) % 10 = 0; omega), rowQ, padQ_out]
      show ¬ (_ ∧ _ ∧ _ ∧ 1 ≤ (R.val / 4 - 6) % 10 + 0 ∧ _)
      omega
    · rw [if_neg (by show ¬ ((R.val - 4 + 4) / 4 + 4) % 10 = 0; omega), ldMid_apply, h7, hm _ (by show 24 ≤ 0 + (R.val - 4); omega) (by show 0 + (R.val - 4) < 344; omega)]
      show padQ q ((0 + (R.val - 4)) % 2) ((0 + (R.val - 4)) / 2 % 2 * 6 + ((0 + (R.val - 4)) / 4 - 6) / 10) (((0 + (R.val - 4)) / 4 - 6) % 10 + 1) l = padQ q (R.val % 2) (R.val / 2 % 2 * 6 + (R.val / 4 - 6) / 10) ((R.val / 4 - 6) % 10 + 0) l
      congr 1 <;> omega
  · refine (cv_miss _ _ _ _ _ _ _ _ _ _ _ _ _ (by left; decide)).trans ?_
    exact (h8 R).trans (hm R h1 h2)
  · refine (cv_hit c f11 L8 2 ct 0 380 _ _ 2 ⟨ct, hc⟩ R l rfl rfl (by omega) (by omega)).trans ?_
    rw [shiftL_apply]
    by_cases hz : (R.val / 4 + 4) % 10 = 9
    · rw [if_pos (by show ((R.val - 0) / 4 + 4) % 10 = 9; omega), rowQ, padQ_out]
      show ¬ (_ ∧ _ ∧ _ ∧ _ ∧ (R.val / 4 - 6) % 10 + 2 ≤ 10)
      omega
    · rw [if_neg (by show ¬ ((R.val - 0) / 4 + 4) % 10 = 9; omega), ldMid_apply, h8, hm _ (by show 24 ≤ 4 + (R.val - 0); omega) (by show 4 + (R.val - 0) < 344; omega)]
      show padQ q ((4 + (R.val - 0)) % 2) ((4 + (R.val - 0)) / 2 % 2 * 6 + ((4 + (R.val - 0)) / 4 - 6) / 10) (((4 + (R.val - 0)) / 4 - 6) % 10 + 1) l = padQ q (R.val % 2) (R.val / 2 % 2 * 6 + (R.val / 4 - 6) / 10) ((R.val / 4 - 6) % 10 + 2) l
      congr 1 <;> omega

/-- A lane block's writes leave the other blocks alone. -/
theorem other_step (c : Dev nD) (f11 : MBuf (F := Ideal) c M11) (ct : ℕ) (hc : ct < 20) (q : FVec Ideal S256x128 .fp8e4m3) (L : List (CPiece Ideal))
    (j : Fin 3) (ct' : Fin 20) (hn : ct'.val ≠ ct) (R : Fin 384) (l : Fin 128) :
    cv c f11 (codeStep c f11 ct hc q L) j ct' R l = cv c f11 L j ct' R l := by
  unfold codeStep
  extract_lets L3 L4 L5 L7 L8
  refine (cv_miss _ _ _ _ _ _ _ _ _ _ _ _ _ (.inr (.inl hn))).trans ?_
  refine (cv_miss _ _ _ _ _ _ _ _ _ _ _ _ _ (.inr (.inl hn))).trans ?_
  refine (cv_miss _ _ _ _ _ _ _ _ _ _ _ _ _ (.inr (.inl hn))).trans ?_
  refine (cv_miss _ _ _ _ _ _ _ _ _ _ _ _ _ (.inr (.inl hn))).trans ?_
  refine (cv_miss _ _ _ _ _ _ _ _ _ _ _ _ _ (.inr (.inl hn))).trans ?_
  refine (cv_miss _ _ _ _ _ _ _ _ _ _ _ _ _ (.inr (.inl hn))).trans ?_
  refine (cv_miss _ _ _ _ _ _ _ _ _ _ _ _ _ (.inr (.inl hn))).trans ?_
  refine (cv_miss _ _ _ _ _ _ _ _ _ _ _ _ _ (.inr (.inl hn))).trans ?_
  exact (cv_miss _ _ _ _ _ _ _ _ _ _ _ _ _ (.inr (.inl hn)))

/-- The padded codes after the first `n` lane blocks. -/
theorem codes_value (c : Dev nD) (f0 : MBuf (F := Ideal) c M0) (f10 : MBuf (F := Ideal) c M10) (f11 : MBuf (F := Ideal) c M11) :
    ∀ (n : ℕ) (hn : n ≤ 20) (j : Fin 3) (ct : Fin 20) (_ : ct.val < n) (R : Fin 384) (l : Fin 128) (_ : 24 ≤ R.val) (_ : R.val < 344),
      cv c f11 (codesUpTo c f0 f10 f11 n hn) j ct R l = rowQ (qAt c f0 f10 ct.val ct.isLt) j.val R.val l := by
  intro n
  induction n with
  | zero => intro _ _ ct h; exact absurd h (by omega)
  | succ n ih =>
    intro hn j ct h R l h1 h2
    rw [codesUpTo]
    by_cases e : ct.val = n
    · obtain rfl : ct = ⟨n, hn⟩ := Fin.ext e
      exact own_step c f11 n hn _ _ j R l h1 h2
    · rw [other_step c f11 n hn _ _ j ct e R l]
      exact ih (by omega) j ct (by omega) R l h1 h2

end Cert.KernelIdeal.Hand
-- ==== Proof.Scale.lean ====
/-
  The scale of one image, over the extended reals: counting the powers of two that do not exceed t gives the exponent of
  the smallest power of two above t.
-/
module

public import proofs.«01_k».proof.Proof.Codes
public import Idealize.ShloMosaic.Lib.BitcastPair

@[expose] public section

set_option maxRecDepth 16384

noncomputable section

namespace Cert.KernelIdeal.Hand

open Cert.KernelIdeal Cert.KernelIdeal.Gen
open Idealize.ShloMosaic Idealize.ShloMosaic.TcCoe

/-- The power of two with biased exponent `k`. -/
def pk (k : ℕ) : EReal := (((2 : ℝ) ^ ((k : ℤ) - 127) : ℝ) : EReal)

theorem pk_lt {a b : ℕ} (h : a < b) : pk a < pk b := by
  rw [pk, pk, EReal.coe_lt_coe_iff]
  exact zpow_lt_zpow_right₀ (by norm_num) (by omega)

theorem pk_pos (a : ℕ) : 0 < pk a := by
  rw [pk, ← EReal.coe_zero, EReal.coe_lt_coe_iff]
  positivity

theorem pk_top (a : ℕ) : pk a < ⊤ := EReal.coe_lt_top _

theorem wordBits : ∀ k : Fin 256, (BitVec.ofNat 32 (k.val * 2 ^ 23)).extractLsb' 31 1 = 0#1
    ∧ ((BitVec.ofNat 32 (k.val * 2 ^ 23)).extractLsb' 23 8).toNat = k.val
    ∧ ((BitVec.ofNat 32 (k.val * 2 ^ 23)).extractLsb' 0 23).toNat = 0 := by
  decide +kernel

theorem halfBits : ∀ k : Fin 256, (BitVec.ofNat 16 (k.val * 2 ^ 7)).extractLsb' 15 1 = 0#1
    ∧ ((BitVec.ofNat 16 (k.val * 2 ^ 7)).extractLsb' 7 8).toNat = k.val
    ∧ ((BitVec.ofNat 16 (k.val * 2 ^ 7)).extractLsb' 0 7).toNat = 0 := by
  decide +kernel

/-- The f32 word with exponent field `k` and nothing else. -/
theorem ofBits_pk (k : ℕ) (h1 : 1 ≤ k) (h2 : k ≤ 254) : Ideal.ofBits .f32 (BitVec.ofNat 32 (k * 2 ^ 23)) = pk k := by
  obtain ⟨a, b, d⟩ := wordBits ⟨k, by omega⟩
  simp only at a b d
  have e : ((2 : ℝ) ^ 23) * (2 : ℝ) ^ ((k : ℤ) - 127 - 23) = (2 : ℝ) ^ ((k : ℤ) - 127) := by
    rw [← zpow_natCast, ← zpow_add₀ (by norm_num)]
    congr 1
    push_cast
    ring
  show Ideal.ieee 8 23 (BitVec.ofNat 32 (k * 2 ^ 23)) = _
  unfold Ideal.ieee
  simp only [show 8 + 23 = 31 from rfl, a, b, d]
  rw [if_neg (by omega), if_neg (by omega), pk, ← e]
  norm_num

theorem ofBits_top : Ideal.ofBits .f32 (BitVec.ofNat 32 (255 * 2 ^ 23)) = ⊤ := by
  obtain ⟨a, b, d⟩ := wordBits 255
  simp only [show (255 : Fin 256).val = 255 from rfl] at a b d
  show Ideal.ieee 8 23 (BitVec.ofNat 32 (255 * 2 ^ 23)) = _
  unfold Ideal.ieee
  simp only [show 8 + 23 = 31 from rfl, a, b, d]
  simp

/-- The bf16 word with exponent field `k` and nothing else. -/
theorem ofBits_pk16 (k : ℕ) (h1 : 1 ≤ k) (h2 : k ≤ 254) : Ideal.ofBits .bf16 (BitVec.ofNat 16 (k * 2 ^ 7)) = pk k := by
  obtain ⟨a, b, d⟩ := halfBits ⟨k, by omega⟩
  simp only at a b d
  have e : ((2 : ℝ) ^ 7) * (2 : ℝ) ^ ((k : ℤ) - 127 - 7) = (2 : ℝ) ^ ((k : ℤ) - 127) := by
    rw [← zpow_natCast, ← zpow_add₀ (by norm_num)]
    congr 1
    push_cast
    ring
  show Ideal.ieee 8 7 (BitVec.ofNat 16 (k * 2 ^ 7)) = _
  unfold Ideal.ieee
  simp only [show 8 + 7 = 15 from rfl, a, b, d]
  rw [if_neg (by omega), if_neg (by omega), pk, ← e]
  norm_num

open scoped Classical in
/-- How many of the normal powers of two do not exceed `t`. -/
def expo (t : EReal) : ℕ := Nat.findGreatest (fun k => 1 ≤ k ∧ pk k ≤ t) 254

theorem expo_le (t : EReal) : expo t ≤ 254 := Nat.findGreatest_le _

theorem pk_le_iff (t : EReal) (k : ℕ) (h1 : 1 ≤ k) (h2 : k ≤ 254) : pk k ≤ t ↔ k ≤ expo t := by
  classical
  constructor
  · intro h
    exact Nat.le_findGreatest h2 ⟨h1, h⟩
  · intro h
    have h0 : expo t ≠ 0 := by omega
    have := (Nat.findGreatest_of_ne_zero (P := fun k => 1 ≤ k ∧ pk k ≤ t) rfl h0).2
    rcases Nat.lt_or_eq_of_le h with h | h
    · exact (pk_lt h).le.trans this
    · rw [h]; exact this

theorem expo_lt (t : EReal) (h : t < pk 253) : expo t ≤ 252 := by
  by_contra hc
  exact absurd ((pk_le_iff t 253 (by decide) (by decide)).2 (by omega)) (not_le.2 h)

theorem expo_zero : expo 0 = 0 := by
  by_contra hc
  exact absurd ((pk_le_iff 0 1 (by decide) (by decide)).2 (by omega)) (not_le.2 (pk_pos 1))

/-- The scale: the smallest power of two above `t`, or one below the normal numbers. -/
def scaleOf (t : EReal) : EReal := pk (if expo t = 0 then 127 else expo t + 1)

/-- Its reciprocal. -/
def invOf (t : EReal) : EReal := pk (if expo t = 0 then 127 else 253 - expo t)

theorem count_word : ∀ n : Fin 256, Finset.fold IntOp.addi 0#32 (fun x : Fin 256 => if x.val < n.val then 1#32 else 0#32) Finset.univ
    = BitVec.ofNat 32 n.val := by
  decide +kernel

theorem shl_word : ∀ x : Fin 256, IntOp.shli ArithUnit.vector (IntOp.addi (BitVec.ofNat 32 x.val) 1#32) 23#32
    = BitVec.ofNat 32 ((x.val + 1) * 2 ^ 23) := by
  decide +kernel

theorem guard_word : ∀ x : Fin 256, IntOp.cmpi CmpIPredicate.slt (BitVec.ofNat 32 x.val) 255#32 = if x.val < 255 then 1#1 else 0#1 := by
  decide +kernel

/-- The body's count. -/
theorem count_eq (t : EReal) (ht : t < ⊤) :
    Finset.fold IntOp.addi 0#32 (fun x : Fin 256 => BitVec.setWidth 32
      (IntOp.andi (IntOp.cmpi CmpIPredicate.slt (BitVec.ofNat 32 x.val) 255#32)
        (BitVec.ofBool (decide (Ideal.ofBits FTy.f32 (IntOp.shli ArithUnit.vector (IntOp.addi (BitVec.ofNat 32 x.val) 1#32) 23#32) ≤ t)))))
      Finset.univ = BitVec.ofNat 32 (expo t) := by
  rw [← count_word ⟨expo t, by have := expo_le t; omega⟩]
  congr 1
  funext x
  rw [shl_word, guard_word]
  have he := expo_le t
  by_cases h : x.val < 254
  · rw [ofBits_pk _ (by omega) (by omega), if_pos (by omega)]
    by_cases hx : x.val < expo t
    · rw [if_pos hx, decide_eq_true ((pk_le_iff t _ (by omega) (by omega)).2 (by omega))]
      decide
    · rw [if_neg hx, decide_eq_false (fun hc => hx (by have := (pk_le_iff t _ (by omega) (by omega)).1 hc; omega))]
      decide
  · have hx : ¬ x.val < (⟨expo t, by omega⟩ : Fin 256).val := by show ¬ x.val < expo t; omega
    rw [if_neg hx]
    by_cases h' : x.val = 254
    · rw [h', show (254 + 1) * 2 ^ 23 = 255 * 2 ^ 23 from rfl, ofBits_top, decide_eq_false (not_le.2 ht), if_pos (by decide)]
      rfl
    · rw [if_neg (by omega)]
      generalize (BitVec.ofBool _ : BitVec 1) = b
      revert b
      decide

/-- The exponent as the body selects it from the count. -/
def expWord (n : BitVec 32) : BitVec 32 :=
  Scalar.select (IntOp.ori (IntOp.cmpi CmpIPredicate.eq n 0#32) (IntOp.cmpi CmpIPredicate.eq n 255#32)) 0#32 (IntOp.subi n 126#32)

theorem scale_word : ∀ n : Fin 253, IntOp.shli ArithUnit.vector (IntOp.addi (expWord (BitVec.ofNat 32 n.val)) 127#32) 23#32
    = BitVec.ofNat 32 ((if n.val = 0 then 127 else n.val + 1) * 2 ^ 23) := by
  decide +kernel

theorem inv_word : ∀ n : Fin 253, IntOp.shli ArithUnit.vector (IntOp.addi (IntOp.subi 0#32 (expWord (BitVec.ofNat 32 n.val))) 127#32) 23#32
    = BitVec.ofNat 32 ((if n.val = 0 then 127 else 253 - n.val) * 2 ^ 23) := by
  decide +kernel

theorem low_half : ∀ k : Fin 256, (IntOp.shrui ArithUnit.vector (BitVec.ofNat 32 (k.val * 2 ^ 23)) 16#32).extractLsb' 0 16 = BitVec.ofNat 16 (k.val * 2 ^ 7)
    ∧ (IntOp.shrui ArithUnit.vector (BitVec.ofNat 32 (k.val * 2 ^ 23)) 16#32).extractLsb' 16 16 = 0#16
    ∧ (BitVec.ofNat 32 (k.val * 2 ^ 23)).extractLsb' 0 16 = 0#16
    ∧ (BitVec.ofNat 32 (k.val * 2 ^ 23)).extractLsb' 16 16 = BitVec.ofNat 16 (k.val * 2 ^ 7) := by
  decide +kernel

/-- The factor from an image's largest magnitude to `t`. -/
abbrev kap : EReal := Ideal.ofBits FTy.f32 991054117#32

theorem pay6_value (v : FVec Ideal S1x1x1 .f32) (ht : v (ix3 0 0 0) * kap < ⊤) :
    k0_pay6 v (ix2 0 0) = expWord (BitVec.ofNat 32 (expo (v (ix3 0 0 0) * kap))) := by
  pointwise [k0_pay6]
  by_cases h : v (ix3 0 0 0) = 0
  · rw [if_pos h, h, zero_mul, expo_zero]
    decide
  · rw [if_neg h, count_eq _ ht]
    rfl

theorem pay9_value (v : FVec Ideal S1x1 .f32) (ht : v (ix2 0 0) * kap < ⊤) (w : FVec Ideal S1x1 .f32) (hw : w (ix2 0 0) = v (ix2 0 0) * kap) :
    k0_pay9 v w k0_pay8 (ix2 0 0) = expWord (BitVec.ofNat 32 (expo (v (ix2 0 0) * kap))) := by
  pointwise [k0_pay9, k0_pay8]
  rw [hw]
  by_cases h : v (ix2 0 0) = 0
  · rw [if_pos h, h, zero_mul, expo_zero]
    decide
  · rw [if_neg h, count_eq _ ht]
    rfl

theorem pay7_value (v : FVec Ideal S8x128 .f32) : k0_pay7 v (ix2 0 0) = k0_pay5 v (ix2 0 0) * kap := by
  pointwise [k0_pay7]

theorem pay10_value (v : IVec S1x1 32) (t : EReal) (ht : t < pk 253) (hv : v (ix2 0 0) = expWord (BitVec.ofNat 32 (expo t))) :
    k0_pay10 (F := Ideal) v (ix2 0 0) = scaleOf t := by
  pointwise [k0_pay10]
  have hl := expo_lt t ht
  rw [hv, scale_word ⟨expo t, by omega⟩, scaleOf, ofBits_pk]
  · dsimp only; split_ifs <;> omega
  · dsimp only; split_ifs <;> omega

theorem pay11_value (v w : FVec Ideal S1x1 .f32) (t : EReal) (ht : t < pk 253)
    (hv : k0_pay9 v w k0_pay8 (ix2 0 0) = expWord (BitVec.ofNat 32 (expo t))) :
    k0_pay11 (F := Ideal) v w k0_pay8 (ix2 0 0) = scaleOf t := by
  have h := pay10_value (k0_pay9 v w k0_pay8) t ht hv
  exact h

/-- Words all equal, viewed as halves. -/
theorem pair_const (w : S8x128.Idx → BitVec 32) (h : Shape.Bitcasts S8x128 32 S16x128 16) (u : BitVec 32) (hw : ∀ i, w i = u)
    (r : Fin 16) (l : Fin 128) : bitcast S16x128 16 w h (ix2 r l) = u.extractLsb' (16 * (r.val % 2)) 16 := by
  refine (bitcast_32_16 w h (ix2 r l)).trans ?_
  rw [hw]
  rfl

/-- The reciprocals' rows: image 0 in the even rows, image 1 in the odd ones. -/
theorem pay14_value (v v' : IVec S1x1 32) (n n' : ℕ) (h1 : 1 ≤ n) (h2 : n ≤ 254) (h1' : 1 ≤ n') (h2' : n' ≤ 254)
    (hv : v (ix2 0 0) = BitVec.ofNat 32 (n * 2 ^ 23))
    (hv' : IntOp.shli ArithUnit.vector (v' (ix2 0 0)) 23#32 = BitVec.ofNat 32 (n' * 2 ^ 23)) (r : Fin 16) (l : Fin 128) :
    k0_pay14 (F := Ideal) v v' 23#32 (ix2 r l) = pk (if r.val % 2 = 0 then n' else n) := by
  pointwise [k0_pay14]
  obtain ⟨a, b, -, -⟩ := low_half ⟨n', by omega⟩
  obtain ⟨-, -, d, e⟩ := low_half ⟨n, by omega⟩
  rw [pair_const _ _ (BitVec.ofNat 32 (n * 2 ^ 23) ||| IntOp.shrui ArithUnit.vector (BitVec.ofNat 32 (n' * 2 ^ 23)) 16#32)]
  · by_cases hr : r.val % 2 = 0
    · rw [hr, if_pos rfl, BitVec.extractLsb'_or]
      show Ideal.ofBits .bf16 (BitVec.extractLsb' 0 16 _ ||| BitVec.extractLsb' 0 16 _) = _
      rw [d, a, BitVec.zero_or, ofBits_pk16 _ h1' h2']
    · rw [show r.val % 2 = 1 by omega, if_neg (by decide), BitVec.extractLsb'_or]
      show Ideal.ofBits .bf16 (BitVec.extractLsb' 16 16 _ ||| BitVec.extractLsb' 16 16 _) = _
      rw [b, e, BitVec.or_zero, ofBits_pk16 _ h1 h2]
  · intro i
    pointwise
    rw [hv, hv']
    rfl

theorem pay15_value (v v' : FVec Ideal S1x1 .f32) (b : Fin 2) :
    k0_pay15 v v' (ix1 b) = if b.val = 0 then v (ix2 0 0) else v' (ix2 0 0) := by
  pointwise [k0_pay15]
  have : ∀ b : Fin 2, IntOp.cmpi CmpIPredicate.eq (BitVec.ofNat 32 b.val) 0#32 = if b.val = 0 then 1#1 else 0#1 := by decide
  rw [this]
  split_ifs <;> rfl

end Cert.KernelIdeal.Hand
-- ==== Proof.Inputs.lean ====
/-
  What the input's memory holds after its two transfers, and the codes of a lane block, over the extended reals.
-/
module

public import proofs.«01_k».proof.Proof.Codes
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

/-- The input as the region finds it. -/
abbrev xArr (c : Dev nD) (f0 : MBuf (F := Ideal) c M0) : S120x20x2x128.Idx → EReal := M0.view.read (Elt Ideal) f0

/-- A squeezed half, unsqueezed. -/
theorem half_apply (w : S60x20x2x128.Idx → EReal) (p : Fin 60) (ct : Fin 20) (b : Fin 2) (l : Fin 128) :
    shapeCast (α := EReal) S60x1x20x2x128 w (by decide) (ix5 p 0 ct b l) = w (ix4 p ct b l) := by
  pointwise

/-- A write of one half, as a write of a block. -/
theorem half_write (c : Dev nD) (g : MBuf (F := Ideal) c M10) (k : ℕ) (hk : k < 2) (w : S60x20x2x128.Idx → EReal) :
    (xsHalf k hk).view.write (Elt Ideal) g w Finset.univ
      = M10.view.writes (Elt Ideal) g [⟨Rect.unit (s := S64x2x20x2x128) ![0, k, 0, 0, 0] S60x1x20x2x128.size (hInb hk),
          shapeCast (α := EReal) S60x1x20x2x128 w (by decide)⟩] := by
  exact View.write_reshape_univ (M10.view.slice (Rect.unit (s := S64x2x20x2x128) ![0, k, 0, 0, 0] S60x1x20x2x128.size (hInb hk))) _ g w

theorem dma0_apply (c : Dev nD) (f0 : MBuf (F := Ideal) c M0) (p : Fin 60) (ct : Fin 20) (b : Fin 2) (l : Fin 128) :
    bodyRun.sl.dma0 c f0 (ix4 p ct b l) = xArr c f0 (ix4 ⟨p.val, by omega⟩ ct b l) := by
  have e : (Rect.unit (s := S120x20x2x128) ![0, 0, 0, 0] S60x20x2x128.size inb_S120x20x2x128_S60x20x2x128_0_0_0_0).emb (ix4 p ct b l)
      = ix4 ⟨p.val, by omega⟩ ct b l := Rect.emb_eq_of_coords _ _ _ fun a => by
    match a with
    | 0 => show p.val = 0 + 1 * p.val; omega
    | 1 => show ct.val = 0 + 1 * ct.val; omega
    | 2 => show b.val = 0 + 1 * b.val; omega
    | 3 => show l.val = 0 + 1 * l.val; omega
  rw [← e]
  rfl

theorem dma0_1_apply (c : Dev nD) (f0 : MBuf (F := Ideal) c M0) (p : Fin 60) (ct : Fin 20) (b : Fin 2) (l : Fin 128) :
    bodyRun.sl.dma0_1 c f0 (ix4 p ct b l) = xArr c f0 (ix4 ⟨60 + p.val, by omega⟩ ct b l) := by
  have e : (Rect.unit (s := S120x20x2x128) ![60, 0, 0, 0] S60x20x2x128.size inb_S120x20x2x128_S60x20x2x128_60_0_0_0).emb (ix4 p ct b l)
      = ix4 ⟨60 + p.val, by omega⟩ ct b l := Rect.emb_eq_of_coords _ _ _ fun a => by
    match a with
    | 0 => show 60 + p.val = 60 + 1 * p.val; omega
    | 1 => show ct.val = 0 + 1 * ct.val; omega
    | 2 => show b.val = 0 + 1 * b.val; omega
    | 3 => show l.val = 0 + 1 * l.val; omega
  rw [← e]
  rfl

theorem half_hit (c : Dev nD) (g : MBuf (F := Ideal) c M10) (k : ℕ) (hk : k < 2) (w : S60x20x2x128.Idx → EReal)
    (p : Fin 64) (hp : p.val < 60) (k' : Fin 2) (h : k'.val = k) (ct : Fin 20) (b : Fin 2) (l : Fin 128) :
    M10.view.read (Elt Ideal) ((xsHalf k hk).view.write (Elt Ideal) g w Finset.univ) (ix5 p k' ct b l) = w (ix4 ⟨p.val, hp⟩ ct b l) := by
  rw [half_write, ← half_apply w ⟨p.val, hp⟩ ct b l]
  refine View.read_writes_cons_hit_of_coords M10.view g (Rect.unit (s := S64x2x20x2x128) ![0, k, 0, 0, 0] S60x1x20x2x128.size (hInb hk)) _ []
    (ix5 ⟨p.val, hp⟩ 0 ct b l) (ix5 p k' ct b l) ?_
  intro a
  match a with
  | 0 => show p.val = 0 + 1 * p.val; omega
  | 1 => show k'.val = k + 1 * 0; omega
  | 2 => show ct.val = 0 + 1 * ct.val; omega
  | 3 => show b.val = 0 + 1 * b.val; omega
  | 4 => show l.val = 0 + 1 * l.val; omega

theorem half_miss (c : Dev nD) (g : MBuf (F := Ideal) c M10) (k : ℕ) (hk : k < 2) (w : S60x20x2x128.Idx → EReal)
    (p : Fin 64) (k' : Fin 2) (h : k'.val ≠ k) (ct : Fin 20) (b : Fin 2) (l : Fin 128) :
    M10.view.read (Elt Ideal) ((xsHalf k hk).view.write (Elt Ideal) g w Finset.univ) (ix5 p k' ct b l)
      = M10.view.read (Elt Ideal) g (ix5 p k' ct b l) := by
  rw [half_write]
  exact View.read_writes_cons_miss_of_axis M10.view g ⟨Rect.unit (s := S64x2x20x2x128) ![0, k, 0, 0, 0] S60x1x20x2x128.size (hInb hk), _⟩ []
    (ix5 p k' ct b l) 1 k 1 rfl rfl rfl (by show k'.val < k ∨ k + 1 ≤ k'.val; omega)

/-- The input in memory, without its zero tail. -/
theorem xsIn_read (c : Dev nD) (f0 : MBuf (F := Ideal) c M0) (f10 : MBuf (F := Ideal) c M10)
    (p : Fin 64) (hp : p.val < 60) (k : Fin 2) (ct : Fin 20) (b : Fin 2) (l : Fin 128) :
    M10.view.read (Elt Ideal) (xsIn c f0 f10) (ix5 p k ct b l) = xArr c f0 (ix4 ⟨k.val * 60 + p.val, by omega⟩ ct b l) := by
  unfold xsIn
  by_cases hk : k.val = 1
  · refine (half_hit c _ 1 _ _ p hp k hk ct b l).trans ((dma0_1_apply c f0 _ ct b l).trans ?_)
    exact congrArg (xArr c f0) (congrArg (ix4 · ct b l) (Fin.ext (by show 60 + p.val = k.val * 60 + p.val; omega)))
  · refine (half_miss c _ 1 _ _ p k hk ct b l).trans ((half_hit c _ 0 _ _ p hp k (by omega) ct b l).trans ((dma0_apply c f0 _ ct b l).trans ?_))
    exact congrArg (xArr c f0) (congrArg (ix4 · ct b l) (Fin.ext (by show p.val = k.val * 60 + p.val; omega)))

/-- The input in memory, with its zero tail. -/
theorem xsBuf_read (c : Dev nD) (f0 : MBuf (F := Ideal) c M0) (f10 : MBuf (F := Ideal) c M10)
    (p : Fin 64) (hp : p.val < 60) (k : Fin 2) (ct : Fin 20) (b : Fin 2) (l : Fin 128) :
    M10.view.read (Elt Ideal) (xsBuf c f0 f10) (ix5 p k ct b l) = xArr c f0 (ix4 ⟨k.val * 60 + p.val, by omega⟩ ct b l) := by
  refine Eq.trans ?_ (xsIn_read c f0 f10 p hp k ct b l)
  exact View.read_writes_cons_miss_of_axis M10.view _ _ [] _ 0 60 4 rfl rfl rfl (.inl hp)

theorem rawq_apply (c : Dev nD) (f0 : MBuf (F := Ideal) c M0) (f10 : MBuf (F := Ideal) c M10) (ct : Fin 20) (h : _)
    (p : Fin 64) (hp : p.val < 60) (k : Fin 2) (b : Fin 2) (l : Fin 128) :
    rawq c f0 f10 ct.val h (ix5 p k 0 b l) = xArr c f0 (ix4 ⟨k.val * 60 + p.val, by omega⟩ ct b l) := by
  rw [← xsBuf_read c f0 f10 p hp k ct b l]
  have e : (Rect.unit (s := S64x2x20x2x128) ![0, 0, ct.val, 0, 0] S64x2x1x2x128.size h).emb (ix5 p k 0 b l)
      = ix5 p k ct b l := Rect.emb_eq_of_coords _ _ _ fun a => by
    match a with
    | 0 => show p.val = 0 + 1 * p.val; omega
    | 1 => show k.val = 0 + 1 * k.val; omega
    | 2 => show ct.val = ct.val + 1 * 0; omega
    | 3 => show b.val = 0 + 1 * b.val; omega
    | 4 => show l.val = 0 + 1 * l.val; omega
  rw [← e]
  rfl

theorem rows_apply (raw : Vec Ideal S64x2x1x2x128 .bf16) (r : Fin 256) (l : Fin 128) :
    interleaveRows S256x128
          (shapeCast S128x128 (rowsOfParity 0 S64x2x1x1x128 raw bitcasts_S64x2x1x2x128_w16_S64x2x1x1x128_w32) shapeCasts_S64x2x1x1x128_S128x128)
          (shapeCast S128x128 (rowsOfParity 1 S64x2x1x1x128 raw bitcasts_S64x2x1x2x128_w16_S64x2x1x1x128_w32) shapeCasts_S64x2x1x1x128_S128x128)
          bitcasts_S256x128_w16_S128x128_w32 (ix2 r l)
      = raw (ix5 ⟨r.val / 4, by omega⟩ ⟨r.val / 2 % 2, by omega⟩ 0 ⟨r.val % 2, by omega⟩ l) := by
  pointwise
  have h4 : r.val / 2 / 2 = r.val / 4 := by omega
  by_cases h : r.val % 2 = 0
  · rw [if_pos h]
    congr 2
    · exact Fin.ext h4
    · exact Fin.ext h.symm
  · rw [if_neg h]
    congr 2
    · exact Fin.ext h4
    · exact Fin.ext (by show 1 = r.val % 2; omega)

theorem tile16_apply (inv : FVec Ideal S16x128 .bf16) (h : _) (r : Fin 256) (l : Fin 128) :
    concatenate S256x128 0 [⟨S16x128, inv⟩, ⟨S16x128, inv⟩, ⟨S16x128, inv⟩, ⟨S16x128, inv⟩, ⟨S16x128, inv⟩, ⟨S16x128, inv⟩,
          ⟨S16x128, inv⟩, ⟨S16x128, inv⟩, ⟨S16x128, inv⟩, ⟨S16x128, inv⟩, ⟨S16x128, inv⟩, ⟨S16x128, inv⟩, ⟨S16x128, inv⟩,
          ⟨S16x128, inv⟩, ⟨S16x128, inv⟩, ⟨S16x128, inv⟩] h (ix2 r l) = inv (ix2 ⟨r.val % 16, by omega⟩ l) := by
  refine concatenate_ofFn_apply (t := S256x128) (s₁ := S16x128) 0 (N := 16) (fun _ => inv) h rfl 16 rfl (ix2 r l) ⟨r.val / 16, by omega⟩ rfl (ix2 ⟨r.val % 16, by omega⟩ l) rfl ?_
  intro b hb
  match b with
  | 0 => exact absurd rfl hb
  | 1 => rfl

theorem quant_apply (inv : FVec Ideal S16x128 .bf16) (raw : Vec Ideal S64x2x1x2x128 .bf16) (r : Fin 256) (l : Fin 128) :
    quant inv raw (ix2 r l) = min (Ideal.ofBits .bf16 0x43E0#16) (max (Ideal.ofBits .bf16 0xC3E0#16)
      (raw (ix5 ⟨r.val / 4, by omega⟩ ⟨r.val / 2 % 2, by omega⟩ 0 ⟨r.val % 2, by omega⟩ l) * inv (ix2 ⟨r.val % 16, by omega⟩ l))) := by
  have h1 := rows_apply raw r l
  have h2 := tile16_apply inv concatenates_S16x128_S16x128_S16x128_S16x128_S16x128_S16x128_S16x128_S16x128_S16x128_S16x128_S16x128_S16x128_S16x128_S16x128_S16x128_S16x128_S256x128_d0 r l
  rw [← h1, ← h2]
  rfl

/-- The codes of a lane block: an image's value times the reciprocal of its scale, clipped. -/
theorem qAt_apply (c : Dev nD) (f0 : MBuf (F := Ideal) c M0) (f10 : MBuf (F := Ideal) c M10) (ct : Fin 20) (r : Fin 256) (hr : r.val < 240) (l : Fin 128) :
    qAt c f0 f10 ct.val ct.isLt (ix2 r l) = min (Ideal.ofBits .bf16 0x43E0#16) (max (Ideal.ofBits .bf16 0xC3E0#16)
      (xArr c f0 (ix4 ⟨r.val / 2 % 2 * 60 + r.val / 4, by omega⟩ ct ⟨r.val % 2, by omega⟩ l) * bodyRun.sl.r_9 c f0 f10 (ix2 ⟨r.val % 16, by omega⟩ l))) := by
  rw [qAt, quant_apply, rawq_apply c f0 f10 ct _ ⟨r.val / 4, by omega⟩ (by show r.val / 4 < 60; omega)]

end Cert.KernelIdeal.Hand
-- ==== Proof.ScaleVal.lean ====
/-
  The body's scales and reciprocals are those of the two images' largest magnitudes.
-/
module

public import proofs.«01_k».proof.Proof.Scale
public import proofs.«01_k».proof.Proof.Inputs
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- Image `b`'s largest magnitude. -/
def amax (x : S2x12x10x2560.Idx → EReal) (b : Fin 2) : EReal :=
  Finset.univ.fold max ⊥ fun p : Fin 12 × Fin 10 × Fin 2560 => max (x (ix4 b p.1 p.2.1 p.2.2)) (-x (ix4 b p.1 p.2.1 p.2.2))

theorem amax_le (x : S2x12x10x2560.Idx → EReal) (b : Fin 2) (y : EReal) :
    amax x b ≤ y ↔ ∀ (h : Fin 12) (w : Fin 10) (k : Fin 2560), max (x (ix4 b h w k)) (-x (ix4 b h w k)) ≤ y := by
  unfold amax
  rw [Finset.fold_max_le]
  exact ⟨fun h a b c => h.2 (a, b, c) (Finset.mem_univ _), fun h => ⟨bot_le, fun p _ => h p.1 p.2.1 p.2.2⟩⟩

theorem amax_nonneg (x : S2x12x10x2560.Idx → EReal) (b : Fin 2) : 0 ≤ amax x b := by
  refine le_trans ?_ ((amax_le x b _).1 le_rfl 0 0 0)
  rcases le_total 0 (x (ix4 b 0 0 0)) with h | h
  · exact le_max_of_le_left h
  · exact le_max_of_le_right (EReal.neg_nonneg.2 h)

/-- The number whose next power of two is the scale. -/
def tOf (x : S2x12x10x2560.Idx → EReal) (b : Fin 2) : EReal := amax x b * kap

/-- Every magnitude is at most the largest finite bf16. -/
def Finite (x : S2x12x10x2560.Idx → EReal) : Prop := ∀ i, max (x i) (-x i) ≤ pk 255

theorem kap_nonneg : 0 ≤ kap := by
  unfold kap
  simp [Ideal.ofBits, Ideal.ieee, -EReal.coe_mul]

theorem kap_lt : pk 255 * kap < pk 253 := by
  unfold kap pk
  rw [show Ideal.ofBits .f32 991054117#32 = (((9586981 : ℝ) * (2 ^ 32)⁻¹ : ℝ) : EReal) by simp [Ideal.ofBits, Ideal.ieee, -EReal.coe_mul]]
  rw [← EReal.coe_mul, EReal.coe_lt_coe_iff]
  norm_num

theorem tOf_lt (x : S2x12x10x2560.Idx → EReal) (hx : Finite x) (b : Fin 2) : tOf x b < pk 253 := by
  refine lt_of_le_of_lt ?_ kap_lt
  exact mul_le_mul_of_nonneg_right ((amax_le x b _).2 fun h w k => hx _) kap_nonneg

/-- What the region finds in the input's array, from the kernel's argument. -/
def HX (c : Dev nD) (f0 : MBuf (F := Ideal) c M0) (x : S2x12x10x2560.Idx → EReal) : Prop :=
  ∀ (s : Fin 120) (ct : Fin 20) (b : Fin 2) (l : Fin 128),
    xArr c f0 (ix4 s ct b l) = x (ix4 b ⟨s.val / 10, by omega⟩ ⟨s.val % 10, by omega⟩ ⟨ct.val * 128 + l.val, by omega⟩)

theorem v88_apply (c : Dev nD) (f0 : MBuf (F := Ideal) c M0) (f10 : MBuf (F := Ideal) c M10) (p : Fin 60) (k : Fin 2) (ct : Fin 20) (b : Fin 2) (l : Fin 128) :
    bodyRun.sl.v88_raw c f0 f10 (ix5 p k ct b l) = xArr c f0 (ix4 ⟨k.val * 60 + p.val, by omega⟩ ct b l) := by
  rw [← xsIn_read c f0 f10 ⟨p.val, by omega⟩ p.isLt k ct b l]
  have e : (Rect.unit (s := S64x2x20x2x128) ![0, 0, 0, 0, 0] S60x2x20x2x128.size inb_S64x2x20x2x128_S60x2x20x2x128_0_0_0_0_0).emb (ix5 p k ct b l)
      = ix5 ⟨p.val, by omega⟩ k ct b l := Rect.emb_eq_of_coords _ _ _ fun a => by
    match a with
    | 0 => show p.val = 0 + 1 * p.val; omega
    | 1 => show k.val = 0 + 1 * k.val; omega
    | 2 => show ct.val = 0 + 1 * ct.val; omega
    | 3 => show b.val = 0 + 1 * b.val; omega
    | 4 => show l.val = 0 + 1 * l.val; omega
  exact congrArg (M10.view.read (Elt Ideal) (xsIn c f0 f10)) e

theorem f32_bot : Ideal.ofBits .f32 4286578688#32 = ⊥ := by
  simp [Ideal.ofBits, Ideal.ieee]

/-- The reduction's two stages run over every position, lane block and lane. -/
theorem stages_eq (v : S60x2x20x2x128.Idx → EReal) (b : Fin 2) (A : EReal)
    (h : ∀ y : EReal, A ≤ y ↔ ∀ (p : Fin 60) (k : Fin 2) (ct : Fin 20) (l : Fin 128), max (v (ix5 p k ct b l)) (-v (ix5 p k ct b l)) ≤ y) :
    Finset.fold max ⊥ (fun x : Fin 8 × Fin 128 => Finset.fold max ⊥ (fun z : Fin 300 =>
      max (v (ix5 ⟨(z.val * 8 + x.1.val) / 40, by omega⟩ ⟨(z.val * 8 + x.1.val) / 20 % 2, by omega⟩ ⟨(z.val * 8 + x.1.val) % 20, by omega⟩ b x.2))
        (-v (ix5 ⟨(z.val * 8 + x.1.val) / 40, by omega⟩ ⟨(z.val * 8 + x.1.val) / 20 % 2, by omega⟩ ⟨(z.val * 8 + x.1.val) % 20, by omega⟩ b x.2)))
      Finset.univ) Finset.univ = A := by
  refine eq_of_forall_ge_iff fun y => ?_
  rw [h y, Finset.fold_max_le]
  simp only [Finset.fold_max_le, bot_le, true_and, Finset.mem_univ, true_implies]
  constructor
  · intro hh p k ct l
    have := hh (⟨(p.val * 40 + k.val * 20 + ct.val) % 8, by omega⟩, l) ⟨(p.val * 40 + k.val * 20 + ct.val) / 8, by omega⟩
    have e1 : (⟨((p.val * 40 + k.val * 20 + ct.val) / 8 * 8 + (p.val * 40 + k.val * 20 + ct.val) % 8) / 40, by omega⟩ : Fin 60) = p := Fin.ext (by show _ / 40 = _; omega)
    have e2 : (⟨((p.val * 40 + k.val * 20 + ct.val) / 8 * 8 + (p.val * 40 + k.val * 20 + ct.val) % 8) / 20 % 2, by omega⟩ : Fin 2) = k := Fin.ext (by show _ / 20 % 2 = _; omega)
    have e3 : (⟨((p.val * 40 + k.val * 20 + ct.val) / 8 * 8 + (p.val * 40 + k.val * 20 + ct.val) % 8) % 20, by omega⟩ : Fin 20) = ct := Fin.ext (by show _ % 20 = _; omega)
    simp only [e1, e2, e3] at this
    exact this
  · intro hh x z
    exact hh _ _ _ _

theorem pay4_value (v : Vec Ideal S60x2x20x2x128 .bf16) (A : EReal)
    (h : ∀ y : EReal, A ≤ y ↔ ∀ (p : Fin 60) (k : Fin 2) (ct : Fin 20) (l : Fin 128), max (v (ix5 p k ct 0 l)) (-v (ix5 p k ct 0 l)) ≤ y) :
    k0_pay4 v (ix3 0 0 0) = A := by
  pointwise [k0_pay4]
  rw [f32_bot]
  exact stages_eq v 0 A h

theorem pay5_value (v : Vec Ideal S60x2x20x2x128 .bf16) (A : EReal)
    (h : ∀ y : EReal, A ≤ y ↔ ∀ (p : Fin 60) (k : Fin 2) (ct : Fin 20) (l : Fin 128), max (v (ix5 p k ct 1 l)) (-v (ix5 p k ct 1 l)) ≤ y) :
    k0_pay5 (k0_pay3 v) (ix2 0 0) = A := by
  pointwise [k0_pay5, k0_pay3]
  rw [f32_bot]
  exact stages_eq v 1 A h

/-- The block the reduction reads holds image `b` whole. -/
theorem amax_block (c : Dev nD) (f0 : MBuf (F := Ideal) c M0) (f10 : MBuf (F := Ideal) c M10) (x : S2x12x10x2560.Idx → EReal) (hx : HX c f0 x)
    (b : Fin 2) (y : EReal) : amax x b ≤ y ↔ ∀ (p : Fin 60) (k : Fin 2) (ct : Fin 20) (l : Fin 128),
      max (bodyRun.sl.v88_raw c f0 f10 (ix5 p k ct b l)) (-bodyRun.sl.v88_raw c f0 f10 (ix5 p k ct b l)) ≤ y := by
  rw [amax_le]
  constructor
  · intro h p k ct l
    rw [v88_apply, hx]
    exact h _ _ _
  · intro h a w k
    have := h ⟨(a.val * 10 + w.val) % 60, by omega⟩ ⟨(a.val * 10 + w.val) / 60, by omega⟩ ⟨k.val / 128, by omega⟩ ⟨k.val % 128, by omega⟩
    rw [v88_apply, hx] at this
    have e1 : (⟨((a.val * 10 + w.val) / 60 * 60 + (a.val * 10 + w.val) % 60) / 10, by omega⟩ : Fin 12) = a := Fin.ext (by show _ / 10 = _; omega)
    have e2 : (⟨((a.val * 10 + w.val) / 60 * 60 + (a.val * 10 + w.val) % 60) % 10, by omega⟩ : Fin 10) = w := Fin.ext (by show _ % 10 = _; omega)
    have e3 : (⟨k.val / 128 * 128 + k.val % 128, by omega⟩ : Fin 2560) = k := Fin.ext (by show _ * 128 + _ = _; omega)
    simp only [e1, e2, e3] at this
    exact this

section
variable (c : Dev nD) (f0 : MBuf (F := Ideal) c M0) (f10 : MBuf (F := Ideal) c M10) (x : S2x12x10x2560.Idx → EReal) (hx : HX c f0 x) (hf : Finite x)
include hx

theorem r1_eq : bodyRun.sl.r_1 c f0 f10 (ix3 0 0 0) = amax x 0 :=
  pay4_value (bodyRun.sl.v88_raw c f0 f10) _ (amax_block c f0 f10 x hx 0)

theorem r2_eq : bodyRun.sl.r_2 c f0 f10 (ix2 0 0) = amax x 1 :=
  pay5_value (bodyRun.sl.v88_raw c f0 f10) _ (amax_block c f0 f10 x hx 1)

theorem r4_eq : bodyRun.sl.r_4 c f0 f10 (ix2 0 0) = bodyRun.sl.r_2 c f0 f10 (ix2 0 0) * kap :=
  pay7_value (bodyRun.sl.r c f0 f10)

include hf

theorem r3_eq : bodyRun.sl.r_3 c f0 f10 (ix2 0 0) = expWord (BitVec.ofNat 32 (expo (tOf x 0))) := by
  have e := r1_eq c f0 f10 x hx
  have h := pay6_value (bodyRun.sl.r_1 c f0 f10) (by rw [e]; exact (tOf_lt x hf 0).trans (pk_top _))
  rw [e] at h
  exact h

theorem pay9_eq : k0_pay9 (bodyRun.sl.r_2 c f0 f10) (bodyRun.sl.r_4 c f0 f10) k0_pay8 (ix2 0 0) = expWord (BitVec.ofNat 32 (expo (tOf x 1))) := by
  have e := r2_eq c f0 f10 x hx
  have h := pay9_value (bodyRun.sl.r_2 c f0 f10) (by rw [e]; exact (tOf_lt x hf 1).trans (pk_top _)) _ (r4_eq c f0 f10 x hx)
  rw [e] at h
  exact h

theorem r5_eq : bodyRun.sl.r_5 c f0 f10 (ix2 0 0) = scaleOf (tOf x 0) :=
  pay10_value (bodyRun.sl.r_3 c f0 f10) _ (tOf_lt x hf 0) (r3_eq c f0 f10 x hx hf)

theorem r6_eq : bodyRun.sl.r_6 c f0 f10 (ix2 0 0) = scaleOf (tOf x 1) :=
  pay11_value _ _ _ (tOf_lt x hf 1) (pay9_eq c f0 f10 x hx hf)

/-- The stored scales. -/
theorem scales_eq (b : Fin 2) : k0_pay15 (bodyRun.sl.r_5 c f0 f10) (bodyRun.sl.r_6 c f0 f10) (ix1 b) = scaleOf (tOf x b) := by
  rw [pay15_value, r5_eq c f0 f10 x hx hf, r6_eq c f0 f10 x hx hf]
  match b with
  | 0 => rfl
  | 1 => rfl

/-- The reciprocals' rows. -/
theorem r9_eq (r : Fin 16) (l : Fin 128) : bodyRun.sl.r_9 c f0 f10 (ix2 r l) = invOf (tOf x ⟨r.val % 2, by omega⟩) := by
  have h1 := expo_lt _ (tOf_lt x hf 0)
  have h2 := expo_lt _ (tOf_lt x hf 1)
  refine (pay14_value (bodyRun.sl.r_7 c f0 f10) (bodyRun.sl.r_8 c f0 f10) (if expo (tOf x 1) = 0 then 127 else 253 - expo (tOf x 1))
    (if expo (tOf x 0) = 0 then 127 else 253 - expo (tOf x 0)) (by split_ifs <;> omega) (by split_ifs <;> omega) (by split_ifs <;> omega)
    (by split_ifs <;> omega) ?_ ?_ r l).trans ?_
  · have h := inv_word ⟨expo (tOf x 1), by omega⟩
    rw [← pay9_eq c f0 f10 x hx hf] at h
    exact h
  · have h := inv_word ⟨expo (tOf x 0), by omega⟩
    rw [← r3_eq c f0 f10 x hx hf] at h
    exact h
  · have h : r.val % 2 = 0 ∨ r.val % 2 = 1 := by omega
    rcases h with h | h
    · simp only [h, if_true]; rfl
    · simp only [h]; rfl
end

end Cert.KernelIdeal.Hand
-- ==== Proof.CodesVal.lean ====
/-
  The padded codes and the stored codes as a function of the input alone.
-/
module

public import proofs.«01_k».proof.Proof.ScaleVal
public import proofs.«01_k».proof.Proof.StructEq

@[expose] public section

set_option maxRecDepth 16384

noncomputable section

namespace Cert.KernelIdeal.Hand

open Cert.KernelIdeal Cert.KernelIdeal.Gen
open Idealize.ShloMosaic Idealize.ShloMosaic.TcCoe

/-- One code: the input over its image's scale, kept within the format's range. -/
def code (x : S2x12x10x2560.Idx → EReal) (b : Fin 2) (h : Fin 12) (w : Fin 10) (k : Fin 2560) : EReal :=
  min (Ideal.ofBits .bf16 0x43E0#16) (max (Ideal.ofBits .bf16 0xC3E0#16) (x (ix4 b h w k) * invOf (tOf x b)))

/-- The codes with one zero row and column around each image. -/
def padCode (x : S2x12x10x2560.Idx → EReal) (b : Fin 2) (i w : ℕ) (k : Fin 2560) : EReal :=
  if h : 1 ≤ i ∧ i ≤ 12 ∧ 1 ≤ w ∧ w ≤ 10 then code x b ⟨i - 1, by omega⟩ ⟨w - 1, by omega⟩ k else 0

theorem cInb_mem (j ct r n : ℕ) (h : _) (j' : Fin 3) (ct' : Fin 20) (R : Fin 384) (l : Fin 128) (h0 : j'.val = j) (h1 : ct'.val = ct)
    (h2 : r ≤ R.val) (h3 : R.val < r + n) : (ix4 j' ct' R l : S3x20x384x128.Idx) ∈ (cRect j ct r n h).set := by
  refine Rect.mem_set_unit.2 fun a => ?_
  match a with
  | 0 => show j ≤ j'.val ∧ j'.val < j + 1; omega
  | 1 => show ct ≤ ct'.val ∧ ct'.val < ct + 1; omega
  | 2 => exact ⟨h2, h3⟩
  | 3 => show 0 ≤ l.val ∧ l.val < 0 + 128; omega

theorem codeStep_mem (c : Dev nD) (f11 : MBuf (F := Ideal) c M11) (ct : ℕ) (hc : ct < 20) (q : FVec Ideal S256x128 .fp8e4m3) (L : List (CPiece Ideal)) :
    (∃ v, (⟨cRect 0 ct 4 380 (cInb (by decide) hc (by decide)), v⟩ : CPiece Ideal) ∈ codeStep c f11 ct hc q L)
    ∧ (∃ v, (⟨cRect 2 ct 0 380 (cInb (by decide) hc (by decide)), v⟩ : CPiece Ideal) ∈ codeStep c f11 ct hc q L)
    ∧ (∃ v, (⟨cRect 1 ct 0 64 (cInb (by decide) hc (by decide)), v⟩ : CPiece Ideal) ∈ codeStep c f11 ct hc q L)
    ∧ (∃ v, (⟨cRect 1 ct 64 256 (cInb (by decide) hc (by decide)), v⟩ : CPiece Ideal) ∈ codeStep c f11 ct hc q L)
    ∧ (∃ v, (⟨cRect 1 ct 320 64 (cInb (by decide) hc (by decide)), v⟩ : CPiece Ideal) ∈ codeStep c f11 ct hc q L)
    ∧ ∀ p ∈ L, p ∈ codeStep c f11 ct hc q L := by
  unfold codeStep
  extract_lets L3 L4 L5 L7 L8
  exact ⟨⟨_, .tail _ (.head _)⟩, ⟨_, .head _⟩, ⟨_, .tail _ (.tail _ (.tail _ (.tail _ (.tail _ (.tail _ (.tail _ (.tail _ (.head _))))))))⟩,
    ⟨_, .tail _ (.tail _ (.tail _ (.tail _ (.tail _ (.tail _ (.tail _ (.head _)))))))⟩,
    ⟨_, .tail _ (.tail _ (.tail _ (.tail _ (.tail _ (.tail _ (.head _))))))⟩,
    fun p hp => .tail _ (.tail _ (.tail _ (.tail _ (.tail _ (.tail _ (.tail _ (.tail _ (.tail _ hp))))))))⟩

theorem codes_cover (c : Dev nD) (f0 : MBuf (F := Ideal) c M0) (f10 : MBuf (F := Ideal) c M10) (f11 : MBuf (F := Ideal) c M11) :
    ∀ (n : ℕ) (hn : n ≤ 20) (j : Fin 3) (ct : Fin 20) (_ : ct.val < n) (R : Fin 384) (l : Fin 128) (_ : 24 ≤ R.val) (_ : R.val < 344),
      ∃ p ∈ codesUpTo c f0 f10 f11 n hn, (ix4 j ct R l : S3x20x384x128.Idx) ∈ p.1.set := by
  intro n
  induction n with
  | zero => intro _ _ ct h; exact absurd h (by omega)
  | succ n ih =>
    intro hn j ct h R l h1 h2
    rw [codesUpTo]
    obtain ⟨⟨v0, m0⟩, ⟨v2, m2⟩, ⟨v1, m1⟩, ⟨v3, m3⟩, ⟨v4, m4⟩, mr⟩ := codeStep_mem c f11 n hn (qAt c f0 f10 n hn) (codesUpTo c f0 f10 f11 n (Nat.le_of_succ_le hn))
    by_cases e : ct.val = n
    · have hj : j.val = 0 ∨ j.val = 1 ∨ j.val = 2 := by omega
      rcases hj with hj | hj | hj
      · exact ⟨_, m0, cInb_mem 0 n 4 380 (cInb (by decide) hn (by decide)) j ct R l hj e (by omega) (by omega)⟩
      · by_cases a : R.val < 64
        · exact ⟨_, m1, cInb_mem 1 n 0 64 (cInb (by decide) hn (by decide)) j ct R l hj e (by omega) (by omega)⟩
        · by_cases a' : R.val < 320
          · exact ⟨_, m3, cInb_mem 1 n 64 256 (cInb (by decide) hn (by decide)) j ct R l hj e (by omega) (by omega)⟩
          · exact ⟨_, m4, cInb_mem 1 n 320 64 (cInb (by decide) hn (by decide)) j ct R l hj e (by omega) (by omega)⟩
      · exact ⟨_, m2, cInb_mem 2 n 0 380 (cInb (by decide) hn (by decide)) j ct R l hj e (by omega) (by omega)⟩
    · obtain ⟨p, hp, hs⟩ := ih (by omega) j ct (by omega) R l h1 h2
      exact ⟨p, mr p hp, hs⟩

/-- Where a place of a padded image lies among the rows of the input. -/
theorem place : ∀ (b : Fin 2) (i : Fin 12) (w : Fin 10),
    (4 * (i.val % 6 * 10 + w.val) + 2 * (i.val / 6) + b.val) % 2 = b.val
    ∧ (4 * (i.val % 6 * 10 + w.val) + 2 * (i.val / 6) + b.val) % 16 % 2 = b.val
    ∧ ((4 * (i.val % 6 * 10 + w.val) + 2 * (i.val / 6) + b.val) / 2 % 2 * 60 + (4 * (i.val % 6 * 10 + w.val) + 2 * (i.val / 6) + b.val) / 4) / 10 = i.val
    ∧ ((4 * (i.val % 6 * 10 + w.val) + 2 * (i.val / 6) + b.val) / 2 % 2 * 60 + (4 * (i.val % 6 * 10 + w.val) + 2 * (i.val / 6) + b.val) / 4) % 10 = w.val := by
  decide +kernel

/-- A lane block's padded image. -/
theorem padQ_code (c : Dev nD) (f0 : MBuf (F := Ideal) c M0) (f10 : MBuf (F := Ideal) c M10)
    (x : S2x12x10x2560.Idx → EReal) (hx : HX c f0 x) (hf : Finite x) (ct : Fin 20) (b : Fin 2) (i w : ℕ) (l : Fin 128) :
    padQ (qAt c f0 f10 ct.val ct.isLt) b.val i w l = padCode x b i w ⟨ct.val * 128 + l.val, by omega⟩ := by
  obtain ⟨b, hb⟩ := b
  rw [padCode]
  by_cases hp : 1 ≤ i ∧ i ≤ 12 ∧ 1 ≤ w ∧ w ≤ 10
  · rw [dif_pos hp]
    rw [padQ_in _ _ _ _ _ ⟨4 * ((i - 1) % 6 * 10 + (w - 1)) + 2 * ((i - 1) / 6) + b, by omega⟩ ⟨hb, hp⟩ rfl]
    rw [qAt_apply c f0 f10 ct _ (by show 4 * ((i - 1) % 6 * 10 + (w - 1)) + 2 * ((i - 1) / 6) + b < 240; omega), hx, r9_eq c f0 f10 x hx hf, code]
    obtain ⟨e1, e2, e3, e4⟩ := place ⟨b, hb⟩ ⟨i - 1, by omega⟩ ⟨w - 1, by omega⟩
    simp only at e1 e2 e3 e4
    simp only [e1, e2, e3, e4]
  · rw [dif_neg hp, padQ_out]
    exact fun h => hp h.2

theorem cv_codes (c : Dev nD) (f0 : MBuf (F := Ideal) c M0) (f10 : MBuf (F := Ideal) c M10) (f11 g : MBuf (F := Ideal) c M11)
    (x : S2x12x10x2560.Idx → EReal) (hx : HX c f0 x) (hf : Finite x) (n : ℕ) (hn : n ≤ 20) (j : Fin 3) (ct : Fin 20) (h : ct.val < n) (R : Fin 384)
    (l : Fin 128) (h1 : 24 ≤ R.val) (h2 : R.val < 344) :
    cv c g (codesUpTo c f0 f10 f11 n hn) j ct R l
      = padCode x ⟨R.val % 2, by omega⟩ (R.val / 2 % 2 * 6 + (R.val / 4 - 6) / 10) ((R.val / 4 - 6) % 10 + j.val) ⟨ct.val * 128 + l.val, by omega⟩ := by
  refine (View.read_writes_apply_eq M11.view g M11.view f11 (ix4 j ct R l) _ (codes_cover c f0 f10 f11 n hn j ct h R l h1 h2)).trans ?_
  refine (codes_value c f0 f10 f11 n hn j ct h R l h1 h2).trans ?_
  exact padQ_code c f0 f10 x hx hf ct ⟨R.val % 2, by omega⟩ _ _ l

end Cert.KernelIdeal.Hand
-- ==== Proof.StructAcc.lean ====
module

public import proofs.«01_k».proof.Proof.Struct

@[expose] public section

set_option maxRecDepth 100000
set_option maxHeartbeats 1000000

noncomputable section

namespace Cert.KernelIdeal.Hand

open Cert.KernelIdeal Cert.KernelIdeal.Gen
open Idealize.ShloMosaic Idealize.ShloMosaic.TcCoe

variable {F : FTy → Type} [FloatOps F]

theorem acc_eq (c : Dev nD) (f0 : MBuf (F := F) c M0) (f1 : MBuf (F := F) c M1) (f10 : MBuf (F := F) c M10) (f11 : MBuf (F := F) c M11)
    (f12 : MBuf (F := F) c M12) :
    bodyRun.sl.H17_10 c f0 f1 f10 f11 f12 = accAll c f1 f12 (bodyRun.sl.H11_180 c f0 f10 f11) := (rfl)

theorem down_eq (c : Dev nD) (f0 : MBuf (F := F) c M0) (f4 : MBuf (F := F) c M4) (f10 : MBuf (F := F) c M10) (f15 : MBuf (F := F) c M15) :
    bodyRun.sl.r_71 c f0 f4 f10 f15 = downProd (downLhs c f0 f10) (M15.view.readAt (Elt F)
      (Rect.unit ![0, 0] S288x2560.size inb_S288x2560_S288x2560_0_0).toLoadRect
      (View.write (Elt F) M15.view f15 (bodyRun.sl.dma0_2 c f4) Finset.univ)) := (rfl)

end Cert.KernelIdeal.Hand
-- ==== Proof.Low.lean ====
/-
  The low-rank branch's first product: every input row times all nine taps of the first low-rank matrix.
-/
module

public import proofs.«01_k».proof.Proof.CodesVal
public import proofs.«01_k».proof.Proof.StructAcc
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

theorem cat240_apply (f : Fin 20 → FVec Ideal S240x128 .bf16) (i : Fin 240) (k : Fin 2560) :
    cat240 f (ix2 i k) = f ⟨k.val / 128, by omega⟩ (ix2 i ⟨k.val % 128, by omega⟩) := by
  unfold cat240
  have h := concatenate_ofFn_apply (t := S240x2560) (s₁ := S240x128) 1 f (by exact concatenates_S240x128_S240x128_S240x128_S240x128_S240x128_S240x128_S240x128_S240x128_S240x128_S240x128_S240x128_S240x128_S240x128_S240x128_S240x128_S240x128_S240x128_S240x128_S240x128_S240x128_S240x2560_d1)
    rfl 128 rfl (ix2 i k) ⟨k.val / 128, by omega⟩ rfl (ix2 i ⟨k.val % 128, by omega⟩) rfl (fun b hb => by
      match b with
      | 0 => rfl
      | 1 => exact absurd rfl hb)
  exact h

theorem downRows_apply (raw : Vec Ideal S60x2x1x2x128 .bf16) (i : Fin 240) (l : Fin 128) :
    downRows raw (ix2 i l) = raw (ix5 ⟨i.val / 4, by omega⟩ ⟨i.val / 2 % 2, by omega⟩ 0 ⟨i.val % 2, by omega⟩ l) := by
  unfold downRows
  pointwise
  have e : (⟨i.val / 2 / 2, by omega⟩ : Fin 60) = ⟨i.val / 4, by omega⟩ := Fin.ext (by show i.val / 2 / 2 = i.val / 4; omega)
  rw [e]
  split_ifs with h
  · rw [show (⟨i.val % 2, by omega⟩ : Fin 2) = 0 from Fin.ext h]
  · rw [show (⟨i.val % 2, by omega⟩ : Fin 2) = 1 from Fin.ext (by show i.val % 2 = 1; omega)]

theorem downProd_apply (lhs : FVec Ideal S240x2560 .bf16) (ld : Vec Ideal S288x2560 .bf16) (i : Fin 240) (j : Fin 384) :
    downProd lhs ld (ix2 i j) = if h : j.val < 288 then ∑ k : Fin 2560, lhs (ix2 i k) * ld (ix2 ⟨j.val, h⟩ k) else 0 := by
  unfold downProd
  pointwise

theorem bit1 : ∀ r : Fin 40, IntOp.cmpi CmpIPredicate.ne (IntOp.andi (BitVec.ofNat 32 r.val) 2#32) 0#32 = if r.val / 2 % 2 = 1 then 1#1 else 0#1 := by
  decide +kernel

theorem halo548 (v : FVec Ideal S240x384 .f32) (r : Fin 40) (j : Fin 384) :
    k0_pay548 v k0_pay544 (ix2 r j) = if r.val / 2 % 2 = 1 then v (ix2 ⟨200 + (r.val + 40 - 2) % 40, by omega⟩ j) else 0 := by
  pointwise [k0_pay548, k0_pay544]
  rw [bit1]
  split_ifs <;> rfl

theorem halo549 (v : FVec Ideal S240x384 .f32) (r : Fin 40) (j : Fin 384) :
    k0_pay549 v k0_pay544 (ix2 r j) = if r.val / 2 % 2 = 1 then 0 else v (ix2 ⟨(r.val + 40 - 38) % 40, by omega⟩ j) := by
  pointwise [k0_pay549, k0_pay544]
  rw [bit1]
  split_ifs <;> rfl

theorem zero545 (r : Fin 48) (j : Fin 384) : k0_pay545 (F := Ideal) (ix2 r j) = 0 := by
  pointwise [k0_pay545]

theorem own547 (v : FVec Ideal S240x384 .f32) (i : Fin 240) (j : Fin 384) : k0_pay547 v (ix2 i j) = v (ix2 i j) := by
  pointwise [k0_pay547]

theorem m550 (i : Fin 240) (l : Fin 128) : k0_pay550 (ix2 i l) = BitVec.ofNat 32 (i.val / 4 % 10) := by
  pointwise [k0_pay550]
  revert i
  decide +kernel

theorem m551 (i : Fin 240) (l : Fin 128) : k0_pay551 (ix2 i l) = BitVec.ofNat 32 (l.val / 32) := by
  pointwise [k0_pay551]
  revert l
  decide +kernel

/-- The writes that make up the padded products. -/
def padList (v : FVec Ideal S240x384 .f32) : List (View.Piece (Elt Ideal) S336x384 .f32) :=
  [⟨Rect.unit ![288, 0] S40x384.size inb_S336x384_S40x384_288_0, k0_pay549 v k0_pay544⟩,
   ⟨Rect.unit ![8, 0] S40x384.size inb_S336x384_S40x384_8_0, k0_pay548 v k0_pay544⟩,
   ⟨Rect.unit ![48, 0] S240x384.size inb_S336x384_S240x384_48_0, k0_pay547 v⟩,
   ⟨Rect.unit ![288, 0] S48x384.size inb_S336x384_S48x384_288_0, k0_pay546 (bodyRun.sl.cst_2982 (F := Ideal))⟩,
   ⟨Rect.unit ![0, 0] S48x384.size inb_S336x384_S48x384_0_0, k0_pay545 (F := Ideal)⟩]

theorem pad_eq (c : Dev nD) (f0 : MBuf (F := Ideal) c M0) (f4 : MBuf (F := Ideal) c M4) (f10 : MBuf (F := Ideal) c M10) (f15 : MBuf (F := Ideal) c M15) :
    bodyRun.sl.H18_5 c f0 f4 f10 f15 = padList (bodyRun.sl.r_71 c f0 f4 f10 f15) := (rfl)

/-- The padded products at an index. -/
def pv (v : FVec Ideal S240x384 .f32) (R : Fin 336) (j : Fin 384) : EReal :=
  M18.view.read (Elt Ideal) (M18.view.writes (Elt Ideal) M18.view.junk (padList v)) (ix2 R j)

theorem pv_bound : ∀ R : Fin 336, 8 ≤ R.val → R.val < 328 → 1 ≤ R.val / 2 % 2 * 6 + (R.val - 8) / 40 ∧ R.val / 2 % 2 * 6 + (R.val - 8) / 40 ≤ 12 →
    4 * ((R.val / 2 % 2 * 6 + (R.val - 8) / 40 - 1) % 6 * 10 + (R.val - 8) / 4 % 10) + 2 * ((R.val / 2 % 2 * 6 + (R.val - 8) / 40 - 1) / 6) + R.val % 2 < 240 := by
  decide +kernel

theorem pv_own : ∀ R : Fin 336, 48 ≤ R.val → R.val < 288 →
    1 ≤ R.val / 2 % 2 * 6 + (R.val - 8) / 40 ∧ R.val / 2 % 2 * 6 + (R.val - 8) / 40 ≤ 12 ∧
    R.val - 48 = 4 * ((R.val / 2 % 2 * 6 + (R.val - 8) / 40 - 1) % 6 * 10 + (R.val - 8) / 4 % 10) + 2 * ((R.val / 2 % 2 * 6 + (R.val - 8) / 40 - 1) / 6) + R.val % 2 := by
  decide +kernel

/-- Where a padded row lies in the image: rows of the halo belong to the other half, or to nothing. -/
theorem pv_value (v : FVec Ideal S240x384 .f32) (R : Fin 336) (j : Fin 384) (h1 : 8 ≤ R.val) (h2 : R.val < 328) :
    pv v R j = if h : 1 ≤ R.val / 2 % 2 * 6 + (R.val - 8) / 40 ∧ R.val / 2 % 2 * 6 + (R.val - 8) / 40 ≤ 12 then
      v (ix2 ⟨4 * ((R.val / 2 % 2 * 6 + (R.val - 8) / 40 - 1) % 6 * 10 + (R.val - 8) / 4 % 10) + 2 * ((R.val / 2 % 2 * 6 + (R.val - 8) / 40 - 1) / 6) + R.val % 2, pv_bound R h1 h2 h⟩ j) else 0 := by
  unfold pv padList
  by_cases a : 288 ≤ R.val
  · refine (View.read_writes_cons_hit_of_coords M18.view _ (Rect.unit (s := S336x384) ![288, 0] S40x384.size inb_S336x384_S40x384_288_0) _ _
      (ix2 ⟨R.val - 288, by omega⟩ j) (ix2 R j) (fun b => ?_)).trans ?_
    · match b with
      | 0 => show R.val = 288 + 1 * (R.val - 288); omega
      | 1 => show j.val = 0 + 1 * j.val; omega
    · rw [halo549]
      by_cases e : R.val / 2 % 2 = 1
      · rw [if_pos (by show (R.val - 288) / 2 % 2 = 1; omega), dif_neg (by omega)]
      · rw [if_neg (by show ¬ (R.val - 288) / 2 % 2 = 1; omega), dif_pos (by omega)]
        congr 2
        exact Fin.ext (by show (R.val - 288 + 40 - 38) % 40 = _ ; simp only; omega)
  · refine (View.read_writes_cons_miss_of_axis M18.view _ _ _ (ix2 R j) 0 288 40 rfl rfl rfl (by show R.val < 288 ∨ _; omega)).trans ?_
    by_cases a' : R.val < 48
    · refine (View.read_writes_cons_hit_of_coords M18.view _ (Rect.unit (s := S336x384) ![8, 0] S40x384.size inb_S336x384_S40x384_8_0) _ _
        (ix2 ⟨R.val - 8, by omega⟩ j) (ix2 R j) (fun b => ?_)).trans ?_
      · match b with
        | 0 => show R.val = 8 + 1 * (R.val - 8); omega
        | 1 => show j.val = 0 + 1 * j.val; omega
      · rw [halo548]
        by_cases e : R.val / 2 % 2 = 1
        · rw [if_pos (by show (R.val - 8) / 2 % 2 = 1; omega), dif_pos (by omega)]
          congr 2
          exact Fin.ext (by show 200 + (R.val - 8 + 40 - 2) % 40 = _ ; simp only; omega)
        · rw [if_neg (by show ¬ (R.val - 8) / 2 % 2 = 1; omega), dif_neg (by omega)]
    · refine (View.read_writes_cons_miss_of_axis M18.view _ _ _ (ix2 R j) 0 8 40 rfl rfl rfl (by show R.val < 8 ∨ 48 ≤ R.val; omega)).trans ?_
      refine (View.read_writes_cons_hit_of_coords M18.view _ (Rect.unit (s := S336x384) ![48, 0] S240x384.size inb_S336x384_S240x384_48_0) _ _
        (ix2 ⟨R.val - 48, by omega⟩ j) (ix2 R j) (fun b => ?_)).trans ?_
      · match b with
        | 0 => show R.val = 48 + 1 * (R.val - 48); omega
        | 1 => show j.val = 0 + 1 * j.val; omega
      · have q := pv_own R (by omega) (by omega)
        rw [own547, dif_pos ⟨q.1, q.2.1⟩]
        congr 2
        exact Fin.ext q.2.2

theorem lInb2 {o b : ℕ} (ho : o + 240 ≤ 336) (hb : b + 128 ≤ 384) : ∀ a : Fin 2, (![o, b] : Fin 2 → ℕ) a + S240x128.size a ≤ S336x384.size a := by
  intro a
  match a with
  | 0 => exact ho
  | 1 => exact hb

/-- One shifted read of the padded products. -/
def ldP (v : FVec Ideal S240x384 .f32) (o b : ℕ) (ho : o + 240 ≤ 336) (hb : b + 128 ≤ 384) : Vec Ideal S240x128 .f32 :=
  M18.view.readCov (padList v) (Rect.unit (s := S336x384) ![o, b] S240x128.size (lInb2 ho hb)).toLoadRect

theorem ldP_apply (v : FVec Ideal S240x384 .f32) (o b : ℕ) (ho : o + 240 ≤ 336) (hb : b + 128 ≤ 384) (i : Fin 240) (l : Fin 128) :
    ldP v o b ho hb (ix2 i l) = pv v ⟨o + i.val, by omega⟩ ⟨b + l.val, by omega⟩ := by
  have e : (Rect.unit (s := S336x384) ![o, b] S240x128.size (lInb2 ho hb)).emb (ix2 i l) = ix2 ⟨o + i.val, by omega⟩ ⟨b + l.val, by omega⟩ :=
    Rect.emb_eq_of_coords _ _ _ fun a => by
      match a with
      | 0 => show o + i.val = o + 1 * i.val; omega
      | 1 => show b + l.val = b + 1 * l.val; omega
  exact congrArg (M18.view.read (Elt Ideal) (M18.view.writes (Elt Ideal) M18.view.junk (padList v))) e

/-- The sum the lanes' last five taps leave on one lane. -/
def lanes5 (v3441 v3444 : IVec S240x128 32) (v3484 v3485 : FVec Ideal S240x128 .f32) (v3487 : IVec S240x128 1) (v3488 : IVec S240x128 32)
    (v3494 v3503 v3509 : FVec Ideal S240x128 .f32) (i : Fin 240) (l : Fin 128) : EReal :=
  v3484 (ix2 i l) + Scalar.select (IntOp.andi (v3487 (ix2 i l)) (IntOp.cmpi CmpIPredicate.ne (v3441 (ix2 i l)) (v3488 (ix2 i l)))) (v3485 (ix2 i l)) 0
    + Scalar.select (IntOp.andi (IntOp.cmpi CmpIPredicate.eq (v3444 (ix2 i l)) 2#32) (IntOp.cmpi CmpIPredicate.ne (v3441 (ix2 i l)) 0#32)) (v3494 (ix2 i l)) 0
    + Scalar.select (IntOp.cmpi CmpIPredicate.eq (v3444 (ix2 i l)) 3#32) (v3503 (ix2 i l)) 0
    + Scalar.select (IntOp.andi (IntOp.cmpi CmpIPredicate.eq (v3444 (ix2 i l)) 0#32) (IntOp.cmpi CmpIPredicate.ne (v3441 (ix2 i l)) 9#32)) (v3509 (ix2 i l)) 0

theorem t557 (v3441 v3444 : IVec S240x128 32) (v3484 v3485 : FVec Ideal S240x128 .f32) (v3487 : IVec S240x128 1) (v3488 : IVec S240x128 32)
    (v3494 v3503 v3509 : FVec Ideal S240x128 .f32) (i : Fin 240) (l : Fin 128) :
    k0_pay557 v3441 v3444 v3484 v3485 v3487 v3488 v3494 v3503 v3509 (ix2 i l)
      = lanes5 v3441 v3444 v3484 v3485 v3487 v3488 v3494 v3503 v3509 i l
        + lanes5 v3441 v3444 v3484 v3485 v3487 v3488 v3494 v3503 v3509 i ⟨(l.val + 128 - 64) % 128, by omega⟩
        + (lanes5 v3441 v3444 v3484 v3485 v3487 v3488 v3494 v3503 v3509 i ⟨(l.val + 128 - 32) % 128, by omega⟩
          + lanes5 v3441 v3444 v3484 v3485 v3487 v3488 v3494 v3503 v3509 i ⟨((l.val + 128 - 32) % 128 + 128 - 64) % 128, by omega⟩) := by
  pointwise [k0_pay557]
  rfl

theorem t554 (v3441 v3444 : IVec S240x128 32) (v3445 v3446 : FVec Ideal S240x128 .f32) (v3451 : IVec S240x128 1)
    (v3455 v3461 v3470 v3479 : FVec Ideal S240x128 .f32) (i : Fin 240) (l : Fin 128) :
    k0_pay554 v3441 v3444 v3445 v3446 v3451 v3455 v3461 v3470 v3479 (ix2 i l)
      = v3445 (ix2 i l) + Scalar.select (v3451 (ix2 i l)) (v3446 (ix2 i l)) 0
        + Scalar.select (IntOp.cmpi CmpIPredicate.eq (v3444 (ix2 i l)) 1#32) (v3455 (ix2 i l)) 0
        + Scalar.select (IntOp.andi (IntOp.cmpi CmpIPredicate.eq (v3444 (ix2 i l)) 2#32) (IntOp.cmpi CmpIPredicate.ne (v3441 (ix2 i l)) 9#32)) (v3461 (ix2 i l)) 0
        + Scalar.select (IntOp.andi (IntOp.cmpi CmpIPredicate.eq (v3444 (ix2 i l)) 3#32) (IntOp.cmpi CmpIPredicate.ne (v3441 (ix2 i l)) 0#32)) (v3470 (ix2 i l)) 0
        + Scalar.select (IntOp.cmpi CmpIPredicate.eq (v3444 (ix2 i l)) 0#32) (v3479 (ix2 i l)) 0 := by
  pointwise [k0_pay554]

theorem t552 (i : Fin 240) (l : Fin 128) : k0_pay552 (F := Ideal) (ix2 i l) = 0 := by
  pointwise [k0_pay552]

theorem t553 (i : Fin 240) (l : Fin 128) : k0_pay553 (ix2 i l)
    = IntOp.andi (IntOp.cmpi CmpIPredicate.eq (k0_pay551 (ix2 i l)) 0#32) (IntOp.cmpi CmpIPredicate.ne (k0_pay550 (ix2 i l)) 0#32) := (rfl)

theorem t555 (v : IVec S240x128 32) (i : Fin 240) (l : Fin 128) : k0_pay555 v (ix2 i l) = IntOp.cmpi CmpIPredicate.eq (v (ix2 i l)) 1#32 := (rfl)

theorem t556 (i : Fin 240) (l : Fin 128) : k0_pay556 (ix2 i l) = 9#32 := (rfl)

end Cert.KernelIdeal.Hand
-- ==== Proof.LowVal.lean ====
/-
  The low-rank branch's first result: what the nine shifted and masked reads of the padded products add up to.
-/
module

public import proofs.«01_k».proof.Proof.Low

@[expose] public section

set_option maxRecDepth 16384

noncomputable section

namespace Cert.KernelIdeal.Hand

open Cert.KernelIdeal Cert.KernelIdeal.Gen
open Idealize.ShloMosaic Idealize.ShloMosaic.TcCoe

/-- The first low-rank matrix: a row for each tap and rank, tap-major. -/
def dArr (c : Dev nD) (f4 : MBuf (F := Ideal) c M4) : S288x2560.Idx → EReal := M4.view.read (Elt Ideal) f4

theorem downLhs_value (c : Dev nD) (f0 : MBuf (F := Ideal) c M0) (f10 : MBuf (F := Ideal) c M10) (x : S2x12x10x2560.Idx → EReal) (hx : HX c f0 x)
    (i : Fin 240) (k : Fin 2560) :
    downLhs c f0 f10 (ix2 i k) = x (ix4 ⟨i.val % 2, by omega⟩ ⟨i.val / 2 % 2 * 6 + i.val / 40, by omega⟩ ⟨i.val / 4 % 10, by omega⟩ k) := by
  rw [downLhs, cat240_apply, downRows_apply]
  have e : (Rect.unit (s := S64x2x20x2x128) ![0, 0, k.val / 128, 0, 0] S60x2x1x2x128.size (pInb (by omega))).emb
        (ix5 ⟨i.val / 4, by omega⟩ ⟨i.val / 2 % 2, by omega⟩ 0 ⟨i.val % 2, by omega⟩ ⟨k.val % 128, by omega⟩)
      = ix5 ⟨i.val / 4, by omega⟩ ⟨i.val / 2 % 2, by omega⟩ ⟨k.val / 128, by omega⟩ ⟨i.val % 2, by omega⟩ ⟨k.val % 128, by omega⟩ :=
    Rect.emb_eq_of_coords _ _ _ fun a => by
      match a with
      | 0 => show i.val / 4 = 0 + 1 * (i.val / 4); omega
      | 1 => show i.val / 2 % 2 = 0 + 1 * (i.val / 2 % 2); omega
      | 2 => show k.val / 128 = k.val / 128 + 1 * 0; omega
      | 3 => show i.val % 2 = 0 + 1 * (i.val % 2); omega
      | 4 => show k.val % 128 = 0 + 1 * (k.val % 128); omega
  refine (congrArg (M10.view.read (Elt Ideal) (xsIn c f0 f10)) e).trans ?_
  refine (xsIn_read c f0 f10 ⟨i.val / 4, by omega⟩ (by show i.val / 4 < 60; omega) ⟨i.val / 2 % 2, by omega⟩ ⟨k.val / 128, by omega⟩ ⟨i.val % 2, by omega⟩ ⟨k.val % 128, by omega⟩).trans ?_
  refine (hx ⟨i.val / 2 % 2 * 60 + i.val / 4, by omega⟩ ⟨k.val / 128, by omega⟩ ⟨i.val % 2, by omega⟩ ⟨k.val % 128, by omega⟩).trans ?_
  exact congrArg x (congr (congr (congrArg (ix4 _) (Fin.ext (by show (i.val / 2 % 2 * 60 + i.val / 4) / 10 = _; simp only; omega)))
    (Fin.ext (by show (i.val / 2 % 2 * 60 + i.val / 4) % 10 = _; simp only; omega))) (Fin.ext (by show k.val / 128 * 128 + k.val % 128 = _; omega)))

theorem dArr_load (c : Dev nD) (f4 : MBuf (F := Ideal) c M4) (f15 : MBuf (F := Ideal) c M15) :
    M15.view.readAt (Elt Ideal) (Rect.unit ![0, 0] S288x2560.size inb_S288x2560_S288x2560_0_0).toLoadRect
      (View.write (Elt Ideal) M15.view f15 (bodyRun.sl.dma0_2 c f4) Finset.univ) = dArr c f4 :=
  (View.readAt_full M15.view _ _).trans (View.read_write_univ _ _)

theorem down_value (c : Dev nD) (f0 : MBuf (F := Ideal) c M0) (f4 : MBuf (F := Ideal) c M4) (f10 : MBuf (F := Ideal) c M10) (f15 : MBuf (F := Ideal) c M15)
    (x : S2x12x10x2560.Idx → EReal) (hx : HX c f0 x) (i : Fin 240) (j : Fin 384) (hj : j.val < 288) :
    bodyRun.sl.r_71 c f0 f4 f10 f15 (ix2 i j) = ∑ k : Fin 2560,
      x (ix4 ⟨i.val % 2, by omega⟩ ⟨i.val / 2 % 2 * 6 + i.val / 40, by omega⟩ ⟨i.val / 4 % 10, by omega⟩ k) * dArr c f4 (ix2 ⟨j.val, hj⟩ k) := by
  rw [down_eq, dArr_load, downProd_apply, dif_pos hj]
  exact Finset.sum_congr rfl fun k _ => by rw [downLhs_value c f0 f10 x hx]

/-- The input with a ring of zeros around each image. -/
def padX (x : S2x12x10x2560.Idx → EReal) (b : Fin 2) (i w : ℕ) (k : Fin 2560) : EReal :=
  if h : (1 ≤ i ∧ i ≤ 12) ∧ (1 ≤ w ∧ w ≤ 10) then x (ix4 b ⟨i - 1, by omega⟩ ⟨w - 1, by omega⟩ k) else 0

/-- One tap of the first low-rank convolution. -/
def lowTap (x : S2x12x10x2560.Idx → EReal) (D : S288x2560.Idx → EReal) (b : Fin 2) (h w : ℕ) (r : Fin 32) (t : Fin 9) : EReal :=
  ∑ k : Fin 2560, padX x b (h + t.val / 3) (w + t.val % 3) k * D (ix2 ⟨t.val * 32 + r.val, by omega⟩ k)

/-- The first low-rank convolution. -/
def low (x : S2x12x10x2560.Idx → EReal) (D : S288x2560.Idx → EReal) (b : Fin 2) (h w : ℕ) (r : Fin 32) : EReal :=
  ∑ t : Fin 9, lowTap x D b h w r t

/-- A valid column: the one a tap reads lies in the image. -/
def okCol (t : Fin 9) (w : ℕ) : Prop := 1 ≤ w + t.val % 3 ∧ w + t.val % 3 ≤ 10

instance (t : Fin 9) (w : ℕ) : Decidable (okCol t w) := by unfold okCol; infer_instance

/-- The row arithmetic of one tap: the padded row a tap reads, and where it lies. -/
theorem tap_rows : ∀ (t : Fin 9) (i : Fin 240), okCol t (i.val / 4 % 10) →
    8 ≤ 4 + 40 * (t.val / 3) + 4 * (t.val % 3) + i.val ∧ 4 + 40 * (t.val / 3) + 4 * (t.val % 3) + i.val < 328 ∧
    (4 + 40 * (t.val / 3) + 4 * (t.val % 3) + i.val) / 2 % 2 * 6 + (4 + 40 * (t.val / 3) + 4 * (t.val % 3) + i.val - 8) / 40 = i.val / 2 % 2 * 6 + i.val / 40 + t.val / 3 ∧
    (4 + 40 * (t.val / 3) + 4 * (t.val % 3) + i.val - 8) / 4 % 10 + 1 = i.val / 4 % 10 + t.val % 3 ∧
    (4 + 40 * (t.val / 3) + 4 * (t.val % 3) + i.val) % 2 = i.val % 2 := by
  decide +kernel

/-- The row of the products a padded row repeats. -/
theorem place_rows : ∀ (I : Fin 14) (q : Fin 10) (b : Fin 2), 1 ≤ I.val ∧ I.val ≤ 12 →
    (4 * ((I.val - 1) % 6 * 10 + q.val) + 2 * ((I.val - 1) / 6) + b.val) % 2 = b.val ∧
    (4 * ((I.val - 1) % 6 * 10 + q.val) + 2 * ((I.val - 1) / 6) + b.val) / 2 % 2 * 6 + (4 * ((I.val - 1) % 6 * 10 + q.val) + 2 * ((I.val - 1) / 6) + b.val) / 40 = I.val - 1 ∧
    (4 * ((I.val - 1) % 6 * 10 + q.val) + 2 * ((I.val - 1) / 6) + b.val) / 4 % 10 = q.val := by
  decide +kernel

/-- What a masked shifted read gives on a lane of the tap's own group. -/
theorem tap_low (c : Dev nD) (f0 : MBuf (F := Ideal) c M0) (f4 : MBuf (F := Ideal) c M4) (f10 : MBuf (F := Ideal) c M10) (f15 : MBuf (F := Ideal) c M15)
    (x : S2x12x10x2560.Idx → EReal) (hx : HX c f0 x) (t : Fin 9) (o B : ℕ) (ho : o + 240 ≤ 336) (hB : B + 128 ≤ 384)
    (eo : o = 4 + 40 * (t.val / 3) + 4 * (t.val % 3)) (eB : B = 128 * (t.val / 4)) (i : Fin 240) (l : Fin 128) (hl : l.val / 32 = t.val % 4) :
    (if okCol t (i.val / 4 % 10) then ldP (bodyRun.sl.r_71 c f0 f4 f10 f15) o B ho hB (ix2 i l) else 0)
      = lowTap x (dArr c f4) ⟨i.val % 2, by omega⟩ (i.val / 2 % 2 * 6 + i.val / 40) (i.val / 4 % 10) ⟨l.val % 32, by omega⟩ t := by
  subst eo eB
  rw [lowTap]
  by_cases hw : okCol t (i.val / 4 % 10)
  · obtain ⟨a1, a2, a3, a4, a5⟩ := tap_rows t i hw
    rw [if_pos hw, ldP_apply, pv_value _ _ _ a1 a2]
    by_cases hI : 1 ≤ i.val / 2 % 2 * 6 + i.val / 40 + t.val / 3 ∧ i.val / 2 % 2 * 6 + i.val / 40 + t.val / 3 ≤ 12
    · rw [dif_pos (by simp only [a3]; exact hI), down_value c f0 f4 f10 f15 x hx _ _ (by show 128 * (t.val / 4) + l.val < 288; omega)]
      refine Finset.sum_congr rfl fun k _ => ?_
      obtain ⟨b1, b2, b3⟩ := place_rows ⟨i.val / 2 % 2 * 6 + i.val / 40 + t.val / 3, by omega⟩
        ⟨(4 + 40 * (t.val / 3) + 4 * (t.val % 3) + i.val - 8) / 4 % 10, by omega⟩ ⟨i.val % 2, by omega⟩ hI
      rw [padX, dif_pos ⟨hI, hw⟩]
      have ej : (⟨128 * (t.val / 4) + l.val, by omega⟩ : Fin 288) = ⟨t.val * 32 + l.val % 32, by omega⟩ := Fin.ext (by show 128 * (t.val / 4) + l.val = t.val * 32 + l.val % 32; omega)
      refine congr (congrArg HMul.hMul (congrArg x (congr (congr (congr (congrArg ix4 (Fin.ext ?_)) (Fin.ext ?_)) (Fin.ext ?_)) rfl))) (congrArg (dArr c f4) (congrArg (ix2 · k) ej))
      · simp only [a3, a5]; exact b1
      · simp only [a3, a5]; exact b2
      · simp only [a3, a5]; exact b3.trans (by simp only; omega)
    · rw [dif_neg (by simp only [a3]; exact hI)]
      refine (Finset.sum_eq_zero fun k _ => ?_).symm
      rw [padX, dif_neg (fun q => hI q.1), zero_mul]
  · rw [if_neg hw]
    refine (Finset.sum_eq_zero fun k _ => ?_).symm
    rw [padX, dif_neg (fun q => hw q.2), zero_mul]

theorem sel_eq (A : EReal) (g : ℕ) (hg : g < 4) (l : Fin 128) :
    Scalar.select (IntOp.cmpi CmpIPredicate.eq (BitVec.ofNat 32 (l.val / 32)) (BitVec.ofNat 32 g)) A 0 = if l.val / 32 = g then A else 0 := by
  have h : ∀ (g : Fin 4) (l : Fin 128), IntOp.cmpi CmpIPredicate.eq (BitVec.ofNat 32 (l.val / 32)) (BitVec.ofNat 32 g.val) = if l.val / 32 = g.val then 1#1 else 0#1 := by
    decide +kernel
  rw [h ⟨g, hg⟩ l]
  split_ifs <;> rfl

theorem sel_and (A : EReal) (g : ℕ) (hg : g < 4) (z : ℕ) (hz : z < 10) (i : Fin 240) (l : Fin 128) :
    Scalar.select (IntOp.andi (IntOp.cmpi CmpIPredicate.eq (BitVec.ofNat 32 (l.val / 32)) (BitVec.ofNat 32 g))
      (IntOp.cmpi CmpIPredicate.ne (BitVec.ofNat 32 (i.val / 4 % 10)) (BitVec.ofNat 32 z))) A 0
      = if l.val / 32 = g then (if i.val / 4 % 10 ≠ z then A else 0) else 0 := by
  have h : ∀ (g : Fin 4) (l : Fin 128), IntOp.cmpi CmpIPredicate.eq (BitVec.ofNat 32 (l.val / 32)) (BitVec.ofNat 32 g.val) = if l.val / 32 = g.val then 1#1 else 0#1 := by
    decide +kernel
  have h' : ∀ (z : Fin 10) (w : Fin 10), IntOp.cmpi CmpIPredicate.ne (BitVec.ofNat 32 w.val) (BitVec.ofNat 32 z.val) = if w.val ≠ z.val then 1#1 else 0#1 := by
    decide +kernel
  rw [h ⟨g, hg⟩ l, h' ⟨z, hz⟩ ⟨i.val / 4 % 10, by omega⟩]
  split_ifs <;> first | rfl | contradiction

/-- A tap's term on a lane: the tap's sum on its own group of lanes, zero on the others. -/
theorem tap_term (c : Dev nD) (f0 : MBuf (F := Ideal) c M0) (f4 : MBuf (F := Ideal) c M4) (f10 : MBuf (F := Ideal) c M10) (f15 : MBuf (F := Ideal) c M15)
    (x : S2x12x10x2560.Idx → EReal) (hx : HX c f0 x) (t : Fin 9) (o B : ℕ) (ho : o + 240 ≤ 336) (hB : B + 128 ≤ 384)
    (eo : o = 4 + 40 * (t.val / 3) + 4 * (t.val % 3)) (eB : B = 128 * (t.val / 4)) (i : Fin 240) (l : Fin 128)
    (p : Prop) [Decidable p] (hp : okCol t (i.val / 4 % 10) ↔ p) :
    (if l.val / 32 = t.val % 4 then (if p then ldP (bodyRun.sl.r_71 c f0 f4 f10 f15) o B ho hB (ix2 i l) else 0) else 0)
      = if l.val / 32 = t.val % 4 then lowTap x (dArr c f4) ⟨i.val % 2, by omega⟩ (i.val / 2 % 2 * 6 + i.val / 40) (i.val / 4 % 10) ⟨l.val % 32, by omega⟩ t else 0 := by
  split_ifs with h1 h2 h2
  · rw [← tap_low c f0 f4 f10 f15 x hx t o B ho hB eo eB i l h1, if_pos (hp.mpr h2)]
  · rw [← tap_low c f0 f4 f10 f15 x hx t o B ho hB eo eB i l h1, if_neg (fun q => h2 (hp.mp q))]
  · rfl

/-- The same for a tap in the middle column, which needs no mask. -/
theorem tap_term' (c : Dev nD) (f0 : MBuf (F := Ideal) c M0) (f4 : MBuf (F := Ideal) c M4) (f10 : MBuf (F := Ideal) c M10) (f15 : MBuf (F := Ideal) c M15)
    (x : S2x12x10x2560.Idx → EReal) (hx : HX c f0 x) (t : Fin 9) (o B : ℕ) (ho : o + 240 ≤ 336) (hB : B + 128 ≤ 384)
    (eo : o = 4 + 40 * (t.val / 3) + 4 * (t.val % 3)) (eB : B = 128 * (t.val / 4)) (i : Fin 240) (l : Fin 128)
    (hp : okCol t (i.val / 4 % 10)) :
    (if l.val / 32 = t.val % 4 then ldP (bodyRun.sl.r_71 c f0 f4 f10 f15) o B ho hB (ix2 i l) else 0)
      = if l.val / 32 = t.val % 4 then lowTap x (dArr c f4) ⟨i.val % 2, by omega⟩ (i.val / 2 % 2 * 6 + i.val / 40) (i.val / 4 % 10) ⟨l.val % 32, by omega⟩ t else 0 := by
  have h := tap_term c f0 f4 f10 f15 x hx t o B ho hB eo eB i l True (by simp only [hp])
  simpa only [if_true] using h

theorem sum9 (f : Fin 9 → EReal) : ∑ t : Fin 9, f t = f 0 + f 1 + f 2 + f 3 + f 4 + f 5 + f 6 + f 7 + f 8 := by
  rw [Fin.sum_univ_castSucc, Fin.sum_univ_eight]
  rfl

theorem add9 {a0 a1 a2 a3 a4 a5 a6 a7 a8 b0 b1 b2 b3 b4 b5 b6 b7 b8 : EReal} (h0 : a0 = b0) (h1 : a1 = b1) (h2 : a2 = b2) (h3 : a3 = b3)
    (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

/-- What one lane holds before the lane groups are added: the taps of its group. -/
theorem lanes_value (c : Dev nD) (f0 : MBuf (F := Ideal) c M0) (f4 : MBuf (F := Ideal) c M4) (f10 : MBuf (F := Ideal) c M10) (f15 : MBuf (F := Ideal) c M15)
    (x : S2x12x10x2560.Idx → EReal) (hx : HX c f0 x) (i : Fin 240) (l : Fin 128) :
    lanes5 k0_pay550 k0_pay551 (bodyRun.sl.r_72 c f0 f4 f10 f15) (bodyRun.sl.v3485 c f0 f4 f10 f15) (k0_pay555 k0_pay551) k0_pay556
        (bodyRun.sl.v3494 c f0 f4 f10 f15) (bodyRun.sl.v3503 c f0 f4 f10 f15) (bodyRun.sl.v3509 c f0 f4 f10 f15) i l
      = ∑ t : Fin 9, if l.val / 32 = t.val % 4 then
          lowTap x (dArr c f4) ⟨i.val % 2, by omega⟩ (i.val / 2 % 2 * 6 + i.val / 40) (i.val / 4 % 10) ⟨l.val % 32, by omega⟩ t else 0 := by
  have e0 : bodyRun.sl.v3446 c f0 f4 f10 f15 = ldP (bodyRun.sl.r_71 c f0 f4 f10 f15) 4 0 (by decide) (by decide) := rfl
  have e1 : bodyRun.sl.v3455 c f0 f4 f10 f15 = ldP (bodyRun.sl.r_71 c f0 f4 f10 f15) 8 0 (by decide) (by decide) := rfl
  have e2 : bodyRun.sl.v3461 c f0 f4 f10 f15 = ldP (bodyRun.sl.r_71 c f0 f4 f10 f15) 12 0 (by decide) (by decide) := rfl
  have e3 : bodyRun.sl.v3470 c f0 f4 f10 f15 = ldP (bodyRun.sl.r_71 c f0 f4 f10 f15) 44 0 (by decide) (by decide) := rfl
  have e4 : bodyRun.sl.v3479 c f0 f4 f10 f15 = ldP (bodyRun.sl.r_71 c f0 f4 f10 f15) 48 128 (by decide) (by decide) := rfl
  have e5 : bodyRun.sl.v3485 c f0 f4 f10 f15 = ldP (bodyRun.sl.r_71 c f0 f4 f10 f15) 52 128 (by decide) (by decide) := rfl
  have e6 : bodyRun.sl.v3494 c f0 f4 f10 f15 = ldP (bodyRun.sl.r_71 c f0 f4 f10 f15) 84 128 (by decide) (by decide) := rfl
  have e7 : bodyRun.sl.v3503 c f0 f4 f10 f15 = ldP (bodyRun.sl.r_71 c f0 f4 f10 f15) 88 128 (by decide) (by decide) := rfl
  have e8 : bodyRun.sl.v3509 c f0 f4 f10 f15 = ldP (bodyRun.sl.r_71 c f0 f4 f10 f15) 92 256 (by decide) (by decide) := rfl
  have er : bodyRun.sl.r_72 c f0 f4 f10 f15 = k0_pay554 k0_pay550 k0_pay551 k0_pay552 (bodyRun.sl.v3446 c f0 f4 f10 f15) k0_pay553
      (bodyRun.sl.v3455 c f0 f4 f10 f15) (bodyRun.sl.v3461 c f0 f4 f10 f15) (bodyRun.sl.v3470 c f0 f4 f10 f15) (bodyRun.sl.v3479 c f0 f4 f10 f15) := rfl
  rw [er, e0, e1, e2, e3, e4, e5, e6, e7, e8, lanes5, t554, t552, t553, t555, t556, m550, m551, zero_add]
  have z0 : ∀ (t : Fin 9), t.val % 3 = 0 → (okCol t (i.val / 4 % 10) ↔ i.val / 4 % 10 ≠ 0) := fun t ht => by unfold okCol; omega
  have z2 : ∀ (t : Fin 9), t.val % 3 = 2 → (okCol t (i.val / 4 % 10) ↔ i.val / 4 % 10 ≠ 9) := fun t ht => by unfold okCol; omega
  have z1 : ∀ (t : Fin 9), t.val % 3 = 1 → okCol t (i.val / 4 % 10) := fun t ht => by unfold okCol; omega
  rw [sum9]
  refine add9 ?_ ?_ ?_ ?_ ?_ ?_ ?_ ?_ ?_
  · exact (sel_and _ 0 (by decide) 0 (by decide) i l).trans (tap_term c f0 f4 f10 f15 x hx 0 4 0 _ _ rfl rfl i l _ (z0 0 rfl))
  · exact (sel_eq _ 1 (by decide) l).trans (tap_term' c f0 f4 f10 f15 x hx 1 8 0 _ _ rfl rfl i l (z1 1 rfl))
  · exact (sel_and _ 2 (by decide) 9 (by decide) i l).trans (tap_term c f0 f4 f10 f15 x hx 2 12 0 _ _ rfl rfl i l _ (z2 2 rfl))
  · exact (sel_and _ 3 (by decide) 0 (by decide) i l).trans (tap_term c f0 f4 f10 f15 x hx 3 44 0 _ _ rfl rfl i l _ (z0 3 rfl))
  · exact (sel_eq _ 0 (by decide) l).trans (tap_term' c f0 f4 f10 f15 x hx 4 48 128 _ _ rfl rfl i l (z1 4 rfl))
  · exact (sel_and _ 1 (by decide) 9 (by decide) i l).trans (tap_term c f0 f4 f10 f15 x hx 5 52 128 _ _ rfl rfl i l _ (z2 5 rfl))
  · exact (sel_and _ 2 (by decide) 0 (by decide) i l).trans (tap_term c f0 f4 f10 f15 x hx 6 84 128 _ _ rfl rfl i l _ (z0 6 rfl))
  · exact (sel_eq _ 3 (by decide) l).trans (tap_term' c f0 f4 f10 f15 x hx 7 88 128 _ _ rfl rfl i l (z1 7 rfl))
  · exact (sel_and _ 0 (by decide) 9 (by decide) i l).trans (tap_term c f0 f4 f10 f15 x hx 8 92 256 _ _ rfl rfl i l _ (z2 8 rfl))

/-- The first low-rank convolution, in the lanes the kernel keeps. -/
theorem low_value (c : Dev nD) (f0 : MBuf (F := Ideal) c M0) (f4 : MBuf (F := Ideal) c M4) (f10 : MBuf (F := Ideal) c M10) (f15 : MBuf (F := Ideal) c M15)
    (x : S2x12x10x2560.Idx → EReal) (hx : HX c f0 x) (i : Fin 240) (r : Fin 32) :
    bodyRun.sl.r_73 c f0 f4 f10 f15 (ix2 i ⟨r.val, by omega⟩)
      = low x (dArr c f4) ⟨i.val % 2, by omega⟩ (i.val / 2 % 2 * 6 + i.val / 40) (i.val / 4 % 10) r := by
  have er : bodyRun.sl.r_73 c f0 f4 f10 f15 = k0_pay557 k0_pay550 k0_pay551 (bodyRun.sl.r_72 c f0 f4 f10 f15) (bodyRun.sl.v3485 c f0 f4 f10 f15)
      (k0_pay555 k0_pay551) k0_pay556 (bodyRun.sl.v3494 c f0 f4 f10 f15) (bodyRun.sl.v3503 c f0 f4 f10 f15) (bodyRun.sl.v3509 c f0 f4 f10 f15) := rfl
  rw [er, t557, lanes_value c f0 f4 f10 f15 x hx, lanes_value c f0 f4 f10 f15 x hx, lanes_value c f0 f4 f10 f15 x hx, lanes_value c f0 f4 f10 f15 x hx, low]
  have q : ∀ (g : ℕ) (l : Fin 128), l.val = 32 * g + r.val →
      (∑ t : Fin 9, if l.val / 32 = t.val % 4 then
          lowTap x (dArr c f4) ⟨i.val % 2, by omega⟩ (i.val / 2 % 2 * 6 + i.val / 40) (i.val / 4 % 10) ⟨l.val % 32, by omega⟩ t else 0)
      = ∑ t : Fin 9, if g = t.val % 4 then lowTap x (dArr c f4) ⟨i.val % 2, by omega⟩ (i.val / 2 % 2 * 6 + i.val / 40) (i.val / 4 % 10) r t else 0 := by
    intro g l h
    have h1 : l.val / 32 = g := by omega
    have h2 : (⟨l.val % 32, by omega⟩ : Fin 32) = r := Fin.ext (by show l.val % 32 = r.val; omega)
    rw [h1, h2]
  rw [q 0 ⟨r.val, _⟩ (by show r.val = _; omega), q 2 ⟨(r.val + 128 - 64) % 128, _⟩ (by show (r.val + 128 - 64) % 128 = _; omega),
    q 3 ⟨(r.val + 128 - 32) % 128, _⟩ (by show (r.val + 128 - 32) % 128 = _; omega),
    q 1 ⟨((r.val + 128 - 32) % 128 + 128 - 64) % 128, _⟩ (by show ((r.val + 128 - 32) % 128 + 128 - 64) % 128 = _; omega)]
  rw [← Finset.sum_add_distrib, ← Finset.sum_add_distrib, ← Finset.sum_add_distrib]
  refine Finset.sum_congr rfl fun t _ => ?_
  have ht : t.val % 4 = 0 ∨ t.val % 4 = 1 ∨ t.val % 4 = 2 ∨ t.val % 4 = 3 := by omega
  rcases ht with h | h | h | h <;> rw [h] <;> simp

end Cert.KernelIdeal.Hand
-- ==== Proof.Acc.lean ====
/-
  The accumulator: each output row is the sum over the nine taps of the padded codes times the weights.
-/
module

public import proofs.«01_k».proof.Proof.CodesVal
public import proofs.«01_k».proof.Proof.StructAcc
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

/-- The weights in memory at an index. -/
def wv (c : Dev nD) (g : MBuf (F := Ideal) c M12) (t : Fin 9) (k : Fin 2560) (n : Fin 1280) : EReal := M12.view.read (Elt Ideal) g (ix3 t k n)

/-- The weights as the region finds them. -/
abbrev wArr (c : Dev nD) (f1 : MBuf (F := Ideal) c M1) : S9x2560x1280.Idx → EReal := M1.view.read (Elt Ideal) f1

theorem slab_apply (w : S2560x1280.Idx → EReal) (k : Fin 2560) (n : Fin 1280) :
    shapeCast (α := EReal) S1x2560x1280 w (by decide) (ix3 0 k n) = w (ix2 k n) := by
  pointwise

theorem unslab_apply (w : S1x2560x1280.Idx → EReal) (k : Fin 2560) (n : Fin 1280) :
    shapeCast (α := EReal) S2560x1280 w shapeCasts_S1x2560x1280_S2560x1280 (ix2 k n) = w (ix3 0 k n) := by
  pointwise

theorem wSrc_apply (c : Dev nD) (f1 : MBuf (F := Ideal) c M1) (t : Fin 9) (k : Fin 2560) (n : Fin 1280) :
    (wSrc t.val t.isLt).view.read (Elt Ideal) f1 (ix2 k n) = wArr c f1 (ix3 t k n) := by
  have h := unslab_apply (fun y => M1.view.read (Elt Ideal) f1
    ((Rect.unit (s := S9x2560x1280) ![t.val, 0, 0] S1x2560x1280.size (wInb t.isLt)).emb y)) k n
  have e : (Rect.unit (s := S9x2560x1280) ![t.val, 0, 0] S1x2560x1280.size (wInb t.isLt)).emb (ix3 0 k n) = ix3 t k n :=
    Rect.emb_eq_of_coords _ _ _ fun a => by
      match a with
      | 0 => show t.val = t.val + 1 * 0; omega
      | 1 => show k.val = 0 + 1 * k.val; omega
      | 2 => show n.val = 0 + 1 * n.val; omega
  rw [e] at h
  exact h

theorem wPut_write (c : Dev nD) (g : MBuf (F := Ideal) c M12) (t : ℕ) (ht : t < 9) (w : S2560x1280.Idx → EReal) :
    (wTap t ht).view.write (Elt Ideal) g w Finset.univ
      = M12.view.writes (Elt Ideal) g [⟨Rect.unit (s := S9x2560x1280) ![t, 0, 0] S1x2560x1280.size (wInb ht),
          shapeCast (α := EReal) S1x2560x1280 w (by decide)⟩] := by
  exact View.write_reshape_univ (M12.view.slice (Rect.unit (s := S9x2560x1280) ![t, 0, 0] S1x2560x1280.size (wInb ht))) _ g w

/-- One transfer fills one tap. -/
theorem wv_put (c : Dev nD) (f1 : MBuf (F := Ideal) c M1) (t' : ℕ) (h' : t' < 9) (g : MBuf (F := Ideal) c M12) (t : Fin 9) (k : Fin 2560) (n : Fin 1280) :
    wv c (wPut c f1 t' h' g) t k n = if t.val = t' then wArr c f1 (ix3 t k n) else wv c g t k n := by
  rw [wv, wPut, wPut_write]
  split_ifs with e
  · refine (View.read_writes_cons_hit_of_coords M12.view g (Rect.unit (s := S9x2560x1280) ![t', 0, 0] S1x2560x1280.size (wInb h')) _ []
      (ix3 0 k n) (ix3 t k n) ?_).trans ?_
    · intro a
      match a with
      | 0 => show t.val = t' + 1 * 0; omega
      | 1 => show k.val = 0 + 1 * k.val; omega
      | 2 => show n.val = 0 + 1 * n.val; omega
    · refine (slab_apply _ k n).trans ?_
      subst e
      exact wSrc_apply c f1 t k n
  · exact View.read_writes_cons_miss_of_axis M12.view g _ [] (ix3 t k n) 0 t' 1 rfl rfl rfl (by show t.val < t' ∨ t' + 1 ≤ t.val; omega)

theorem wBuf_value (c : Dev nD) (f1 : MBuf (F := Ideal) c M1) (f12 : MBuf (F := Ideal) c M12) (t : Fin 9) (k : Fin 2560) (n : Fin 1280) :
    wv c (wBuf c f1 f12) t k n = wArr c f1 (ix3 t k n) := by
  unfold wBuf
  simp only [wv_put]
  split_ifs <;> first | rfl | omega

theorem wLd_value (c : Dev nD) (f1 : MBuf (F := Ideal) c M1) (f12 : MBuf (F := Ideal) c M12) (t : Fin 9) (k : Fin 2560) (n : Fin 1280) :
    wLd c f1 f12 t.val t.isLt (ix3 0 k n) = wArr c f1 (ix3 t k n) := by
  rw [← wBuf_value c f1 f12 t k n]
  have e : (Rect.unit (s := S9x2560x1280) ![t.val, 0, 0] S1x2560x1280.size (wInb t.isLt)).emb (ix3 0 k n) = ix3 t k n :=
    Rect.emb_eq_of_coords _ _ _ fun a => by
      match a with
      | 0 => show t.val = t.val + 1 * 0; omega
      | 1 => show k.val = 0 + 1 * k.val; omega
      | 2 => show n.val = 0 + 1 * n.val; omega
  exact congrArg (M12.view.read (Elt Ideal) (wBuf c f1 f12)) e

theorem cat256_apply (f : Fin 20 → FVec Ideal S256x128 .fp8e4m3) (i : Fin 256) (k : Fin 2560) :
    cat256 f (ix2 i k) = f ⟨k.val / 128, by omega⟩ (ix2 i ⟨k.val % 128, by omega⟩) := by
  unfold cat256
  have h := concatenate_ofFn_apply (t := S256x2560) (s₁ := S256x128) 1 f (by exact concatenates_S256x128_S256x128_S256x128_S256x128_S256x128_S256x128_S256x128_S256x128_S256x128_S256x128_S256x128_S256x128_S256x128_S256x128_S256x128_S256x128_S256x128_S256x128_S256x128_S256x128_S256x2560_d1)
    rfl 128 rfl (ix2 i k) ⟨k.val / 128, by omega⟩ rfl (ix2 i ⟨k.val % 128, by omega⟩) rfl (fun b hb => by
      match b with
      | 0 => rfl
      | 1 => exact absurd rfl hb)
  exact h

theorem block_apply (w : S1x1x256x128.Idx → EReal) (i : Fin 256) (l : Fin 128) :
    shapeCast (α := EReal) S256x128 w shapeCasts_S1x1x256x128_S256x128 (ix2 i l) = w (ix4 0 0 i l) := by
  pointwise

theorem tapLhs_apply (c : Dev nD) (L : List (CPiece Ideal)) (j : Fin 3) (r : ℕ) (hr : r + 256 ≤ 384) (i : Fin 256) (k : Fin 2560) :
    tapLhs L j.val r j.isLt hr (ix2 i k) = cv c M11.view.junk L j ⟨k.val / 128, by omega⟩ ⟨r + i.val, by omega⟩ ⟨k.val % 128, by omega⟩ := by
  rw [tapLhs, cat256_apply, block_apply]
  have e : (cRect j.val (k.val / 128) r 256 (cInb j.isLt (by omega) hr)).emb (ix4 0 0 i ⟨k.val % 128, by omega⟩)
      = ix4 j ⟨k.val / 128, by omega⟩ ⟨r + i.val, by omega⟩ ⟨k.val % 128, by omega⟩ := Rect.emb_eq_of_coords _ _ _ fun a => by
    match a with
    | 0 => show j.val = j.val + 1 * 0; omega
    | 1 => show k.val / 128 = k.val / 128 + 1 * 0; omega
    | 2 => show r + i.val = r + 1 * i.val; omega
    | 3 => show k.val % 128 = 0 + 1 * (k.val % 128); omega
  exact congrArg (M11.view.read (Elt Ideal) (M11.view.writes (Elt Ideal) M11.view.junk L)) e

/-- The accumulator read whole. -/
def av (A : List (APiece Ideal)) : S256x1280.Idx → EReal :=
  M17.view.readCov A (Rect.unit ![0, 0] S256x1280.size inb_S256x1280_S256x1280_0_0).toLoadRect

theorem av_put (lhs : FVec Ideal S256x2560 .fp8e4m3) (w : Vec Ideal S1x2560x1280 .fp8e4m3) (A : List (APiece Ideal)) (i : Fin 256) (n : Fin 1280) :
    av (accPut lhs w A) (ix2 i n) = av A (ix2 i n) + ∑ k : Fin 2560, lhs (ix2 i k) * w (ix3 0 k n) := by
  unfold av accPut
  rw [View.readCov_full]
  pointwise

theorem av_zero (i : Fin 256) (n : Fin 1280) :
    av [⟨Rect.unit ![0, 0] S256x1280.size inb_S256x1280_S256x1280_0_0, k0_pay564 (F := Ideal)⟩] (ix2 i n) = 0 := by
  unfold av
  rw [View.readCov_full]
  pointwise [k0_pay564]

/-- One tap's part of an output pixel. -/
def tapSum (x : S2x12x10x2560.Idx → EReal) (W : S9x2560x1280.Idx → EReal) (b : Fin 2) (h w : ℕ) (n : Fin 1280) (t : Fin 9) : EReal :=
  ∑ k : Fin 2560, padCode x b (h + t.val / 3) (w + t.val % 3) k * W (ix3 t k n)

/-- An output pixel of the convolution. -/
def conv (x : S2x12x10x2560.Idx → EReal) (W : S9x2560x1280.Idx → EReal) (b : Fin 2) (h w : ℕ) (n : Fin 1280) : EReal :=
  ∑ t : Fin 9, tapSum x W b h w n t

/-- Where a tap's operand row lies in the padded image. -/
theorem tapPlace : ∀ (d : Fin 3) (i : Fin 240),
    (⟨(24 + 40 * d.val + i.val) % 2, by omega⟩ : Fin 2) = ⟨i.val % 2, by omega⟩
    ∧ (24 + 40 * d.val + i.val) / 2 % 2 * 6 + ((24 + 40 * d.val + i.val) / 4 - 6) / 10 = i.val / 2 % 2 * 6 + i.val / 40 + d.val
    ∧ ((24 + 40 * d.val + i.val) / 4 - 6) % 10 = i.val / 4 % 10 := by
  decide +kernel

section
variable (c : Dev nD) (f0 : MBuf (F := Ideal) c M0) (f1 : MBuf (F := Ideal) c M1) (f10 : MBuf (F := Ideal) c M10) (f11 : MBuf (F := Ideal) c M11) (f12 : MBuf (F := Ideal) c M12)
  (x : S2x12x10x2560.Idx → EReal) (hx : HX c f0 x) (hf : Finite x)
include hx hf

theorem tapLhs_value (j d : Fin 3) (r : ℕ) (hr : r + 256 ≤ 384) (hd : r = 24 + 40 * d.val) (i : Fin 256) (hi : i.val < 240) (k : Fin 2560) :
    tapLhs (codesUpTo c f0 f10 f11 20 (Nat.le_refl 20)) j.val r j.isLt hr (ix2 i k)
      = padCode x ⟨i.val % 2, by omega⟩ (i.val / 2 % 2 * 6 + i.val / 40 + d.val) (i.val / 4 % 10 + j.val) k := by
  subst hd
  rw [tapLhs_apply c]
  refine (cv_codes c f0 f10 f11 _ x hx hf 20 (Nat.le_refl 20) j _ (by show k.val / 128 < 20; omega) _ _ (by show 24 ≤ 24 + 40 * d.val + i.val; omega)
    (by show 24 + 40 * d.val + i.val < 344; omega)).trans ?_
  obtain ⟨e1, e2, e3⟩ := tapPlace d ⟨i.val, hi⟩
  simp only at e1 e2 e3
  have ek : (⟨k.val / 128 * 128 + k.val % 128, by omega⟩ : Fin 2560) = k := Fin.ext (by show _ / 128 * 128 + _ = _; omega)
  simp only [e1, e2, e3, ek]

theorem put_value (j d : Fin 3) (t : Fin 9) (r : ℕ) (hr : r + 256 ≤ 384) (hd : r = 24 + 40 * d.val) (ht : t.val = 3 * d.val + j.val)
    (A : List (APiece Ideal)) (i : Fin 256) (hi : i.val < 240) (n : Fin 1280) :
    av (accPut (tapLhs (codesUpTo c f0 f10 f11 20 (Nat.le_refl 20)) j.val r j.isLt hr) (wLd c f1 f12 t.val t.isLt) A) (ix2 i n)
      = av A (ix2 i n) + tapSum x (wArr c f1) ⟨i.val % 2, by omega⟩ (i.val / 2 % 2 * 6 + i.val / 40) (i.val / 4 % 10) n t := by
  refine (av_put _ _ _ _ _).trans (congrArg (av A (ix2 i n) + ·) ?_)
  unfold tapSum
  refine Finset.sum_congr rfl fun k _ => ?_
  rw [tapLhs_value c f0 f10 f11 x hx hf j d r hr hd i hi k, wLd_value c f1 f12 t k n, show t.val / 3 = d.val by omega, show t.val % 3 = j.val by omega]

/-- The accumulator after the nine taps. -/
theorem acc_value (i : Fin 256) (hi : i.val < 240) (n : Fin 1280) :
    av (bodyRun.sl.H17_10 c f0 f1 f10 f11 f12) (ix2 i n)
      = conv x (wArr c f1) ⟨i.val % 2, by omega⟩ (i.val / 2 % 2 * 6 + i.val / 40) (i.val / 4 % 10) n := by
  rw [acc_eq, codes_eq]
  unfold accAll
  extract_lets A0 A1 A2 A3 A4 A5 A6 A7 A8
  have P := fun j d t r hr hd ht A => put_value c f0 f1 f10 f11 f12 x hx hf j d t r hr hd ht A i hi n
  have e0 : av A0 (ix2 i n) = 0 := av_zero i n
  have e1 := P 0 1 3 64 (by decide) rfl rfl A0
  have e2 := P 1 1 4 64 (by decide) rfl rfl A1
  have e3 := P 2 1 5 64 (by decide) rfl rfl A2
  have e4 := P 0 0 0 24 (by decide) rfl rfl A3
  have e5 := P 1 0 1 24 (by decide) rfl rfl A4
  have e6 := P 2 0 2 24 (by decide) rfl rfl A5
  have e7 := P 0 2 6 104 (by decide) rfl rfl A6
  have e8 := P 1 2 7 104 (by decide) rfl rfl A7
  have e9 := P 2 2 8 104 (by decide) rfl rfl A8
  unfold conv
  generalize tapSum x (wArr c f1) ⟨i.val % 2, by omega⟩ (i.val / 2 % 2 * 6 + i.val / 40) (i.val / 4 % 10) n = T at *
  have s2 : av A2 (ix2 i n) = 0 + T 3 + T 4 := e2.trans (congrArg (· + T 4) (e1.trans (congrArg (· + T 3) e0)))
  have s4 : av A4 (ix2 i n) = 0 + T 3 + T 4 + T 5 + T 0 := e4.trans (congrArg (· + T 0) (e3.trans (congrArg (· + T 5) s2)))
  have s6 : av A6 (ix2 i n) = 0 + T 3 + T 4 + T 5 + T 0 + T 1 + T 2 := e6.trans (congrArg (· + T 2) (e5.trans (congrArg (· + T 1) s4)))
  have s8 : av A8 (ix2 i n) = 0 + T 3 + T 4 + T 5 + T 0 + T 1 + T 2 + T 6 + T 7 := e8.trans (congrArg (· + T 7) (e7.trans (congrArg (· + T 6) s6)))
  refine e9.trans ((congrArg (· + T 8) s8).trans ?_)
  have h : ∑ t : Fin 9, T t = T 0 + (T 1 + (T 2 + (T 3 + (T 4 + (T 5 + (T 6 + (T 7 + T 8))))))) := by
    simp only [Fin.sum_univ_succ, Fin.sum_univ_zero, add_zero]
    rfl
  rw [h, zero_add]
  abel
end

end Cert.KernelIdeal.Hand
-- ==== Proof.Out.lean ====
/-
  The first two results in their staging arrays: the scaled and biased product with the low-rank part added, and the
  first low-rank convolution.
-/
module

public import proofs.«01_k».proof.Proof.StructOut
public import proofs.«01_k».proof.Proof.LowVal
public import proofs.«01_k».proof.Proof.Acc

@[expose] public section

set_option maxRecDepth 16384

noncomputable section

namespace Cert.KernelIdeal.Hand

open Cert.KernelIdeal Cert.KernelIdeal.Gen
open Idealize.ShloMosaic Idealize.ShloMosaic.TcCoe

/-! ## The sorting of the rows -/

theorem yBlock_apply (n : ℕ) (h : n < 10) (y : FVec Ideal S240x1280 .bf16) (p : Fin 60) (k b : Fin 2) (l : Fin 128) :
    yBlock n h y (ix5 p k 0 b l) = y (ix2 ⟨4 * p.val + 2 * k.val + b.val, by omega⟩ ⟨n * 128 + l.val, by omega⟩) := by
  unfold yBlock
  pointwise
  split_ifs with e
  · exact congrArg (fun q => y (ix2 q _)) (Fin.ext (by show 2 * (p.val * 2 + k.val) = 4 * p.val + 2 * k.val + b.val; omega))
  · exact congrArg (fun q => y (ix2 q _)) (Fin.ext (by show 2 * (p.val * 2 + k.val) + 1 = 4 * p.val + 2 * k.val + b.val; omega))

theorem hBlock_apply (lo hi : FVec Ideal S120x32 .bf16) (p : Fin 60) (k b : Fin 2) (r : Fin 32) :
    k0_pay562 lo hi (ix4 p k b r) = if b.val = 0 then lo (ix2 ⟨2 * p.val + k.val, by omega⟩ r) else hi (ix2 ⟨2 * p.val + k.val, by omega⟩ r) := by
  pointwise [k0_pay562]
  split_ifs with e e' e'
  · exact congrArg (fun q => lo (ix2 q _)) (Fin.ext (by show p.val * 2 + k.val = 2 * p.val + k.val; omega))
  · omega
  · omega
  · exact congrArg (fun q => hi (ix2 q _)) (Fin.ext (by show p.val * 2 + k.val = 2 * p.val + k.val; omega))

theorem lo558 (v3441 v3444 : IVec S240x128 32) (v3484 v3485 : FVec Ideal S240x128 .f32) (v3487 : IVec S240x128 1) (v3488 : IVec S240x128 32)
    (v3494 v3503 v3509 : FVec Ideal S240x128 .f32) (i : Fin 120) (r : Fin 32) :
    k0_pay558 v3441 v3444 v3484 v3485 v3487 v3488 v3494 v3503 v3509 (ix2 i r)
      = k0_pay557 v3441 v3444 v3484 v3485 v3487 v3488 v3494 v3503 v3509 (ix2 ⟨2 * i.val, by omega⟩ ⟨r.val, by omega⟩) := by
  unfold k0_pay558
  generalize k0_pay557 v3441 v3444 v3484 v3485 v3487 v3488 v3494 v3503 v3509 = s
  pointwise

theorem hi559 (v3441 v3444 : IVec S240x128 32) (v3484 v3485 : FVec Ideal S240x128 .f32) (v3487 : IVec S240x128 1) (v3488 : IVec S240x128 32)
    (v3494 v3503 v3509 : FVec Ideal S240x128 .f32) (i : Fin 120) (r : Fin 32) :
    k0_pay559 v3441 v3444 v3484 v3485 v3487 v3488 v3494 v3503 v3509 (ix2 i r)
      = k0_pay557 v3441 v3444 v3484 v3485 v3487 v3488 v3494 v3503 v3509 (ix2 ⟨2 * i.val + 1, by omega⟩ ⟨r.val, by omega⟩) := by
  unfold k0_pay559
  generalize k0_pay557 v3441 v3444 v3484 v3485 v3487 v3488 v3494 v3503 v3509 = s
  pointwise

theorem up563 (hb : FVec Ideal S240x128 .bf16) (u : FVec Ideal S32x1280 .bf16) (i : Fin 240) (n : Fin 1280) :
    k0_pay563 hb u (ix2 i n) = ∑ r : Fin 32, hb (ix2 i ⟨r.val, by omega⟩) * u (ix2 r n) := by
  unfold k0_pay563
  pointwise

theorem scaled711 (s0 s1 : FVec Ideal S1x1 .f32) (a : FVec Ideal S240x1280 .f32) (ws : FVec Ideal S1280 .f32) (i : Fin 240) (n : Fin 1280) :
    k0_pay711 s0 s1 a ws (ix2 i n) = a (ix2 i n) * ((if i.val % 2 = 1 then s1 (ix2 0 0) else s0 (ix2 0 0)) * ws (ix1 n)) := by
  unfold k0_pay711
  pointwise
  have h : ∀ i : Fin 240, IntOp.cmpi CmpIPredicate.eq (IntOp.andi (BitVec.ofNat 32 i.val) 1#32) 1#32 = if i.val % 2 = 1 then 1#1 else 0#1 := by decide +kernel
  rw [h]
  split_ifs <;> rfl

theorem bias712 (v : FVec Ideal S1280 .f32) (n : Fin 1280) : k0_pay712 v (ix2 0 n) = v (ix1 n) := by
  unfold k0_pay712
  pointwise

theorem out713 (up a : FVec Ideal S240x1280 .f32) (bias : FVec Ideal S1x1280 .f32) (i : Fin 240) (n : Fin 1280) :
    k0_pay713 up a bias (ix2 i n) = (a (ix2 i n) + bias (ix2 0 n)) + Ideal.ofBits .f32 0x3F400000#32 * up (ix2 i n) := by
  unfold k0_pay713
  pointwise

theorem av_load (A : List (APiece Ideal)) (i : Fin 240) (n : Fin 1280) :
    M17.view.readCov A (Rect.unit (s := S256x1280) ![0, 0] S240x1280.size inb_S256x1280_S240x1280_0_0).toLoadRect (ix2 i n) = av A (ix2 ⟨i.val, by omega⟩ n) := by
  have e : (Rect.unit (s := S256x1280) ![0, 0] S240x1280.size inb_S256x1280_S240x1280_0_0).emb (ix2 i n)
      = (Rect.unit (s := S256x1280) ![0, 0] S256x1280.size inb_S256x1280_S256x1280_0_0).emb (ix2 ⟨i.val, by omega⟩ n) := by
    refine (Rect.emb_eq_of_coords _ _ (ix2 ⟨i.val, by omega⟩ n) fun a => ?_).trans (Rect.emb_eq_of_coords _ _ _ fun a => ?_).symm
    · match a with
      | 0 => show i.val = 0 + 1 * i.val; omega
      | 1 => show n.val = 0 + 1 * n.val; omega
    · match a with
      | 0 => show i.val = 0 + 1 * i.val; omega
      | 1 => show n.val = 0 + 1 * n.val; omega
  exact congrArg (M17.view.read (Elt Ideal) (M17.view.writes (Elt Ideal) M17.view.junk A)) e

/-! ## What the results hold -/

/-- The per-channel scale, the bias and the second low-rank matrix. -/
def sArr (c : Dev nD) (f2 : MBuf (F := Ideal) c M2) : S1280.Idx → EReal := M2.view.read (Elt Ideal) f2
def bArr (c : Dev nD) (f3 : MBuf (F := Ideal) c M3) : S1280.Idx → EReal := M3.view.read (Elt Ideal) f3
def uArr (c : Dev nD) (f5 : MBuf (F := Ideal) c M5) : S32x1280.Idx → EReal := M5.view.read (Elt Ideal) f5

theorem sArr_load (c : Dev nD) (f2 : MBuf (F := Ideal) c M2) (f13 : MBuf (F := Ideal) c M13) :
    M13.view.readAt (Elt Ideal) (Rect.unit ![0] S1280.size inb_S1280_S1280_0).toLoadRect
      (View.write (Elt Ideal) M13.view f13 (bodyRun.sl.dma0_4 c f2) Finset.univ) = sArr c f2 :=
  (View.readAt_full M13.view _ _).trans (View.read_write_univ _ _)

theorem bArr_load (c : Dev nD) (f3 : MBuf (F := Ideal) c M3) (f14 : MBuf (F := Ideal) c M14) :
    M14.view.readAt (Elt Ideal) (Rect.unit ![0] S1280.size inb_S1280_S1280_0).toLoadRect
      (View.write (Elt Ideal) M14.view f14 (bodyRun.sl.dma0_5 c f3) Finset.univ) = bArr c f3 :=
  (View.readAt_full M14.view _ _).trans (View.read_write_univ _ _)

theorem uArr_load (c : Dev nD) (f5 : MBuf (F := Ideal) c M5) (f16 : MBuf (F := Ideal) c M16) :
    M16.view.readAt (Elt Ideal) (Rect.unit ![0, 0] S32x1280.size inb_S32x1280_S32x1280_0_0).toLoadRect
      (View.write (Elt Ideal) M16.view f16 (bodyRun.sl.dma0_3 c f5) Finset.univ) = uArr c f5 :=
  (View.readAt_full M16.view _ _).trans (View.read_write_univ _ _)

/-- The result: the product of the codes with the weights, scaled and biased, with the low-rank part added. -/
def yVal (x : S2x12x10x2560.Idx → EReal) (W : S9x2560x1280.Idx → EReal) (ws bias : S1280.Idx → EReal) (D : S288x2560.Idx → EReal) (U : S32x1280.Idx → EReal)
    (b : Fin 2) (h w : ℕ) (n : Fin 1280) : EReal :=
  (conv x W b h w n * (scaleOf (tOf x b) * ws (ix1 n)) + bias (ix1 n)) + Ideal.ofBits .f32 0x3F400000#32 * ∑ r : Fin 32, low x D b h w r * U (ix2 r n)

variable (c : Dev nD) (f0 : MBuf (F := Ideal) c M0) (f1 : MBuf (F := Ideal) c M1) (f2 : MBuf (F := Ideal) c M2) (f3 : MBuf (F := Ideal) c M3)
  (f4 : MBuf (F := Ideal) c M4) (f5 : MBuf (F := Ideal) c M5) (f10 : MBuf (F := Ideal) c M10) (f11 : MBuf (F := Ideal) c M11)
  (f12 : MBuf (F := Ideal) c M12) (f13 : MBuf (F := Ideal) c M13) (f14 : MBuf (F := Ideal) c M14) (f15 : MBuf (F := Ideal) c M15)
  (f16 : MBuf (F := Ideal) c M16) (x : S2x12x10x2560.Idx → EReal) (hx : HX c f0 x) (hf : Finite x)

include hx in
theorem up_value (i : Fin 240) (n : Fin 1280) :
    bodyRun.sl.r_78 c f0 f4 f5 f10 f15 f16 (ix2 i n)
      = ∑ r : Fin 32, low x (dArr c f4) ⟨i.val % 2, by omega⟩ (i.val / 2 % 2 * 6 + i.val / 40) (i.val / 4 % 10) r * uArr c f5 (ix2 r n) := by
  unfold bodyRun.sl.r_78
  rw [uArr_load]
  refine (up563 _ _ i n).trans (Finset.sum_congr rfl fun r _ => ?_)
  exact congrArg (· * _) (low_value c f0 f4 f10 f15 x hx i r)

theorem acc_load (i : Fin 240) (n : Fin 1280) :
    bodyRun.sl.v4047 c f0 f1 f10 f11 f12 (ix2 i n) = av (bodyRun.sl.H17_10 c f0 f1 f10 f11 f12) (ix2 ⟨i.val, by omega⟩ n) := by
  unfold bodyRun.sl.v4047
  exact av_load _ i n

include hx hf in
theorem y_value (i : Fin 240) (n : Fin 1280) :
    bodyRun.sl.r_106 c f0 f1 f2 f3 f4 f5 f10 f11 f12 f13 f14 f15 f16 (ix2 i n)
      = yVal x (wArr c f1) (sArr c f2) (bArr c f3) (dArr c f4) (uArr c f5) ⟨i.val % 2, by omega⟩ (i.val / 2 % 2 * 6 + i.val / 40) (i.val / 4 % 10) n := by
  have e : bodyRun.sl.r_106 c f0 f1 f2 f3 f4 f5 f10 f11 f12 f13 f14 f15 f16
      = k0_pay713 (bodyRun.sl.r_78 c f0 f4 f5 f10 f15 f16) (bodyRun.sl.r_104 c f0 f1 f2 f10 f11 f12 f13) (bodyRun.sl.r_105 c f3 f14) := rfl
  have e4 : bodyRun.sl.r_104 c f0 f1 f2 f10 f11 f12 f13 = k0_pay711 (bodyRun.sl.r_5 c f0 f10) (bodyRun.sl.r_6 c f0 f10)
      (bodyRun.sl.v4047 c f0 f1 f10 f11 f12) (M13.view.readAt (Elt Ideal) (Rect.unit ![0] S1280.size inb_S1280_S1280_0).toLoadRect
      (View.write (Elt Ideal) M13.view f13 (bodyRun.sl.dma0_4 c f2) Finset.univ)) := rfl
  have e5 : bodyRun.sl.r_105 c f3 f14 = k0_pay712 (M14.view.readAt (Elt Ideal) (Rect.unit ![0] S1280.size inb_S1280_S1280_0).toLoadRect
      (View.write (Elt Ideal) M14.view f14 (bodyRun.sl.dma0_5 c f3) Finset.univ)) := rfl
  rw [e, out713, up_value c f0 f4 f5 f10 f15 f16 x hx, e4, e5, sArr_load, bArr_load, scaled711, bias712, acc_load,
    acc_value c f0 f1 f10 f11 f12 x hx hf ⟨i.val, by omega⟩ i.isLt n, r5_eq c f0 f10 x hx hf, r6_eq c f0 f10 x hx hf, yVal]
  by_cases h : i.val % 2 = 1
  · rw [if_pos h, show (⟨i.val % 2, by omega⟩ : Fin 2) = 1 from Fin.ext h]
  · rw [if_neg h, show (⟨i.val % 2, by omega⟩ : Fin 2) = 0 from Fin.ext (by show i.val % 2 = 0; omega)]

/-- The staging array of the result, after its ten stores. -/
theorem yList_read (f19 : MBuf (F := Ideal) c M19) (y : FVec Ideal S240x1280 .bf16) (n : ℕ) (hn : n ≤ 10) (p : Fin 60) (k : Fin 2) (ct : Fin 10) (b : Fin 2) (l : Fin 128)
    (h : ct.val < n) :
    M19.view.read (Elt Ideal) (M19.view.writes (Elt Ideal) f19 (yList y n hn)) (ix5 p k ct b l)
      = y (ix2 ⟨4 * p.val + 2 * k.val + b.val, by omega⟩ ⟨ct.val * 128 + l.val, by omega⟩) := by
  induction n with
  | zero => omega
  | succ n ih =>
    by_cases e : ct.val = n
    · subst e
      refine (View.read_writes_cons_hit_of_coords M19.view f19 (Rect.unit (s := S60x2x10x2x128) ![0, 0, ct.val, 0, 0] S60x2x1x2x128.size (yInb hn)) _ _
        (ix5 p k 0 b l) (ix5 p k ct b l) ?_).trans (yBlock_apply ct.val hn y p k b l)
      intro a
      match a with
      | 0 => show p.val = 0 + 1 * p.val; omega
      | 1 => show k.val = 0 + 1 * k.val; omega
      | 2 => show ct.val = ct.val + 1 * 0; omega
      | 3 => show b.val = 0 + 1 * b.val; omega
      | 4 => show l.val = 0 + 1 * l.val; omega
    · exact (View.read_writes_cons_miss_of_axis M19.view f19 _ _ (ix5 p k ct b l) 2 n 1 rfl rfl rfl (by show ct.val < n ∨ n + 1 ≤ ct.val; omega)).trans
        (ih (by omega) (by omega))

theorem unhalf_y (w : S60x1x10x2x128.Idx → EReal) (p : Fin 60) (ct : Fin 10) (b : Fin 2) (l : Fin 128) :
    shapeCast (α := EReal) S60x10x2x128 w (by decide) (ix4 p ct b l) = w (ix5 p 0 ct b l) := by
  pointwise

theorem unhalf_h (w : S60x1x2x32.Idx → EReal) (p : Fin 60) (b : Fin 2) (r : Fin 32) :
    shapeCast (α := EReal) S60x2x32 w (by decide) (ix3 p b r) = w (ix4 p 0 b r) := by
  pointwise

theorem halfY_inb {k : ℕ} (hk : k < 2) : ∀ a, (![0, k, 0, 0, 0] : Fin 5 → ℕ) a + S60x1x10x2x128.size a ≤ S60x2x10x2x128.size a := by
  intro a
  match a with
  | 0 => exact le_refl 60
  | 1 => exact hk
  | 2 => exact le_refl 10
  | 3 => exact le_refl 2
  | 4 => exact le_refl 128

theorem halfH_inb {k : ℕ} (hk : k < 2) : ∀ a, (![0, k, 0, 0] : Fin 4 → ℕ) a + S60x1x2x32.size a ≤ S60x2x2x32.size a := by
  intro a
  match a with
  | 0 => exact le_refl 60
  | 1 => exact hk
  | 2 => exact le_refl 2
  | 3 => exact le_refl 32

/-- One half of the result's staging array. -/
theorem halfY_value (g : MBuf (F := Ideal) c M19) (k : Fin 2) (p : Fin 60) (ct : Fin 10) (b : Fin 2) (l : Fin 128) :
    shapeCast (α := EReal) (s := S60x1x10x2x128) S60x10x2x128 (fun y => M19.view.read (Elt Ideal) g
      ((Rect.unit (s := S60x2x10x2x128) ![0, k.val, 0, 0, 0] S60x1x10x2x128.size (halfY_inb k.isLt)).emb y)) (by decide) (ix4 p ct b l)
      = M19.view.read (Elt Ideal) g (ix5 p k ct b l) := by
  rw [unhalf_y]
  refine congrArg (M19.view.read (Elt Ideal) g) (Rect.emb_eq_of_coords _ _ _ fun a => ?_)
  match a with
  | 0 => show p.val = 0 + 1 * p.val; omega
  | 1 => show k.val = k.val + 1 * 0; omega
  | 2 => show ct.val = 0 + 1 * ct.val; omega
  | 3 => show b.val = 0 + 1 * b.val; omega
  | 4 => show l.val = 0 + 1 * l.val; omega

theorem halfH_value (g : MBuf (F := Ideal) c M20) (k : Fin 2) (p : Fin 60) (b : Fin 2) (r : Fin 32) :
    shapeCast (α := EReal) (s := S60x1x2x32) S60x2x32 (fun y => M20.view.read (Elt Ideal) g
      ((Rect.unit (s := S60x2x2x32) ![0, k.val, 0, 0] S60x1x2x32.size (halfH_inb k.isLt)).emb y)) (by decide) (ix3 p b r)
      = M20.view.read (Elt Ideal) g (ix4 p k b r) := by
  rw [unhalf_h]
  refine congrArg (M20.view.read (Elt Ideal) g) (Rect.emb_eq_of_coords _ _ _ fun a => ?_)
  match a with
  | 0 => show p.val = 0 + 1 * p.val; omega
  | 1 => show k.val = k.val + 1 * 0; omega
  | 2 => show b.val = 0 + 1 * b.val; omega
  | 3 => show r.val = 0 + 1 * r.val; omega

theorem row_arith : ∀ (p : Fin 60) (k b : Fin 2), (4 * p.val + 2 * k.val + b.val) % 2 = b.val ∧
    (4 * p.val + 2 * k.val + b.val) / 2 % 2 * 6 + (4 * p.val + 2 * k.val + b.val) / 40 = (k.val * 60 + p.val) / 10 ∧
    (4 * p.val + 2 * k.val + b.val) / 4 % 10 = (k.val * 60 + p.val) % 10 := by
  decide +kernel

include hx hf in
/-- What one half of the result holds. -/
theorem yHalf (f19 : MBuf (F := Ideal) c M19) (k : Fin 2) (p : Fin 60) (ct : Fin 10) (b : Fin 2) (l : Fin 128) :
    M19.view.read (Elt Ideal) (M19.view.writes (Elt Ideal) f19 (bodyRun.sl.H19_10 c f0 f1 f2 f3 f4 f5 f10 f11 f12 f13 f14 f15 f16)) (ix5 p k ct b l)
      = yVal x (wArr c f1) (sArr c f2) (bArr c f3) (dArr c f4) (uArr c f5) b ((k.val * 60 + p.val) / 10) ((k.val * 60 + p.val) % 10) ⟨ct.val * 128 + l.val, by omega⟩ := by
  rw [y_eq, yList_read c f19 _ 10 (le_refl 10) p k ct b l ct.isLt, y_value c f0 f1 f2 f3 f4 f5 f10 f11 f12 f13 f14 f15 f16 x hx hf]
  obtain ⟨h1, h2, h3⟩ := row_arith p k b
  have hb : (⟨(4 * p.val + 2 * k.val + b.val) % 2, by omega⟩ : Fin 2) = b := Fin.ext h1
  simp only [h2, h3, hb]

include hx in
/-- What one half of the first low-rank convolution's staging array holds. -/
theorem hHalf (f20 : MBuf (F := Ideal) c M20) (k : Fin 2) (p : Fin 60) (b : Fin 2) (r : Fin 32) :
    M20.view.read (Elt Ideal) (M20.view.writes (Elt Ideal) f20 (bodyRun.sl.H20_1 c f0 f4 f10 f15)) (ix4 p k b r)
      = low x (dArr c f4) b ((k.val * 60 + p.val) / 10) ((k.val * 60 + p.val) % 10) r := by
  have e : bodyRun.sl.H20_1 c f0 f4 f10 f15 = [⟨Rect.unit ![0, 0, 0, 0] S60x2x2x32.size inb_S60x2x2x32_S60x2x2x32_0_0_0_0,
    k0_pay562 (bodyRun.sl.r_74 c f0 f4 f10 f15) (bodyRun.sl.r_75 c f0 f4 f10 f15)⟩] := rfl
  rw [e]
  refine (View.read_writes_cons_hit_of_coords M20.view f20 (Rect.unit (s := S60x2x2x32) ![0, 0, 0, 0] S60x2x2x32.size inb_S60x2x2x32_S60x2x2x32_0_0_0_0) _ _
    (ix4 p k b r) (ix4 p k b r) (fun a => ?_)).trans ?_
  · match a with
    | 0 => show p.val = 0 + 1 * p.val; omega
    | 1 => show k.val = 0 + 1 * k.val; omega
    | 2 => show b.val = 0 + 1 * b.val; omega
    | 3 => show r.val = 0 + 1 * r.val; omega
  · have q : k0_pay562 (bodyRun.sl.r_74 c f0 f4 f10 f15) (bodyRun.sl.r_75 c f0 f4 f10 f15) (ix4 p k b r)
        = bodyRun.sl.r_73 c f0 f4 f10 f15 (ix2 ⟨4 * p.val + 2 * k.val + b.val, by omega⟩ ⟨r.val, by omega⟩) := by
      rw [hBlock_apply]
      split_ifs with e
      · refine (lo558 _ _ _ _ _ _ _ _ _ ⟨2 * p.val + k.val, by omega⟩ r).trans ?_
        exact congrArg (fun i => bodyRun.sl.r_73 c f0 f4 f10 f15 (ix2 i _)) (Fin.ext (by show 2 * (2 * p.val + k.val) = 4 * p.val + 2 * k.val + b.val; omega))
      · refine (hi559 _ _ _ _ _ _ _ _ _ ⟨2 * p.val + k.val, by omega⟩ r).trans ?_
        exact congrArg (fun i => bodyRun.sl.r_73 c f0 f4 f10 f15 (ix2 i _)) (Fin.ext (by show 2 * (2 * p.val + k.val) + 1 = 4 * p.val + 2 * k.val + b.val; omega))
    refine q.trans ?_
    rw [low_value c f0 f4 f10 f15 x hx]
    obtain ⟨h1, h2, h3⟩ := row_arith p k b
    have hb : (⟨(4 * p.val + 2 * k.val + b.val) % 2, by omega⟩ : Fin 2) = b := Fin.ext h1
    simp only [h2, h3, hb]

end Cert.KernelIdeal.Hand
-- ==== Proof.Xc.lean ====
/-
  The stored codes: what the code result holds once every lane block has written its six pieces.
-/
module

public import proofs.«01_k».proof.Proof.CodesVal

@[expose] public section

set_option maxRecDepth 16384

noncomputable section

namespace Cert.KernelIdeal.Hand

open Cert.KernelIdeal Cert.KernelIdeal.Gen
open Idealize.ShloMosaic Idealize.ShloMosaic.TcCoe

theorem quad_apply (a b d e : FVec Ideal S10x1x128 .fp8e4m3) (w : Fin 10) (i : Fin 4) (l : Fin 128) :
    quad a b d e (ix4 0 w i l) = (![a, b, d, e] i) (ix3 w 0 l) := by
  have hi : i = 0 ∨ i = 1 ∨ i = 2 ∨ i = 3 := by omega
  rcases hi with rfl | rfl | rfl | rfl <;> pointwise [quad]

theorem pick_apply (k : ℕ) (h : k < 4) (v : FVec Ideal S10x4x128 .fp8e4m3) (w : Fin 10) (l : Fin 128) :
    pick k h v (ix3 w 0 l) = v (ix3 w ⟨k, h⟩ l) := by
  unfold pick
  pointwise

theorem rows4_apply (v : FVec Ideal S40x128 .fp8e4m3) (w : Fin 10) (q : Fin 4) (l : Fin 128) :
    shapeCast S10x4x128 v shapeCasts_S40x128_S10x4x128 (ix3 w q l) = v (ix2 ⟨w.val * 4 + q.val, by omega⟩ l) := by
  pointwise

theorem xcRow_apply (c : Dev nD) (f11 : MBuf (F := Ideal) c M11) (L : List (CPiece Ideal)) (ct : ℕ) (hc : ct < 20) (j : ℕ) (hj : 64 + 40 * j + 40 ≤ 384)
    (w : Fin 10) (q : Fin 4) (l : Fin 128) :
    xcRow c f11 L ct hc j hj (ix3 w q l) = cv c f11 L 1 ⟨ct, hc⟩ ⟨64 + 40 * j + (w.val * 4 + q.val), by omega⟩ l := by
  rw [xcRow, rows4_apply, ldMid_apply]

/-- Four image rows side by side, from the padded codes. -/
theorem quad_rows (c : Dev nD) (f11 : MBuf (F := Ideal) c M11) (L : List (CPiece Ideal)) (ct : ℕ) (hc : ct < 20) (k j : Fin 4 → ℕ)
    (hk : ∀ i, k i < 4) (hj : ∀ i, 64 + 40 * j i + 40 ≤ 384) (w : Fin 10) (i : Fin 4) (l : Fin 128) (R : Fin 384)
    (hR : R.val = 64 + 40 * j i + (w.val * 4 + k i)) :
    quad (pick (k 0) (hk 0) (xcRow c f11 L ct hc (j 0) (hj 0))) (pick (k 1) (hk 1) (xcRow c f11 L ct hc (j 1) (hj 1)))
      (pick (k 2) (hk 2) (xcRow c f11 L ct hc (j 2) (hj 2))) (pick (k 3) (hk 3) (xcRow c f11 L ct hc (j 3) (hj 3))) (ix4 0 w i l)
      = cv c f11 L 1 ⟨ct, hc⟩ R l := by
  rw [quad_apply]
  have hi : i = 0 ∨ i = 1 ∨ i = 2 ∨ i = 3 := by omega
  have hv : R = ⟨64 + 40 * j i + (w.val * 4 + k i), by have := hj i; have := hk i; omega⟩ := Fin.ext hR
  rw [hv]
  rcases hi with rfl | rfl | rfl | rfl
  · exact (pick_apply (k 0) (hk 0) (xcRow c f11 L ct hc (j 0) (hj 0)) w l).trans (xcRow_apply c f11 L ct hc (j 0) (hj 0) w ⟨k 0, hk 0⟩ l)
  · exact (pick_apply (k 1) (hk 1) (xcRow c f11 L ct hc (j 1) (hj 1)) w l).trans (xcRow_apply c f11 L ct hc (j 1) (hj 1) w ⟨k 1, hk 1⟩ l)
  · exact (pick_apply (k 2) (hk 2) (xcRow c f11 L ct hc (j 2) (hj 2)) w l).trans (xcRow_apply c f11 L ct hc (j 2) (hj 2) w ⟨k 2, hk 2⟩ l)
  · exact (pick_apply (k 3) (hk 3) (xcRow c f11 L ct hc (j 3) (hj 3)) w l).trans (xcRow_apply c f11 L ct hc (j 3) (hj 3) w ⟨k 3, hk 3⟩ l)

/-- The code result read at an index, after a list of writes. -/
def xv (c : Dev nD) (g : MBuf (F := Ideal) c M21) (X : List (XPiece Ideal)) (b : Fin 2) (w : Fin 10) (h : Fin 12) (k : Fin 2560) : EReal :=
  M21.view.read (Elt Ideal) (M21.view.writes (Elt Ideal) g X) (ix4 b w h k)

theorem xv_hit (c : Dev nD) (g : MBuf (F := Ideal) c M21) (X : List (XPiece Ideal)) (b k ct : ℕ) (h : _) (v : FVec Ideal S1x10x4x128 .fp8e4m3)
    (b' : Fin 2) (w : Fin 10) (h' : Fin 12) (i : Fin 4) (l : Fin 128) (m : Fin 2560) (h0 : b'.val = b) (h1 : h'.val = k + i.val) (h2 : m.val = ct * 128 + l.val) :
    xv c g (⟨Rect.unit (s := S2x10x12x2560) ![b, 0, k, ct * 128] S1x10x4x128.size h, v⟩ :: X) b' w h' m = v (ix4 0 w i l) := by
  refine View.read_writes_cons_hit_of_coords M21.view g (Rect.unit (s := S2x10x12x2560) ![b, 0, k, ct * 128] S1x10x4x128.size h) v X (ix4 0 w i l) (ix4 b' w h' m) ?_
  intro a
  match a with
  | 0 => exact h0.trans (by simp)
  | 1 => show w.val = 0 + 1 * w.val; omega
  | 2 => show h'.val = k + 1 * i.val; omega
  | 3 => show m.val = ct * 128 + 1 * l.val; omega

theorem xv_miss (c : Dev nD) (g : MBuf (F := Ideal) c M21) (X : List (XPiece Ideal)) (b k ct : ℕ) (h : _) (v : FVec Ideal S1x10x4x128 .fp8e4m3)
    (b' : Fin 2) (w : Fin 10) (h' : Fin 12) (m : Fin 2560)
    (hn : b'.val ≠ b ∨ h'.val < k ∨ k + 4 ≤ h'.val ∨ m.val / 128 ≠ ct) :
    xv c g (⟨Rect.unit (s := S2x10x12x2560) ![b, 0, k, ct * 128] S1x10x4x128.size h, v⟩ :: X) b' w h' m = xv c g X b' w h' m := by
  rcases hn with h0 | h0 | h0 | h0
  · exact View.read_writes_cons_miss_of_axis M21.view g _ X (ix4 b' w h' m) 0 b 1 rfl rfl rfl (by show b'.val < b ∨ b + 1 ≤ b'.val; omega)
  · exact View.read_writes_cons_miss_of_axis M21.view g _ X (ix4 b' w h' m) 2 k 4 rfl rfl rfl (.inl h0)
  · exact View.read_writes_cons_miss_of_axis M21.view g _ X (ix4 b' w h' m) 2 k 4 rfl rfl rfl (.inr h0)
  · exact View.read_writes_cons_miss_of_axis M21.view g _ X (ix4 b' w h' m) 3 (ct * 128) 128 rfl rfl rfl (by show m.val < ct * 128 ∨ ct * 128 + 128 ≤ m.val; omega)

/-- A lane block's pieces leave the other blocks alone. -/
theorem xc_other (c : Dev nD) (g : MBuf (F := Ideal) c M21) (f11 : MBuf (F := Ideal) c M11) (L : List (CPiece Ideal)) (X : List (XPiece Ideal))
    (ct : ℕ) (hc : ct < 20) (b : Fin 2) (w : Fin 10) (h : Fin 12) (m : Fin 2560) (hn : m.val / 128 ≠ ct) :
    xv c g (xcStep c f11 ct hc L X) b w h m = xv c g X b w h m := by
  unfold xcStep
  extract_lets w0 w1 w2 w3 w4 w5 p q0 q1 q2 q3
  have hn' (a k : ℕ) : b.val ≠ a ∨ h.val < k ∨ k + 4 ≤ h.val ∨ m.val / 128 ≠ ct := .inr (.inr (.inr hn))
  refine (xv_miss c g _ _ _ _ _ _ b w h m (hn' _ _)).trans ?_
  refine (xv_miss c g _ _ _ _ _ _ b w h m (hn' _ _)).trans ?_
  refine (xv_miss c g _ _ _ _ _ _ b w h m (hn' _ _)).trans ?_
  refine (xv_miss c g _ _ _ _ _ _ b w h m (hn' _ _)).trans ?_
  refine (xv_miss c g _ _ _ _ _ _ b w h m (hn' _ _)).trans ?_
  exact xv_miss c g _ _ _ _ _ _ b w h m (hn' _ _)

theorem xcPlace0 : ∀ (b : Fin 2) (i : Fin 4) (w : Fin 10) (h : Fin 12) (_ : h.val = i.val),
    64 + 40 * (h.val % 6) + (w.val * 4 + (2 * (h.val / 6) + b.val))
      = 64 + 40 * (![0, 1, 2, 3] i) + (w.val * 4 + ![b.val, b.val, b.val, b.val] i) := by
  decide +kernel

theorem xcPlace1 : ∀ (b : Fin 2) (i : Fin 4) (w : Fin 10) (h : Fin 12) (_ : h.val = 4 + i.val),
    64 + 40 * (h.val % 6) + (w.val * 4 + (2 * (h.val / 6) + b.val))
      = 64 + 40 * (![4, 5, 0, 1] i) + (w.val * 4 + ![b.val, b.val, 2 + b.val, 2 + b.val] i) := by
  decide +kernel

theorem xcPlace2 : ∀ (b : Fin 2) (i : Fin 4) (w : Fin 10) (h : Fin 12) (_ : h.val = 8 + i.val),
    64 + 40 * (h.val % 6) + (w.val * 4 + (2 * (h.val / 6) + b.val))
      = 64 + 40 * (![2, 3, 4, 5] i) + (w.val * 4 + ![2 + b.val, 2 + b.val, 2 + b.val, 2 + b.val] i) := by
  decide +kernel

/-- Where the stored rows lie in the padded image. -/
theorem xcPlace : ∀ (b : Fin 2) (w : Fin 10) (h : Fin 12),
    (⟨(64 + 40 * (h.val % 6) + (w.val * 4 + (2 * (h.val / 6) + b.val))) % 2, by omega⟩ : Fin 2) = b
    ∧ (64 + 40 * (h.val % 6) + (w.val * 4 + (2 * (h.val / 6) + b.val))) / 2 % 2 * 6 + ((64 + 40 * (h.val % 6) + (w.val * 4 + (2 * (h.val / 6) + b.val))) / 4 - 6) / 10 = h.val + 1
    ∧ ((64 + 40 * (h.val % 6) + (w.val * 4 + (2 * (h.val / 6) + b.val))) / 4 - 6) % 10 = w.val := by
  decide +kernel

/-- A lane block's pieces put the image's rows in order. -/
theorem xc_own (c : Dev nD) (g : MBuf (F := Ideal) c M21) (f11 : MBuf (F := Ideal) c M11) (L : List (CPiece Ideal)) (X : List (XPiece Ideal))
    (ct : ℕ) (hc : ct < 20) (b : Fin 2) (w : Fin 10) (h : Fin 12) (l : Fin 128) (m : Fin 2560) (hm : m.val = ct * 128 + l.val) :
    xv c g (xcStep c f11 ct hc L X) b w h m
      = cv c f11 L 1 ⟨ct, hc⟩ ⟨64 + 40 * (h.val % 6) + (w.val * 4 + (2 * (h.val / 6) + b.val)), by omega⟩ l := by
  unfold xcStep
  extract_lets w0 w1 w2 w3 w4 w5 p q0 q1 q2 q3
  have hb : b = 0 ∨ b = 1 := by omega
  have hh : h.val < 4 ∨ (4 ≤ h.val ∧ h.val < 8) ∨ 8 ≤ h.val := by omega
  rcases hb with rfl | rfl
  · refine (xv_miss c g _ _ _ _ _ _ 0 w h m (by left; decide)).trans ?_
    refine (xv_miss c g _ _ _ _ _ _ 0 w h m (by left; decide)).trans ?_
    refine (xv_miss c g _ _ _ _ _ _ 0 w h m (by left; decide)).trans ?_
    rcases hh with hh | hh | hh
    · refine (xv_miss c g _ _ _ _ _ _ 0 w h m (.inr (.inl (by omega)))).trans ?_
      refine (xv_miss c g _ _ _ _ _ _ 0 w h m (.inr (.inl (by omega)))).trans ?_
      refine (xv_hit c g _ 0 0 ct _ _ 0 w h ⟨h.val, by omega⟩ l m rfl (by simp) hm).trans ?_
      refine quad_rows c f11 L ct hc ![0, 0, 0, 0] ![0, 1, 2, 3] (by decide) (by decide) w _ l _ ?_
      exact xcPlace0 0 ⟨h.val, hh⟩ w h rfl
    · refine (xv_miss c g _ _ _ _ _ _ 0 w h m (.inr (.inl (by omega)))).trans ?_
      refine (xv_hit c g _ 0 4 ct _ _ 0 w h ⟨h.val - 4, by omega⟩ l m rfl (by show h.val = 4 + (h.val - 4); omega) hm).trans ?_
      refine quad_rows c f11 L ct hc ![0, 0, 2, 2] ![4, 5, 0, 1] (by decide) (by decide) w _ l _ ?_
      exact xcPlace1 0 ⟨h.val - 4, by omega⟩ w h (by show h.val = 4 + (h.val - 4); omega)
    · refine (xv_hit c g _ 0 8 ct _ _ 0 w h ⟨h.val - 8, by omega⟩ l m rfl (by show h.val = 8 + (h.val - 8); omega) hm).trans ?_
      refine quad_rows c f11 L ct hc ![2, 2, 2, 2] ![2, 3, 4, 5] (by decide) (by decide) w _ l _ ?_
      exact xcPlace2 0 ⟨h.val - 8, by omega⟩ w h (by show h.val = 8 + (h.val - 8); omega)
  · rcases hh with hh | hh | hh
    · refine (xv_miss c g _ _ _ _ _ _ 1 w h m (.inr (.inl (by omega)))).trans ?_
      refine (xv_miss c g _ _ _ _ _ _ 1 w h m (.inr (.inl (by omega)))).trans ?_
      refine (xv_hit c g _ 1 0 ct _ _ 1 w h ⟨h.val, by omega⟩ l m rfl (by simp) hm).trans ?_
      refine quad_rows c f11 L ct hc ![1, 1, 1, 1] ![0, 1, 2, 3] (by decide) (by decide) w _ l _ ?_
      exact xcPlace0 1 ⟨h.val, hh⟩ w h rfl
    · refine (xv_miss c g _ _ _ _ _ _ 1 w h m (.inr (.inl (by omega)))).trans ?_
      refine (xv_hit c g _ 1 4 ct _ _ 1 w h ⟨h.val - 4, by omega⟩ l m rfl (by show h.val = 4 + (h.val - 4); omega) hm).trans ?_
      refine quad_rows c f11 L ct hc ![1, 1, 3, 3] ![4, 5, 0, 1] (by decide) (by decide) w _ l _ ?_
      exact xcPlace1 1 ⟨h.val - 4, by omega⟩ w h (by show h.val = 4 + (h.val - 4); omega)
    · refine (xv_hit c g _ 1 8 ct _ _ 1 w h ⟨h.val - 8, by omega⟩ l m rfl (by show h.val = 8 + (h.val - 8); omega) hm).trans ?_
      refine quad_rows c f11 L ct hc ![3, 3, 3, 3] ![2, 3, 4, 5] (by decide) (by decide) w _ l _ ?_
      exact xcPlace2 1 ⟨h.val - 8, by omega⟩ w h (by show h.val = 8 + (h.val - 8); omega)

theorem padCode_in (x : S2x12x10x2560.Idx → EReal) (b : Fin 2) (h : Fin 12) (w : Fin 10) (k : Fin 2560) :
    padCode x b (h.val + 1) (w.val + 1) k = code x b h w k := by
  rw [padCode, dif_pos (by omega)]
  rfl

theorem codesTab_value (c : Dev nD) (f0 : MBuf (F := Ideal) c M0) (f10 : MBuf (F := Ideal) c M10) (f11 g : MBuf (F := Ideal) c M11)
    (x : S2x12x10x2560.Idx → EReal) (hx : HX c f0 x) (hf : Finite x) (n : ℕ) (hn : n < 20) (b : Fin 2) (w : Fin 10) (h : Fin 12) (l : Fin 128)
    (m : Fin 2560) (hm : m.val = n * 128 + l.val) :
    cv c g (codesTab c f0 f10 f11 n) 1 ⟨n, hn⟩ ⟨64 + 40 * (h.val % 6) + (w.val * 4 + (2 * (h.val / 6) + b.val)), by omega⟩ l = code x b h w m := by
  rw [codesTab_eq c f0 f10 f11 n hn]
  refine (cv_codes c f0 f10 f11 g x hx hf (n + 1) hn 1 ⟨n, hn⟩ (Nat.lt_succ_self n) _ l (by show 24 ≤ 64 + _ + _; omega)
    (by show 64 + 40 * (h.val % 6) + (w.val * 4 + (2 * (h.val / 6) + b.val)) < 344; omega)).trans ?_
  obtain ⟨e1, e2, e3⟩ := xcPlace b w h
  simp only [e1, e2, e3]
  have em : (⟨n * 128 + l.val, by omega⟩ : Fin 2560) = m := Fin.ext hm.symm
  simp only [em]
  exact padCode_in x b h w m

/-- The code result after the first `n` lane blocks. -/
theorem xc_value (c : Dev nD) (f0 : MBuf (F := Ideal) c M0) (f10 : MBuf (F := Ideal) c M10) (f11 : MBuf (F := Ideal) c M11) (g : MBuf (F := Ideal) c M21)
    (x : S2x12x10x2560.Idx → EReal) (hx : HX c f0 x) (hf : Finite x) :
    ∀ (n : ℕ) (_ : n ≤ 20) (b : Fin 2) (w : Fin 10) (h : Fin 12) (m : Fin 2560) (_ : m.val / 128 < n),
      xv c g (xcTab c f0 f10 f11 n) b w h m = code x b h w m := by
  intro n
  induction n with
  | zero => intro _ _ _ _ _ h; exact absurd h (by omega)
  | succ n ih =>
    intro hn b w h m hm
    by_cases e : m.val / 128 = n
    · by_cases hl : n < 19
      · rw [xcTab_eq c f0 f10 f11 n hl]
        refine (xc_own c g f11 _ _ n hn b w h ⟨m.val % 128, by omega⟩ m (by show m.val = n * 128 + m.val % 128; omega)).trans ?_
        exact codesTab_value c f0 f10 f11 f11 x hx hf n hn b w h _ m (by show m.val = n * 128 + m.val % 128; omega)
      · obtain rfl : n = 19 := by omega
        rw [xcTab_last c f0 f10 f11]
        refine (xc_own c g _ _ _ 19 hn b w h ⟨m.val % 128, by omega⟩ m (by show m.val = 19 * 128 + m.val % 128; omega)).trans ?_
        exact codesTab_value c f0 f10 f11 _ x hx hf 19 hn b w h _ m (by show m.val = 19 * 128 + m.val % 128; omega)
    · refine Eq.trans ?_ (ih (by omega) b w h m (by omega))
      by_cases hl : n < 19
      · rw [xcTab_eq c f0 f10 f11 n hl]
        exact xc_other c g f11 _ _ n hn b w h m e
      · obtain rfl : n = 19 := by omega
        rw [xcTab_last c f0 f10 f11]
        exact xc_other c g _ _ _ 19 hn b w h m e

end Cert.KernelIdeal.Hand
-- ==== Proof.Final.lean ====
/-
  What the kernel's four results hold when its body ends, whatever its scratch arrays held before.
-/
module

public import proofs.«01_k».proof.Proof.Out
public import proofs.«01_k».proof.Proof.Xc

@[expose] public section

set_option maxRecDepth 16384

noncomputable section

namespace Cert.KernelIdeal.Hand

open Cert.KernelIdeal Cert.KernelIdeal.Gen
open Idealize.ShloMosaic Idealize.ShloMosaic.TcCoe

section Contents

variable (x : S2x12x10x2560.Idx → EReal) (W : S9x2560x1280.Idx → EReal) (ws bias : S1280.Idx → EReal) (D : S288x2560.Idx → EReal) (U : S32x1280.Idx → EReal)

/-- The result in the region's layout. -/
def g6 : S120x10x2x128.Idx → EReal := fun y =>
  yVal x W ws bias D U (y 2) ((y 0).val / 10) ((y 0).val % 10) ⟨(y 1).val * 128 + (y 3).val, by have := (y 1).isLt; have := (y 3).isLt; show _ < 1280; change (y 1).val < 10 at *; change (y 3).val < 128 at *; omega⟩

/-- The first low-rank convolution in the region's layout. -/
def g7 : S120x2x32.Idx → EReal := fun y => low x D (y 1) ((y 0).val / 10) ((y 0).val % 10) (y 2)

/-- The codes in the region's layout. -/
def g8 : S2x10x12x2560.Idx → EReal := fun y => code x (y 0) (y 2) (y 1) (y 3)

/-- The scales. -/
def g9 : S2.Idx → EReal := fun y => scaleOf (tOf x (y 0))

end Contents

variable (c : Dev nD) (f0 : MBuf (F := Ideal) c M0) (f1 : MBuf (F := Ideal) c M1) (f2 : MBuf (F := Ideal) c M2) (f3 : MBuf (F := Ideal) c M3)
  (f4 : MBuf (F := Ideal) c M4) (f5 : MBuf (F := Ideal) c M5)
  (f6 : MBuf (F := Ideal) c M6) (f7 : MBuf (F := Ideal) c M7) (f8 : MBuf (F := Ideal) c M8) (f9 : MBuf (F := Ideal) c M9)
  (f10 : MBuf (F := Ideal) c M10) (f11 : MBuf (F := Ideal) c M11)
  (f12 : MBuf (F := Ideal) c M12) (f13 : MBuf (F := Ideal) c M13) (f14 : MBuf (F := Ideal) c M14) (f15 : MBuf (F := Ideal) c M15)
  (f16 : MBuf (F := Ideal) c M16) (f17 : MBuf (F := Ideal) c M17) (f18 : MBuf (F := Ideal) c M18) (f19 : MBuf (F := Ideal) c M19)
  (f20 : MBuf (F := Ideal) c M20) (f21 : MBuf (F := Ideal) c M21) (f22 : MBuf (F := Ideal) c M22)
  (x : S2x12x10x2560.Idx → EReal) (hx : HX c f0 x) (hf : Finite x)

/-- Two writes that fill the first result, read at an index. -/
theorem two_y (v1 v0 : FVec Ideal S60x10x2x128 .bf16) (s : Fin 120) (ct : Fin 10) (b : Fin 2) (l : Fin 128) :
    M6.view.read (Elt Ideal) (M6.view.writes (Elt Ideal) M6.view.junk
      [⟨Rect.unit ![60, 0, 0, 0] S60x10x2x128.size inb_S120x10x2x128_S60x10x2x128_60_0_0_0, v1⟩, ⟨Rect.unit ![0, 0, 0, 0] S60x10x2x128.size inb_S120x10x2x128_S60x10x2x128_0_0_0_0, v0⟩]) (ix4 s ct b l)
      = if 60 ≤ s.val then v1 (ix4 ⟨s.val % 60, by omega⟩ ct b l) else v0 (ix4 ⟨s.val % 60, by omega⟩ ct b l) := by
  split_ifs with h
  · refine View.read_writes_cons_hit_of_coords M6.view _ (Rect.unit (s := S120x10x2x128) ![60, 0, 0, 0] S60x10x2x128.size inb_S120x10x2x128_S60x10x2x128_60_0_0_0) _ _
      (ix4 ⟨s.val % 60, by omega⟩ ct b l) (ix4 s ct b l) fun a => ?_
    match a with
    | 0 => show s.val = 60 + 1 * (s.val % 60); omega
    | 1 => show ct.val = 0 + 1 * ct.val; omega
    | 2 => show b.val = 0 + 1 * b.val; omega
    | 3 => show l.val = 0 + 1 * l.val; omega
  · refine (View.read_writes_cons_miss_of_axis M6.view _ _ _ (ix4 s ct b l) 0 60 60 rfl rfl rfl (by show s.val < 60 ∨ _; omega)).trans ?_
    refine View.read_writes_cons_hit_of_coords M6.view _ (Rect.unit (s := S120x10x2x128) ![0, 0, 0, 0] S60x10x2x128.size inb_S120x10x2x128_S60x10x2x128_0_0_0_0) _ _
      (ix4 ⟨s.val % 60, by omega⟩ ct b l) (ix4 s ct b l) fun a => ?_
    match a with
    | 0 => show s.val = 0 + 1 * (s.val % 60); omega
    | 1 => show ct.val = 0 + 1 * ct.val; omega
    | 2 => show b.val = 0 + 1 * b.val; omega
    | 3 => show l.val = 0 + 1 * l.val; omega

theorem two_h (v1 v0 : FVec Ideal S60x2x32 .bf16) (s : Fin 120) (b : Fin 2) (r : Fin 32) :
    M7.view.read (Elt Ideal) (M7.view.writes (Elt Ideal) M7.view.junk
      [⟨Rect.unit ![60, 0, 0] S60x2x32.size inb_S120x2x32_S60x2x32_60_0_0, v1⟩, ⟨Rect.unit ![0, 0, 0] S60x2x32.size inb_S120x2x32_S60x2x32_0_0_0, v0⟩]) (ix3 s b r)
      = if 60 ≤ s.val then v1 (ix3 ⟨s.val % 60, by omega⟩ b r) else v0 (ix3 ⟨s.val % 60, by omega⟩ b r) := by
  split_ifs with h
  · refine View.read_writes_cons_hit_of_coords M7.view _ (Rect.unit (s := S120x2x32) ![60, 0, 0] S60x2x32.size inb_S120x2x32_S60x2x32_60_0_0) _ _
      (ix3 ⟨s.val % 60, by omega⟩ b r) (ix3 s b r) fun a => ?_
    match a with
    | 0 => show s.val = 60 + 1 * (s.val % 60); omega
    | 1 => show b.val = 0 + 1 * b.val; omega
    | 2 => show r.val = 0 + 1 * r.val; omega
  · refine (View.read_writes_cons_miss_of_axis M7.view _ _ _ (ix3 s b r) 0 60 60 rfl rfl rfl (by show s.val < 60 ∨ _; omega)).trans ?_
    refine View.read_writes_cons_hit_of_coords M7.view _ (Rect.unit (s := S120x2x32) ![0, 0, 0] S60x2x32.size inb_S120x2x32_S60x2x32_0_0_0) _ _
      (ix3 ⟨s.val % 60, by omega⟩ b r) (ix3 s b r) fun a => ?_
    match a with
    | 0 => show s.val = 0 + 1 * (s.val % 60); omega
    | 1 => show b.val = 0 + 1 * b.val; omega
    | 2 => show r.val = 0 + 1 * r.val; omega

include hx hf in
theorem dmaY0 (p : Fin 60) (ct : Fin 10) (b : Fin 2) (l : Fin 128) :
    bodyRun.sl.dma1109 c f0 f1 f2 f3 f4 f5 f10 f11 f12 f13 f14 f15 f16 f19 (ix4 p ct b l)
      = yVal x (wArr c f1) (sArr c f2) (bArr c f3) (dArr c f4) (uArr c f5) b (p.val / 10) (p.val % 10) ⟨ct.val * 128 + l.val, by omega⟩ := by
  refine (halfY_value c _ 0 p ct b l).trans ((yHalf c f0 f1 f2 f3 f4 f5 f10 f11 f12 f13 f14 f15 f16 x hx hf f19 0 p ct b l).trans ?_)
  simp only [show ((0 : Fin 2).val * 60 + p.val) = p.val by simp]

include hx hf in
theorem dmaY1 (p : Fin 60) (ct : Fin 10) (b : Fin 2) (l : Fin 128) :
    bodyRun.sl.dma1109_1 c f0 f1 f2 f3 f4 f5 f10 f11 f12 f13 f14 f15 f16 f19 (ix4 p ct b l)
      = yVal x (wArr c f1) (sArr c f2) (bArr c f3) (dArr c f4) (uArr c f5) b ((60 + p.val) / 10) ((60 + p.val) % 10) ⟨ct.val * 128 + l.val, by omega⟩ := by
  refine (halfY_value c _ 1 p ct b l).trans ((yHalf c f0 f1 f2 f3 f4 f5 f10 f11 f12 f13 f14 f15 f16 x hx hf f19 1 p ct b l).trans ?_)
  simp only [show ((1 : Fin 2).val * 60 + p.val) = 60 + p.val by simp]

include hx in
theorem dmaH0 (p : Fin 60) (b : Fin 2) (r : Fin 32) :
    bodyRun.sl.dma867 c f0 f4 f10 f15 f20 (ix3 p b r) = low x (dArr c f4) b (p.val / 10) (p.val % 10) r := by
  refine (halfH_value c _ 0 p b r).trans ((hHalf c f0 f4 f10 f15 x hx f20 0 p b r).trans ?_)
  simp only [show ((0 : Fin 2).val * 60 + p.val) = p.val by simp]

include hx in
theorem dmaH1 (p : Fin 60) (b : Fin 2) (r : Fin 32) :
    bodyRun.sl.dma867_1 c f0 f4 f10 f15 f20 (ix3 p b r) = low x (dArr c f4) b ((60 + p.val) / 10) ((60 + p.val) % 10) r := by
  refine (halfH_value c _ 1 p b r).trans ((hHalf c f0 f4 f10 f15 x hx f20 1 p b r).trans ?_)
  simp only [show ((1 : Fin 2).val * 60 + p.val) = 60 + p.val by simp]

/-- The four results as the body leaves them. -/
abbrev endOf := (bodyRun (F := Ideal) c f0 f1 f2 f3 f4 f5 f6 f7 f8 f9 f10 f11 f12 f13 f14 f15 f16 f17 f18 f19 f20 f21 f22).1

set_option maxHeartbeats 1000000 in
include hx hf in
theorem end6 : (endOf c f0 f1 f2 f3 f4 f5 f6 f7 f8 f9 f10 f11 f12 f13 f14 f15 f16 f17 f18 f19 f20 f21 f22).1
    = g6 x (wArr c f1) (sArr c f2) (bArr c f3) (dArr c f4) (uArr c f5) := by
  have h : ∀ (s : Fin 120) (ct : Fin 10) (b : Fin 2) (l : Fin 128),
      M6.view.read (Elt Ideal) (endOf c f0 f1 f2 f3 f4 f5 f6 f7 f8 f9 f10 f11 f12 f13 f14 f15 f16 f17 f18 f19 f20 f21 f22).1 (ix4 s ct b l)
        = g6 x (wArr c f1) (sArr c f2) (bArr c f3) (dArr c f4) (uArr c f5) (ix4 s ct b l) := by
    intro s ct b l
    refine (two_y (bodyRun.sl.dma1109_1 c f0 f1 f2 f3 f4 f5 f10 f11 f12 f13 f14 f15 f16 f19) (bodyRun.sl.dma1109 c f0 f1 f2 f3 f4 f5 f10 f11 f12 f13 f14 f15 f16 f19) s ct b l).trans ?_
    split_ifs with e
    · refine (dmaY1 c f0 f1 f2 f3 f4 f5 f10 f11 f12 f13 f14 f15 f16 f19 x hx hf ⟨s.val % 60, by omega⟩ ct b l).trans ?_
      simp only [show 60 + s.val % 60 = s.val by omega]
      rfl
    · refine (dmaY0 c f0 f1 f2 f3 f4 f5 f10 f11 f12 f13 f14 f15 f16 f19 x hx hf ⟨s.val % 60, by omega⟩ ct b l).trans ?_
      simp only [show s.val % 60 = s.val by omega]
      rfl
  funext y
  have hy : y = ix4 (y 0) (y 1) (y 2) (y 3) := by funext a; match a with | 0 => rfl | 1 => rfl | 2 => rfl | 3 => rfl
  rw [hy]
  exact h (y 0) (y 1) (y 2) (y 3)

include hx in
theorem end7 : (endOf c f0 f1 f2 f3 f4 f5 f6 f7 f8 f9 f10 f11 f12 f13 f14 f15 f16 f17 f18 f19 f20 f21 f22).2.1 = g7 x (dArr c f4) := by
  have h : ∀ (s : Fin 120) (b : Fin 2) (r : Fin 32),
      M7.view.read (Elt Ideal) (endOf c f0 f1 f2 f3 f4 f5 f6 f7 f8 f9 f10 f11 f12 f13 f14 f15 f16 f17 f18 f19 f20 f21 f22).2.1 (ix3 s b r)
        = g7 x (dArr c f4) (ix3 s b r) := by
    intro s b r
    refine (two_h _ _ s b r).trans ?_
    split_ifs with e
    · refine (dmaH1 c f0 f4 f10 f15 f20 x hx ⟨s.val % 60, by omega⟩ b r).trans ?_
      simp only [show 60 + s.val % 60 = s.val by omega]
      rfl
    · refine (dmaH0 c f0 f4 f10 f15 f20 x hx ⟨s.val % 60, by omega⟩ b r).trans ?_
      simp only [show s.val % 60 = s.val by omega]
      rfl
  funext y
  have hy : y = ix3 (y 0) (y 1) (y 2) := by funext a; match a with | 0 => rfl | 1 => rfl | 2 => rfl
  rw [hy]
  exact h (y 0) (y 1) (y 2)

include hx hf in
theorem end8 : (endOf c f0 f1 f2 f3 f4 f5 f6 f7 f8 f9 f10 f11 f12 f13 f14 f15 f16 f17 f18 f19 f20 f21 f22).2.2.1 = g8 x := by
  have h : ∀ (b : Fin 2) (w : Fin 10) (h : Fin 12) (m : Fin 2560),
      M8.view.read (Elt Ideal) (endOf c f0 f1 f2 f3 f4 f5 f6 f7 f8 f9 f10 f11 f12 f13 f14 f15 f16 f17 f18 f19 f20 f21 f22).2.2.1 (ix4 b w h m) = g8 x (ix4 b w h m) := by
    intro b w h m
    refine (congrFun (View.read_write_univ (v := M8.view) f8 (bodyRun.sl.dma825 c f0 f10 f11 f21)) (ix4 b w h m)).trans ?_
    exact xc_value c f0 f10 f11 f21 x hx hf 20 (le_refl 20) b w h m (by omega)
  funext y
  have hy : y = ix4 (y 0) (y 1) (y 2) (y 3) := by funext a; match a with | 0 => rfl | 1 => rfl | 2 => rfl | 3 => rfl
  rw [hy]
  exact h (y 0) (y 1) (y 2) (y 3)

include hx hf in
theorem end9 : (endOf c f0 f1 f2 f3 f4 f5 f6 f7 f8 f9 f10 f11 f12 f13 f14 f15 f16 f17 f18 f19 f20 f21 f22).2.2.2 = g9 x := by
  have h : ∀ (b : Fin 2),
      M9.view.read (Elt Ideal) (endOf c f0 f1 f2 f3 f4 f5 f6 f7 f8 f9 f10 f11 f12 f13 f14 f15 f16 f17 f18 f19 f20 f21 f22).2.2.2 (ix1 b) = g9 x (ix1 b) := by
    intro b
    refine (congrFun (View.read_write_univ (v := M9.view) f9 (bodyRun.sl.dma825_1 c f0 f10 f22)) (ix1 b)).trans ?_
    refine Eq.trans ?_ (scales_eq c f0 f10 x hx hf b)
    refine View.read_writes_cons_hit_of_coords M22.view f22 (Rect.unit (s := S2) ![0] S2.size inb_S2_S2_0) _ _ (ix1 b) (ix1 b) fun a => ?_
    match a with
    | 0 => show b.val = 0 + 1 * b.val; omega
  funext y
  have hy : y = ix1 (y 0) := by funext a; match a with | 0 => rfl
  rw [hy]
  exact h (y 0)

end Cert.KernelIdeal.Hand
-- ==== Proof.HostVal.lean ====
/-
  The host lines around the kernel's region, read at an index: they only move elements.
-/
module

public import proofs.«01_k».proof.Proof.Final
public import proofs.«01_k».proof.Proof.KernelIdealFrame
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The arguments as extended reals. -/
def xIn : S2x12x10x2560.Idx → EReal := m ((c.tc : Thread nD τ).loc main_arg0)
def wIn : S3x3x2560x1280.Idx → EReal := m ((c.tc : Thread nD τ).loc main_arg1)
def sIn : S1280.Idx → EReal := m ((c.tc : Thread nD τ).loc main_arg2)
def bIn : S1280.Idx → EReal := m ((c.tc : Thread nD τ).loc main_arg3)
def dIn : S3x3x2560x32.Idx → EReal := m ((c.tc : Thread nD τ).loc main_arg4)
def uIn : S32x1280.Idx → EReal := m ((c.tc : Thread nD τ).loc main_arg5)

theorem pre_x (V : Valuation τ sig (Elt Ideal)) (s : Fin 120) (ct : Fin 20) (b : Fin 2) (l : Fin 128) :
    StableHlo.after (List.flatten [hostOps0 (F := Ideal)]) V (Proc.devRef .tc main_v2) (ix4 s ct b l)
      = V (Proc.devRef .tc main_arg0) (ix4 b ⟨s.val / 10, by omega⟩ ⟨s.val % 10, by omega⟩ ⟨ct.val * 128 + l.val, by omega⟩) := by
  simp only [hostOps0, List.flatten_cons, List.flatten_nil, List.append_nil]
  after_reads_simp
  pointwise

theorem pre_w (V : Valuation τ sig (Elt Ideal)) (t : Fin 9) (k : Fin 2560) (n : Fin 1280) :
    StableHlo.after (List.flatten [hostOps0 (F := Ideal)]) V (Proc.devRef .tc main_v3) (ix3 t k n)
      = V (Proc.devRef .tc main_arg1) (ix4 ⟨t.val / 3, by omega⟩ ⟨t.val % 3, by omega⟩ k n) := by
  simp only [hostOps0, List.flatten_cons, List.flatten_nil, List.append_nil]
  after_reads_simp
  pointwise

theorem pre_d (V : Valuation τ sig (Elt Ideal)) (j : Fin 288) (k : Fin 2560) :
    StableHlo.after (List.flatten [hostOps0 (F := Ideal)]) V (Proc.devRef .tc main_v5) (ix2 j k)
      = V (Proc.devRef .tc main_arg4) (ix4 ⟨j.val / 96, by omega⟩ ⟨j.val / 32 % 3, by omega⟩ k ⟨j.val % 32, by omega⟩) := by
  simp only [hostOps0, List.flatten_cons, List.flatten_nil, List.append_nil]
  after_reads_simp
  pointwise

theorem post_y (V : Valuation τ sig (Elt Ideal)) (b : Fin 2) (h : Fin 12) (w : Fin 10) (n : Fin 1280) :
    StableHlo.after (List.flatten [hostOps1 (F := Ideal)]) V (Proc.devRef .tc main_v9) (ix4 b h w n)
      = V (Proc.devRef .tc main_v6_0) (ix4 ⟨h.val * 10 + w.val, by omega⟩ ⟨n.val / 128, by omega⟩ b ⟨n.val % 128, by omega⟩) := by
  simp only [hostOps1, List.flatten_cons, List.flatten_nil, List.append_nil]
  after_reads_simp
  pointwise

theorem post_h (V : Valuation τ sig (Elt Ideal)) (b : Fin 2) (h : Fin 12) (w : Fin 10) (r : Fin 32) :
    StableHlo.after (List.flatten [hostOps1 (F := Ideal)]) V (Proc.devRef .tc main_v11) (ix4 b h w r)
      = V (Proc.devRef .tc main_v6_1) (ix3 ⟨h.val * 10 + w.val, by omega⟩ b r) := by
  simp only [hostOps1, List.flatten_cons, List.flatten_nil, List.append_nil]
  after_reads_simp
  pointwise

theorem post_c (V : Valuation τ sig (Elt Ideal)) (b : Fin 2) (h : Fin 12) (w : Fin 10) (k : Fin 2560) :
    StableHlo.after (List.flatten [hostOps1 (F := Ideal)]) V (Proc.devRef .tc main_v12) (ix4 b h w k)
      = V (Proc.devRef .tc main_v6_2) (ix4 b w h k) := by
  simp only [hostOps1, List.flatten_cons, List.flatten_nil, List.append_nil]
  after_reads_simp
  pointwise

theorem post_s (V : Valuation τ sig (Elt Ideal)) :
    StableHlo.after (List.flatten [hostOps1 (F := Ideal)]) V (Proc.devRef .tc main_v6_3) = V (Proc.devRef .tc main_v6_3) := by
  simp only [hostOps1, List.flatten_cons, List.flatten_nil, List.append_nil]
  after_reads_simp

end Cert.KernelIdeal.Hand
-- ==== Proof.KernelIdealValue.lean ====
/-
  The kernel's run with its results named: the region leaves the four results at the values its body computes, and the
  host lines after it only move their elements.
-/
module

public import proofs.«01_k».proof.Proof.HostVal
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem hxIn (c : Dev nD) : HX c (Vc m c main_v2) (xIn m c) := fun s ct b l => pre_x _ s ct b l

/-- The region's results. -/
def r6 (c : Dev nD) : S120x10x2x128.Idx → EReal :=
  g6 (xIn m c) (wArr c (Vc m c main_v3)) (sArr c (Vc m c main_arg2)) (bArr c (Vc m c main_arg3)) (dArr c (Vc m c main_v5)) (uArr c (Vc m c main_arg5))
def r7 (c : Dev nD) : S120x2x32.Idx → EReal := g7 (xIn m c) (dArr c (Vc m c main_v5))
def r8 (c : Dev nD) : S2x10x12x2560.Idx → EReal := g8 (xIn m c)
def r9 (c : Dev nD) : S2.Idx → EReal := g9 (xIn m c)

/-- The buffers' contents when the region ends. -/
def Gv (c : Dev nD) : (b : Ref sig .tc) → Buf (Elt Ideal) ((c : Thread nD τ).loc b) :=
  Function.update (Function.update (Function.update (Function.update (Vc m c) main_v6_0 (r6 m c)) main_v6_1 (r7 m c)) main_v6_2 (r8 m c)) main_v6_3 (r9 m c)

theorem Gv6 (c : Dev nD) : Gv m c main_v6_0 = r6 m c := by
  unfold Gv
  rw [Function.update_of_ne (by decide), Function.update_of_ne (by decide), Function.update_of_ne (by decide), Function.update_self]
theorem Gv7 (c : Dev nD) : Gv m c main_v6_1 = r7 m c := by
  unfold Gv
  rw [Function.update_of_ne (by decide), Function.update_of_ne (by decide), Function.update_self]
theorem Gv8 (c : Dev nD) : Gv m c main_v6_2 = r8 m c := by
  unfold Gv
  rw [Function.update_of_ne (by decide), Function.update_self]
theorem Gv9 (c : Dev nD) : Gv m c main_v6_3 = r9 m c := by
  unfold Gv
  rw [Function.update_self]

theorem PhiV_eq (G : (c : Dev nD) → (b : Ref sig .tc) → Buf (Elt Ideal) ((c : Thread nD τ).loc b)) (c : Dev nD) :
    (Pipeline.ΦDRV osem0 cfg0.spec H0 R0 (Vc m) G c : sProp 𝕄)
      = iprop(iprop((∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f) ∗ (∃ f, pt c M18 f) ∗ (∃ f, pt c M19 f) ∗ (∃ f, pt c M20 f) ∗ (∃ f, pt c M21 f) ∗ (∃ f, pt c M22 f))
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop(pt c M0 (Vc m c main_v2) ∗ pt c M1 (Vc m c main_v3) ∗ pt c M2 (Vc m c main_arg2) ∗ pt c M3 (Vc m c main_arg3) ∗ pt c M4 (Vc m c main_v5) ∗ pt c M5 (Vc m c main_arg5))
          ∗ iprop(pt c M6 (G c main_v6_0) ∗ pt c M7 (G c main_v6_1) ∗ pt c M8 (G c main_v6_2) ∗ pt c M9 (G c main_v6_3))) := by
  unfold Pipeline.ΦDRV
  rw [scopedRest0_eq, ownSems00_eq, readPts_eq, writtenPts_eq]

/-- The proof data with values. -/
def datsV (_ : Fin 1) (c : Dev nD) : Dat τ (Elt Ideal) Unit ℕ (Pipeline.UD sig nD τ) ℕ cfg0 c where
  A w := Fin.elim0 w
  after w t := Fin.elim0 w
  Φ t := Pipeline.ΦDRV osem0 cfg0.spec H0 R0 (Vc m) (if t.val = 0 then Vc m else Gv m) c
  q _ := fullShare
  owed _ := 0

def bodyPreV (c : Dev nD) (t : Fin cfg0.N) : sProp 𝕄 :=
  iprop((datsV m 0 c).Φ t.castSucc ∗ (datsV m 0 c).owesAt () t.castSucc ∗ emp)
def bodyPostV (c : Dev nD) (t : Fin cfg0.N) : sProp 𝕄 :=
  iprop((datsV m 0 c).Φ t.succ ∗ (datsV m 0 c).owesAt () t.succ ∗ emp)

theorem sound_bodyV (c : Dev nD) (hf : Finite (xIn m c)) (t : Fin cfg0.N) :
    bodyPreV m c t ⊢ wp Idealize.ShloMosaic.frame (wpE (defs₀ (F := Ideal)) Variants.none c none) Set.univ (bodyAt0 (F := Ideal) t) (fun _ => bodyPostV m c t) := by
  have ht : t.val = 0 := by have := t.isLt; change t.val < 1 at this; omega
  unfold bodyPreV bodyPostV
  rw [show (datsV m 0 c).Φ t.castSucc = Pipeline.ΦDRV osem0 cfg0.spec H0 R0 (Vc m) (Vc m) c from
      congrArg (fun G => Pipeline.ΦDRV osem0 cfg0.spec H0 R0 (Vc m) G c) (if_pos ht),
    show (datsV m 0 c).Φ t.succ = Pipeline.ΦDRV osem0 cfg0.spec H0 R0 (Vc m) (Gv m) c from
      congrArg (fun G => Pipeline.ΦDRV osem0 cfg0.spec H0 R0 (Vc m) G c) (if_neg (Nat.succ_ne_zero _)), PhiV_eq, PhiV_eq, Gv6, Gv7, Gv8, Gv9]
  unfold Dat.owesAt
  rw [show (datsV m 0 c).owed t.castSucc = 0 from rfl, show (datsV m 0 c).owed t.succ = 0 from rfl]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, ⟨Hq0, Hq1, Hq2, Hq3, Hq4, Hq5, Hq6, Hq7, Hq8, Hq9, Hq10, Hq11, Hq12, Hq13, Hq14, Hq15, Hq16, Hq17, Hq18⟩, ⟨H0, H1, H2, H3, H4, H5⟩, ⟨H6, H7, H8, H9⟩⟩, ⟨%W, -, HW⟩, He⟩
  iapply ((bodyRun c (Vc m c main_v2) (Vc m c main_v3) (Vc m c main_arg2) (Vc m c main_arg3) (Vc m c main_v5) (Vc m c main_arg5) (Vc m c main_v6_0) (Vc m c main_v6_1) (Vc m c main_v6_2) (Vc m c main_v6_3) f10 f11 f12 f13 f14 f15 f16 f17 f18 f19 f20 f21 f22).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [HW]; · iexact HW
  iintro ⟨H0, H1, H2, H3, H4, H5, H6, H7, H8, H9, H10, H11, H12, H13, H14, H15, H16, H17, H18, H19, H20, H21, H22, Hq0, Hq1, Hq2, Hq3, Hq4, Hq5, Hq6, Hq7, Hq8, Hq9, Hq10, Hq11, Hq12, Hq13, Hq14, Hq15, Hq16, Hq17, Hq18, ⟨%W', HW⟩⟩
  ihave H6' := (Entails.of_eq (congrArg (pt c M6) (end6 c (Vc m c main_v2) (Vc m c main_v3) (Vc m c main_arg2) (Vc m c main_arg3) (Vc m c main_v5) (Vc m c main_arg5) (Vc m c main_v6_0) (Vc m c main_v6_1) (Vc m c main_v6_2) (Vc m c main_v6_3) f10 f11 f12 f13 f14 f15 f16 f17 f18 f19 f20 f21 f22 (xIn m c) (hxIn m c) hf))) $$ H6
  ihave H7' := (Entails.of_eq (congrArg (pt c M7) (end7 c (Vc m c main_v2) (Vc m c main_v3) (Vc m c main_arg2) (Vc m c main_arg3) (Vc m c main_v5) (Vc m c main_arg5) (Vc m c main_v6_0) (Vc m c main_v6_1) (Vc m c main_v6_2) (Vc m c main_v6_3) f10 f11 f12 f13 f14 f15 f16 f17 f18 f19 f20 f21 f22 (xIn m c) (hxIn m c)))) $$ H7
  ihave H8' := (Entails.of_eq (congrArg (pt c M8) (end8 c (Vc m c main_v2) (Vc m c main_v3) (Vc m c main_arg2) (Vc m c main_arg3) (Vc m c main_v5) (Vc m c main_arg5) (Vc m c main_v6_0) (Vc m c main_v6_1) (Vc m c main_v6_2) (Vc m c main_v6_3) f10 f11 f12 f13 f14 f15 f16 f17 f18 f19 f20 f21 f22 (xIn m c) (hxIn m c) hf))) $$ H8
  ihave H9' := (Entails.of_eq (congrArg (pt c M9) (end9 c (Vc m c main_v2) (Vc m c main_v3) (Vc m c main_arg2) (Vc m c main_arg3) (Vc m c main_v5) (Vc m c main_arg5) (Vc m c main_v6_0) (Vc m c main_v6_1) (Vc m c main_v6_2) (Vc m c main_v6_3) f10 f11 f12 f13 f14 f15 f16 f17 f18 f19 f20 f21 f22 (xIn m c) (hxIn m c) hf))) $$ H9
  isplitl [H0 H1 H2 H3 H4 H5 H6' H7' H8' H9' H10 H11 H12 H13 H14 H15 H16 H17 H18 H19 H20 H21 H22 Hq0 Hq1 Hq2 Hq3 Hq4 Hq5 Hq6 Hq7 Hq8 Hq9 Hq10 Hq11 Hq12 Hq13 Hq14 Hq15 Hq16 Hq17 Hq18]
  · isplitl [H10 H11 H12 H13 H14 H15 H16 H17 H18 H19 H20 H21 H22]
    · isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    isplitl [Hq0 Hq1 Hq2 Hq3 Hq4 Hq5 Hq6 Hq7 Hq8 Hq9 Hq10 Hq11 Hq12 Hq13 Hq14 Hq15 Hq16 Hq17 Hq18]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      iexact Hq18
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6']; · iexact H6'
    isplitl [H7']; · iexact H7'
    isplitl [H8']; · iexact H8'
    iexact H9'
  isplitl [HW]
  · iexists W'; isplitr; · ipureintro; exact fun _ _ => Or.inl trivial
    iexact HW
  iexact He

theorem body_obligationV (c : Dev nD) (hf : Finite (xIn m c)) : BodyObligation (datsV m 0 c) (defs₀ (F := Ideal)) Variants.none () Set.univ := fun t => by
  rw [bigSep_none, bigSep_none, defs₀_row]
  exact triple_restated (sound_bodyV m c hf t) rfl .rfl fun _ => .rfl

/-- Every buffer at the end of the run: what the lines after the region leave. -/
def endVal (c : Dev nD) : Valuation τ sig (Elt Ideal) :=
  Pipeline.withArrays cfg0.spec c (Pipeline.withR (V0 m c) R0 c (Gv m c)) fun w => (datsV m 0 c).arrAt w cfg0.N

theorem run_value (hf : ∀ c, Finite (xIn m c)) :
    θ_run defs (onTc (τ := τ) (main (F := Ideal))) (s₀ m ρ) (fun r => ∀ c : Dev nD, ∀ b ∈ Pipeline.restRefs sig cfg0.spec,
      r.2.mem ((c.tc : Thread nD τ).loc b) = StableHlo.after (List.flatten [hostOps1]) (endVal m c) (Proc.devRef .tc b)) :=
  Pipeline.θ_run_frame_dmaR_aroundV cfgs (datsV m) (0 : Fin 1) launch0 osem0 defs₀ Variants.none ownSemFacts0 H0 R0 H0_sub R0_sub m ρ main
    (hbody := fun c => (body_obligationV m c (hf c)).loose) (hshare := fun c => (datsV m 0 c).share_full fun _ => rfl)
    (howed := fun _ _ => rfl) (V₀ := V0 m) (opss := [hostOps1]) (hsub := sfx_sub) (hfresh := sfx_fresh) (hkeep := sfx_keeps)
    (G := Gv m) (hmain := hmainD m Variants.none) (hA := fun c w => Fin.elim0 w)
    (hin := fun c => Entails.of_eq (congrArg (fun G => Pipeline.ΦDRV osem0 cfg0.spec H0 R0 (Vc m) G c) (if_pos rfl)).symm)
    (hout := fun c => Entails.of_eq (congrArg (fun G => Pipeline.ΦDRV osem0 cfg0.spec H0 R0 (Vc m) G c) (if_neg (by decide))))
    (Q' := _) (hQ' := fun r h c b hb => (h.1 c).2 b hb)

theorem endVal_R (c : Dev nD) (b : Ref sig .tc) (hb : b ∈ R0) : endVal m c (Proc.devRef .tc b) = Gv m c b :=
  (Pipeline.withArrays_of_ne cfg0.spec c _ _ b (fun w => Fin.elim0 w)).trans (Pipeline.withR_of_mem _ _ _ _ b hb)

theorem endVal_V (c : Dev nD) (b : Ref sig .tc) (hb : b ∉ R0) : endVal m c (Proc.devRef .tc b) = Vc m c b :=
  (Pipeline.withArrays_of_ne cfg0.spec c _ _ b (fun w => Fin.elim0 w)).trans (Pipeline.withR_of_not_mem _ _ _ _ b hb)

end Cert.KernelIdeal.Hand
-- ==== Proof.KernelEnd.lean ====
/-
  The kernel's four results at the end of a run, as functions of its arguments.
-/
module

public import proofs.«01_k».proof.Proof.KernelIdealValue
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- A buffer at the end of the run. -/
def atEnd (c : Dev nD) (b : Ref sig .tc) : Buf (Elt Ideal) ((c : Thread nD τ).loc b) :=
  StableHlo.after (List.flatten [hostOps1 (F := Ideal)]) (endVal m c) (Proc.devRef .tc b)

/-- The weights, tap by tap. -/
def w9 (c : Dev nD) : S9x2560x1280.Idx → EReal := wArr c (Vc m c main_v3)
/-- The down projection, tap by tap. -/
def d9 (c : Dev nD) : S288x2560.Idx → EReal := dArr c (Vc m c main_v5)

theorem w9_eq (c : Dev nD) (t : Fin 9) (k : Fin 2560) (n : Fin 1280) :
    w9 m c (ix3 t k n) = wIn m c (ix4 ⟨t.val / 3, by omega⟩ ⟨t.val % 3, by omega⟩ k n) := pre_w _ t k n

theorem d9_eq (c : Dev nD) (j : Fin 288) (k : Fin 2560) :
    d9 m c (ix2 j k) = dIn m c (ix4 ⟨j.val / 96, by omega⟩ ⟨j.val / 32 % 3, by omega⟩ k ⟨j.val % 32, by omega⟩) := pre_d _ j k

theorem pre_args (V : Valuation τ sig (Elt Ideal)) :
    StableHlo.after (List.flatten [hostOps0 (F := Ideal)]) V (Proc.devRef .tc main_arg2) = V (Proc.devRef .tc main_arg2)
    ∧ StableHlo.after (List.flatten [hostOps0 (F := Ideal)]) V (Proc.devRef .tc main_arg3) = V (Proc.devRef .tc main_arg3)
    ∧ StableHlo.after (List.flatten [hostOps0 (F := Ideal)]) V (Proc.devRef .tc main_arg5) = V (Proc.devRef .tc main_arg5) := by
  simp only [hostOps0, List.flatten_cons, List.flatten_nil, List.append_nil]
  refine ⟨?_, ?_, ?_⟩ <;> after_reads_simp

theorem s_eq (c : Dev nD) : sArr c (Vc m c main_arg2) = sIn m c := (pre_args (fun b => m (c, b))).1
theorem b_eq (c : Dev nD) : bArr c (Vc m c main_arg3) = bIn m c := (pre_args (fun b => m (c, b))).2.1
theorem u_eq (c : Dev nD) : uArr c (Vc m c main_arg5) = uIn m c := (pre_args (fun b => m (c, b))).2.2

theorem r6_apply (c : Dev nD) (b : Fin 2) (h : Fin 12) (w : Fin 10) (n : Fin 1280) :
    r6 m c (ix4 ⟨h.val * 10 + w.val, by omega⟩ ⟨n.val / 128, by omega⟩ b ⟨n.val % 128, by omega⟩)
      = yVal (xIn m c) (w9 m c) (sIn m c) (bIn m c) (d9 m c) (uIn m c) b h.val w.val n := by
  unfold r6
  rw [s_eq, b_eq, u_eq]
  show yVal (xIn m c) (w9 m c) (sIn m c) (bIn m c) (d9 m c) (uIn m c) b ((h.val * 10 + w.val) / 10) ((h.val * 10 + w.val) % 10)
    ⟨n.val / 128 * 128 + n.val % 128, _⟩ = _
  rw [show (h.val * 10 + w.val) / 10 = h.val by omega, show (h.val * 10 + w.val) % 10 = w.val by omega]
  exact congrArg _ (Fin.ext (by show n.val / 128 * 128 + n.val % 128 = n.val; omega))

theorem y_end (c : Dev nD) (b : Fin 2) (h : Fin 12) (w : Fin 10) (n : Fin 1280) :
    atEnd m c main_v9 (ix4 b h w n) = yVal (xIn m c) (w9 m c) (sIn m c) (bIn m c) (d9 m c) (uIn m c) b h.val w.val n :=
  (post_y (endVal m c) b h w n).trans ((congrFun ((endVal_R m c main_v6_0 (by decide)).trans (Gv6 m c)) _).trans (r6_apply m c b h w n))

theorem h_end (c : Dev nD) (b : Fin 2) (h : Fin 12) (w : Fin 10) (r : Fin 32) :
    atEnd m c main_v11 (ix4 b h w r) = low (xIn m c) (d9 m c) b h.val w.val r := by
  refine (post_h (endVal m c) b h w r).trans ((congrFun ((endVal_R m c main_v6_1 (by decide)).trans (Gv7 m c)) _).trans ?_)
  show low (xIn m c) (d9 m c) b ((h.val * 10 + w.val) / 10) ((h.val * 10 + w.val) % 10) r = _
  rw [show (h.val * 10 + w.val) / 10 = h.val by omega, show (h.val * 10 + w.val) % 10 = w.val by omega]

theorem c_end (c : Dev nD) (b : Fin 2) (h : Fin 12) (w : Fin 10) (k : Fin 2560) :
    atEnd m c main_v12 (ix4 b h w k) = code (xIn m c) b h w k :=
  (post_c (endVal m c) b h w k).trans (congrFun ((endVal_R m c main_v6_2 (by decide)).trans (Gv8 m c)) _)

theorem s_end (c : Dev nD) (b : Fin 2) : atEnd m c main_v6_3 (ix1 b) = scaleOf (tOf (xIn m c) b) :=
  (congrFun (post_s (endVal m c)) _).trans (congrFun ((endVal_R m c main_v6_3 (by decide)).trans (Gv9 m c)) _)

/-- The kernel's run with its results. -/
theorem run_results (hf : ∀ c, Finite (xIn m c)) :
    θ_run defs (onTc (τ := τ) (main (F := Ideal))) ⟨m, fun _ => 0, ρ⟩ (fun r => ∀ c : Dev nD,
      r.2.mem ((c.tc : Thread nD τ).loc main_v9) = atEnd m c main_v9
      ∧ r.2.mem ((c.tc : Thread nD τ).loc main_v11) = atEnd m c main_v11
      ∧ r.2.mem ((c.tc : Thread nD τ).loc main_v12) = atEnd m c main_v12
      ∧ r.2.mem ((c.tc : Thread nD τ).loc main_v6_3) = atEnd m c main_v6_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c main_v9 (Pipeline.mem_restRefs_of main_v9 (by decide) (by decide)),
      h.1 c main_v11 (Pipeline.mem_restRefs_of main_v11 (by decide) (by decide)),
      h.1 c main_v12 (Pipeline.mem_restRefs_of main_v12 (by decide) (by decide)),
      h.1 c main_v6_3 (Pipeline.mem_restRefs_of main_v6_3 (by decide) (by decide)), h.2.1 c⟩)
    (θ_run_and (run_value m ρ hf) (frame m ρ))

end Cert.KernelIdeal.Hand
-- ==== Proof.RefWhole.lean ====
/-
  What the reference's arrays hold after its one block: the block's functions of the arrays it read.
-/
module

public import proofs.«01_k».proof.Proof.Gen.ReferenceIdeal.Frame
public import Idealize.ShloMosaic.PureOps.Ideal
public import Idealize.ShloMosaic.Lib.Pipeline.Value

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-! Every window's block is its whole array. -/

theorem emb0 (t : Fin cfg0.N) (j : S2x12x10x2560.Idx) : ((cfg0.win 0).blk t).view.emb j = j :=
  funext fun a => Fin.ext (by show 0 * _ + 1 * (j a).val = (j a).val; omega)

theorem emb1 (t : Fin cfg0.N) (j : S2x14x12x2560.Idx) : ((cfg0.win 1).blk t).view.emb j = j :=
  funext fun a => Fin.ext (by show 0 * _ + 1 * (j a).val = (j a).val; omega)

theorem emb2 (t : Fin cfg0.N) (j : S2.Idx) : ((cfg0.win 2).blk t).view.emb j = j :=
  funext fun a => Fin.ext (by show 0 * _ + 1 * (j a).val = (j a).val; omega)

theorem emb3 (t : Fin cfg0.N) (j : S2x14x12x2560.Idx) : ((cfg0.win 3).blk t).view.emb j = j :=
  funext fun a => Fin.ext (by show 0 * _ + 1 * (j a).val = (j a).val; omega)

theorem emb4 (t : Fin cfg0.N) (j : S3x3x2560x1280.Idx) : ((cfg0.win 4).blk t).view.emb j = j :=
  funext fun a => Fin.ext (by show 0 * _ + 1 * (j a).val = (j a).val; omega)

theorem emb5 (t : Fin cfg0.N) (j : S1280.Idx) : ((cfg0.win 5).blk t).view.emb j = j :=
  funext fun a => Fin.ext (by show 0 * _ + 1 * (j a).val = (j a).val; omega)

theorem emb6 (t : Fin cfg0.N) (j : S1280.Idx) : ((cfg0.win 6).blk t).view.emb j = j :=
  funext fun a => Fin.ext (by show 0 * _ + 1 * (j a).val = (j a).val; omega)

theorem emb7 (t : Fin cfg0.N) (j : S3x3x2560x32.Idx) : ((cfg0.win 7).blk t).view.emb j = j :=
  funext fun a => Fin.ext (by show 0 * _ + 1 * (j a).val = (j a).val; omega)

theorem emb8 (t : Fin cfg0.N) (j : S32x1280.Idx) : ((cfg0.win 8).blk t).view.emb j = j :=
  funext fun a => Fin.ext (by show 0 * _ + 1 * (j a).val = (j a).val; omega)

theorem emb9 (t : Fin cfg0.N) (j : S2x12x10x1280.Idx) : ((cfg0.win 9).blk t).view.emb j = j :=
  funext fun a => Fin.ext (by show 0 * _ + 1 * (j a).val = (j a).val; omega)

theorem emb10 (t : Fin cfg0.N) (j : S2x12x10x32.Idx) : ((cfg0.win 10).blk t).view.emb j = j :=
  funext fun a => Fin.ext (by show 0 * _ + 1 * (j a).val = (j a).val; omega)

theorem emb11 (t : Fin cfg0.N) (j : S2x12x10x2560.Idx) : ((cfg0.win 11).blk t).view.emb j = j :=
  funext fun a => Fin.ext (by show 0 * _ + 1 * (j a).val = (j a).val; omega)

/-! So reading through a block gives the array. -/

theorem read0 (t : Fin cfg0.N) (X : S2x12x10x2560.Idx → EReal) : ((cfg0.win 0).blk t).view.read (Elt Ideal) X = X :=
  funext fun j => congrArg X (emb0 t j)

theorem read1 (t : Fin cfg0.N) (X : S2x14x12x2560.Idx → EReal) : ((cfg0.win 1).blk t).view.read (Elt Ideal) X = X :=
  funext fun j => congrArg X (emb1 t j)

theorem read2 (t : Fin cfg0.N) (X : S2.Idx → EReal) : ((cfg0.win 2).blk t).view.read (Elt Ideal) X = X :=
  funext fun j => congrArg X (emb2 t j)

theorem read3 (t : Fin cfg0.N) (X : S2x14x12x2560.Idx → EReal) : ((cfg0.win 3).blk t).view.read (Elt Ideal) X = X :=
  funext fun j => congrArg X (emb3 t j)

theorem read4 (t : Fin cfg0.N) (X : S3x3x2560x1280.Idx → EReal) : ((cfg0.win 4).blk t).view.read (Elt Ideal) X = X :=
  funext fun j => congrArg X (emb4 t j)

theorem read5 (t : Fin cfg0.N) (X : S1280.Idx → EReal) : ((cfg0.win 5).blk t).view.read (Elt Ideal) X = X :=
  funext fun j => congrArg X (emb5 t j)

theorem read6 (t : Fin cfg0.N) (X : S1280.Idx → EReal) : ((cfg0.win 6).blk t).view.read (Elt Ideal) X = X :=
  funext fun j => congrArg X (emb6 t j)

theorem read7 (t : Fin cfg0.N) (X : S3x3x2560x32.Idx → EReal) : ((cfg0.win 7).blk t).view.read (Elt Ideal) X = X :=
  funext fun j => congrArg X (emb7 t j)

theorem read8 (t : Fin cfg0.N) (X : S32x1280.Idx → EReal) : ((cfg0.win 8).blk t).view.read (Elt Ideal) X = X :=
  funext fun j => congrArg X (emb8 t j)

theorem read9 (t : Fin cfg0.N) (X : S2x12x10x1280.Idx → EReal) : ((cfg0.win 9).blk t).view.read (Elt Ideal) X = X :=
  funext fun j => congrArg X (emb9 t j)

theorem read10 (t : Fin cfg0.N) (X : S2x12x10x32.Idx → EReal) : ((cfg0.win 10).blk t).view.read (Elt Ideal) X = X :=
  funext fun j => congrArg X (emb10 t j)

theorem read11 (t : Fin cfg0.N) (X : S2x12x10x2560.Idx → EReal) : ((cfg0.win 11).blk t).view.read (Elt Ideal) X = X :=
  funext fun j => congrArg X (emb11 t j)

theorem iblk0 (m : (ℓ : Loc nD τ sig) → Buf (Elt Ideal) ℓ) (c : Dev nD) (t : Fin cfg0.N) : iblk m c 0 t = V m c main_v25 := by
  unfold iblk
  show ((cfg0.win 0).blk t).view.read (Elt Ideal) (V m c main_v25) = V m c main_v25
  generalize V m c main_v25 = X
  exact read0 t X

theorem iblk1 (m : (ℓ : Loc nD τ sig) → Buf (Elt Ideal) ℓ) (c : Dev nD) (t : Fin cfg0.N) : iblk m c 1 t = V m c main_v26 := by
  unfold iblk
  show ((cfg0.win 1).blk t).view.read (Elt Ideal) (V m c main_v26) = V m c main_v26
  generalize V m c main_v26 = X
  exact read1 t X

theorem iblk2 (m : (ℓ : Loc nD τ sig) → Buf (Elt Ideal) ℓ) (c : Dev nD) (t : Fin cfg0.N) : iblk m c 2 t = V m c main_v21 := by
  unfold iblk
  show ((cfg0.win 2).blk t).view.read (Elt Ideal) (V m c main_v21) = V m c main_v21
  generalize V m c main_v21 = X
  exact read2 t X

theorem iblk3 (m : (ℓ : Loc nD τ sig) → Buf (Elt Ideal) ℓ) (c : Dev nD) (t : Fin cfg0.N) : iblk m c 3 t = V m c main_v27 := by
  unfold iblk
  show ((cfg0.win 3).blk t).view.read (Elt Ideal) (V m c main_v27) = V m c main_v27
  generalize V m c main_v27 = X
  exact read3 t X

theorem iblk4 (m : (ℓ : Loc nD τ sig) → Buf (Elt Ideal) ℓ) (c : Dev nD) (t : Fin cfg0.N) : iblk m c 4 t = V m c main_arg1 := by
  unfold iblk
  show ((cfg0.win 4).blk t).view.read (Elt Ideal) (V m c main_arg1) = V m c main_arg1
  generalize V m c main_arg1 = X
  exact read4 t X

theorem iblk5 (m : (ℓ : Loc nD τ sig) → Buf (Elt Ideal) ℓ) (c : Dev nD) (t : Fin cfg0.N) : iblk m c 5 t = V m c main_arg2 := by
  unfold iblk
  show ((cfg0.win 5).blk t).view.read (Elt Ideal) (V m c main_arg2) = V m c main_arg2
  generalize V m c main_arg2 = X
  exact read5 t X

theorem iblk6 (m : (ℓ : Loc nD τ sig) → Buf (Elt Ideal) ℓ) (c : Dev nD) (t : Fin cfg0.N) : iblk m c 6 t = V m c main_arg3 := by
  unfold iblk
  show ((cfg0.win 6).blk t).view.read (Elt Ideal) (V m c main_arg3) = V m c main_arg3
  generalize V m c main_arg3 = X
  exact read6 t X

theorem iblk7 (m : (ℓ : Loc nD τ sig) → Buf (Elt Ideal) ℓ) (c : Dev nD) (t : Fin cfg0.N) : iblk m c 7 t = V m c main_arg4 := by
  unfold iblk
  show ((cfg0.win 7).blk t).view.read (Elt Ideal) (V m c main_arg4) = V m c main_arg4
  generalize V m c main_arg4 = X
  exact read7 t X

theorem iblk8 (m : (ℓ : Loc nD τ sig) → Buf (Elt Ideal) ℓ) (c : Dev nD) (t : Fin cfg0.N) : iblk m c 8 t = V m c main_arg5 := by
  unfold iblk
  show ((cfg0.win 8).blk t).view.read (Elt Ideal) (V m c main_arg5) = V m c main_arg5
  generalize V m c main_arg5 = X
  exact read8 t X

theorem cut9 (t : Fin cfg0.N) (X : S2x12x10x1280.Idx → EReal) : (cfg0.win 9).cut (grid0.coords t) X = ((cfg0.win 9).blk t).view.read (Elt Ideal) X := by
  rw [read9]
  rfl

theorem cover9 (i : S2x12x10x1280.Idx) : ∃ t : Fin cfg0.N, (cfg0.win 9).flush t = true ∧ i ∈ ((cfg0.win 9).blk t).view.set :=
  ⟨t0_0, flush0_9 _, by have h := ((cfg0.win 9).blk t0_0).view.emb_mem_set i; rwa [emb9] at h⟩

theorem after9 (m : (ℓ : Loc nD τ sig) → Buf (Elt Ideal) ℓ) (c : Dev nD) (t : Fin cfg0.N) : (dats m 0 c).after 9 t = out0_9 (V m c main_v25) (V m c main_v26) (V m c main_v21) (V m c main_v27) (V m c main_arg1) (V m c main_arg2) (V m c main_arg3) (V m c main_arg4) (V m c main_arg5) := by
  rw [after0_9, iblk0, iblk1, iblk2, iblk3, iblk4, iblk5, iblk6, iblk7, iblk8]

theorem final9 (m : (ℓ : Loc nD τ sig) → Buf (Elt Ideal) ℓ) (c : Dev nD) : (dats m 0 c).arrAt 9 cfg0.N = out0_9 (V m c main_v25) (V m c main_v26) (V m c main_v21) (V m c main_v27) (V m c main_arg1) (V m c main_arg2) (V m c main_arg3) (V m c main_arg4) (V m c main_arg5) := by
  have h := after9 m c
  generalize out0_9 (V m c main_v25) (V m c main_v26) (V m c main_v21) (V m c main_v27) (V m c main_arg1) (V m c main_arg2) (V m c main_arg3) (V m c main_arg4) (V m c main_arg5) = X at h ⊢
  exact (dats m 0 c).arrAt_eq_of_cover 9 X (fun t _ => (congrArg ((cfg0.win 9).cut (grid0.coords t)) (h t)).trans (cut9 t X)) cover9

theorem cut10 (t : Fin cfg0.N) (X : S2x12x10x32.Idx → EReal) : (cfg0.win 10).cut (grid0.coords t) X = ((cfg0.win 10).blk t).view.read (Elt Ideal) X := by
  rw [read10]
  rfl

theorem cover10 (i : S2x12x10x32.Idx) : ∃ t : Fin cfg0.N, (cfg0.win 10).flush t = true ∧ i ∈ ((cfg0.win 10).blk t).view.set :=
  ⟨t0_0, flush0_10 _, by have h := ((cfg0.win 10).blk t0_0).view.emb_mem_set i; rwa [emb10] at h⟩

theorem after10 (m : (ℓ : Loc nD τ sig) → Buf (Elt Ideal) ℓ) (c : Dev nD) (t : Fin cfg0.N) : (dats m 0 c).after 10 t = out0_10 (V m c main_v25) (V m c main_v26) (V m c main_v21) (V m c main_v27) (V m c main_arg1) (V m c main_arg2) (V m c main_arg3) (V m c main_arg4) (V m c main_arg5) := by
  rw [after0_10, iblk0, iblk1, iblk2, iblk3, iblk4, iblk5, iblk6, iblk7, iblk8]

theorem final10 (m : (ℓ : Loc nD τ sig) → Buf (Elt Ideal) ℓ) (c : Dev nD) : (dats m 0 c).arrAt 10 cfg0.N = out0_10 (V m c main_v25) (V m c main_v26) (V m c main_v21) (V m c main_v27) (V m c main_arg1) (V m c main_arg2) (V m c main_arg3) (V m c main_arg4) (V m c main_arg5) := by
  have h := after10 m c
  generalize out0_10 (V m c main_v25) (V m c main_v26) (V m c main_v21) (V m c main_v27) (V m c main_arg1) (V m c main_arg2) (V m c main_arg3) (V m c main_arg4) (V m c main_arg5) = X at h ⊢
  exact (dats m 0 c).arrAt_eq_of_cover 10 X (fun t _ => (congrArg ((cfg0.win 10).cut (grid0.coords t)) (h t)).trans (cut10 t X)) cover10

theorem cut11 (t : Fin cfg0.N) (X : S2x12x10x2560.Idx → EReal) : (cfg0.win 11).cut (grid0.coords t) X = ((cfg0.win 11).blk t).view.read (Elt Ideal) X := by
  rw [read11]
  rfl

theorem cover11 (i : S2x12x10x2560.Idx) : ∃ t : Fin cfg0.N, (cfg0.win 11).flush t = true ∧ i ∈ ((cfg0.win 11).blk t).view.set :=
  ⟨t0_0, flush0_11 _, by have h := ((cfg0.win 11).blk t0_0).view.emb_mem_set i; rwa [emb11] at h⟩

theorem after11 (m : (ℓ : Loc nD τ sig) → Buf (Elt Ideal) ℓ) (c : Dev nD) (t : Fin cfg0.N) : (dats m 0 c).after 11 t = out0_11 (V m c main_v25) (V m c main_v26) (V m c main_v21) (V m c main_v27) (V m c main_arg1) (V m c main_arg2) (V m c main_arg3) (V m c main_arg4) (V m c main_arg5) := by
  rw [after0_11, iblk0, iblk1, iblk2, iblk3, iblk4, iblk5, iblk6, iblk7, iblk8]

theorem final11 (m : (ℓ : Loc nD τ sig) → Buf (Elt Ideal) ℓ) (c : Dev nD) : (dats m 0 c).arrAt 11 cfg0.N = out0_11 (V m c main_v25) (V m c main_v26) (V m c main_v21) (V m c main_v27) (V m c main_arg1) (V m c main_arg2) (V m c main_arg3) (V m c main_arg4) (V m c main_arg5) := by
  have h := after11 m c
  generalize out0_11 (V m c main_v25) (V m c main_v26) (V m c main_v21) (V m c main_v27) (V m c main_arg1) (V m c main_arg2) (V m c main_arg3) (V m c main_arg4) (V m c main_arg5) = X at h ⊢
  exact (dats m 0 c).arrAt_eq_of_cover 11 X (fun t _ => (congrArg ((cfg0.win 11).cut (grid0.coords t)) (h t)).trans (cut11 t X)) cover11

end Cert.ReferenceIdeal.Hand
-- ==== Proof.RefLines.lean ====
/-
  The arrays the reference's host lines compute before its one block.
-/
module

public import proofs.«01_k».proof.Proof.Gen.ReferenceIdeal.Frame
public import Idealize.ShloMosaic.Lib.Pointwise
public import Idealize.ShloMosaic.Lib.StableHlo.ReadAt
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

/-- The host lines. -/
abbrev lines : List (HloOp τ sig (Elt Ideal)) :=
  List.flatten [hostOps0, hostOps0_1, hostOps0_2, hostOps0_3, hostOps0_4, hostOps0_5, hostOps0_6, hostOps0_7, hostOps0_8, hostOps0_9]

/-- Each image's t. -/
def hT (x : FVec Ideal S2x12x10x2560 .bf16) : FVec Ideal S2 .f32 :=
  mulf (Host.reduce FloatOps.maximumf (Host.absf (extf FTy.f32 x bitsLt_bf16_f32)) (constant S_ FTy.f32 0xFF800000#32) reducesTo_S2x12x10x2560_S2_d1_2_3 h_S_)
    (broadcastInDim S2 ![] bcast_S_S2 (constant S_ FTy.f32 0x3B124925#32))

/-- The powers of two. -/
def hP : FVec Ideal S254 .f32 :=
  Host.powf (broadcastInDim S254 ![] bcast_S_S254 (constant S_ FTy.f32 0x40000000#32))
    (sitofp FTy.f32 (addi (broadcastInDim S254 ![] bcast_S_S254 (constantI S_ 32 4294967170#32)) (iotaInDim S254 32 0)))

/-- The smallest power of two above t. -/
def hAbove (p : FVec Ideal S254 .f32) (t : FVec Ideal S2 .f32) : FVec Ideal S2 .f32 :=
  Host.reduce FloatOps.minimumf
    (select (cmpf CmpFPredicate.ogt
        (broadcastInDim S2x254 ![0, 1] bcast_S1x254_S2x254_0_1 (broadcastInDim S1x254 ![1] bcast_S254_S1x254_1 p))
        (broadcastInDim S2x254 ![0, 1] bcast_S2x1_S2x254_0_1 (broadcastInDim S2x1 ![0] bcast_S2_S2x1_0 t)))
      (broadcastInDim S2x254 ![0, 1] bcast_S1x254_S2x254_0_1 (broadcastInDim S1x254 ![1] bcast_S254_S1x254_1 p))
      (broadcastInDim S2x254 ![] bcast_S_S2x254 (id (constant S_ FTy.f32 0x7F800000#32))))
    (constant S_ FTy.f32 0x7F800000#32) reducesTo_S2x254_S2_d1 h_S_

/-- The scales. -/
def hScale (x : FVec Ideal S2x12x10x2560 .bf16) : FVec Ideal S2 .f32 :=
  select (cmpf CmpFPredicate.olt (hT x) (broadcastInDim S2 ![] bcast_S_S2 (constant S_ FTy.f32 0x00800000#32)))
    (broadcastInDim S2 ![] bcast_S_S2 (id (constant S_ FTy.f32 0x3F800000#32))) (hAbove hP (hT x))

/-- The codes before their cast. -/
def hClip (x : FVec Ideal S2x12x10x2560 .bf16) (s : FVec Ideal S2 .f32) : FVec Ideal S2x12x10x2560 .f32 :=
  minimumf (broadcastInDim S2x12x10x2560 ![] bcast_S_S2x12x10x2560 (id (constant S_ FTy.f32 0x43E00000#32)))
    (maximumf (broadcastInDim S2x12x10x2560 ![] bcast_S_S2x12x10x2560 (id (constant S_ FTy.f32 0xC3E00000#32)))
      (Host.divf (extf FTy.f32 x bitsLt_bf16_f32)
        (broadcastInDim S2x12x10x2560 ![0, 1, 2, 3] bcast_S2x1x1x1_S2x12x10x2560_0_1_2_3 (broadcastInDim S2x1x1x1 ![0] bcast_S2_S2x1x1x1_0 s))))

/-- A ring of zeros around each image. -/
def hPad (φ : FTy) (x : FVec Ideal S2x12x10x2560 φ) : FVec Ideal S2x14x12x2560 φ :=
  pad S2x14x12x2560 ![0, 1, 1, 0] ![0, 1, 1, 0] ![0, 0, 0, 0] x (sitofp φ (constantI S_ 32 0#32)) pads_S2x12x10x2560_S2x14x12x2560_000_110_110_000 h_S_

end Cert.ReferenceIdeal.Hand
-- ==== Proof.RefHost.lean ====
/-
  What the reference's host lines leave in the arrays its one block reads.
-/
module

public import proofs.«01_k».proof.Proof.RefLines

@[expose] public section

set_option maxRecDepth 16384

noncomputable section

namespace Cert.ReferenceIdeal.Hand

open Cert.ReferenceIdeal Cert.ReferenceIdeal.Gen
open Idealize.ShloMosaic Idealize.ShloMosaic.TcCoe

/-! Contents at a value's type are the buffer's contents. -/

theorem of_v15 (h1 h2 h3) (v : main_v15.ty.Contents (Elt Ideal)) : (StableHlo.TRef.of (T := ⟨S2x254, .i1⟩) main_v15 h1 h2 h3).ofBuf v = v := (rfl)
theorem of_v16 (h1 h2 h3) (v : main_v16.ty.Contents (Elt Ideal)) : (StableHlo.TRef.of (T := ⟨S1x254, .f32⟩) main_v16 h1 h2 h3).ofBuf v = v := (rfl)
theorem of_cst_2 (h1 h2 h3) (v : main_cst_2.ty.Contents (Elt Ideal)) : (StableHlo.TRef.of (T := ⟨S_, .f32⟩) main_cst_2 h1 h2 h3).ofBuf v = v := (rfl)
theorem to_v17 (h1 h2 h3) (v : (⟨S2x254, .f32⟩ : BufTy).Contents (Elt Ideal)) : (StableHlo.TRef.of (T := ⟨S2x254, .f32⟩) main_v17 h1 h2 h3).toBuf v = v := (rfl)
theorem of_v20 (h1 h2 h3) (v : main_v20.ty.Contents (Elt Ideal)) : (StableHlo.TRef.of (T := ⟨S2, .i1⟩) main_v20 h1 h2 h3).ofBuf v = v := (rfl)
theorem of_cst_5 (h1 h2 h3) (v : main_cst_5.ty.Contents (Elt Ideal)) : (StableHlo.TRef.of (T := ⟨S_, .f32⟩) main_cst_5 h1 h2 h3).ofBuf v = v := (rfl)
theorem of_v18 (h1 h2 h3) (v : main_v18.ty.Contents (Elt Ideal)) : (StableHlo.TRef.of (T := ⟨S2, .f32⟩) main_v18 h1 h2 h3).ofBuf v = v := (rfl)
theorem to_v21 (h1 h2 h3) (v : (⟨S2, .f32⟩ : BufTy).Contents (Elt Ideal)) : (StableHlo.TRef.of (T := ⟨S2, .f32⟩) main_v21 h1 h2 h3).toBuf v = v := (rfl)
theorem of_v24 (h1 h2 h3) (v : main_v24.ty.Contents (Elt Ideal)) : (StableHlo.TRef.of (T := ⟨S2x12x10x2560, .f32⟩) main_v24 h1 h2 h3).ofBuf v = v := (rfl)
theorem of_cst_6 (h1 h2 h3) (v : main_cst_6.ty.Contents (Elt Ideal)) : (StableHlo.TRef.of (T := ⟨S_, .f32⟩) main_cst_6 h1 h2 h3).ofBuf v = v := (rfl)
theorem of_cst_7 (h1 h2 h3) (v : main_cst_7.ty.Contents (Elt Ideal)) : (StableHlo.TRef.of (T := ⟨S_, .f32⟩) main_cst_7 h1 h2 h3).ofBuf v = v := (rfl)
theorem to_v25 (h1 h2 h3) (v : (⟨S2x12x10x2560, .f32⟩ : BufTy).Contents (Elt Ideal)) : (StableHlo.TRef.of (T := ⟨S2x12x10x2560, .f32⟩) main_v25 h1 h2 h3).toBuf v = v := (rfl)
theorem of_v25 (h1 h2 h3) (v : main_v25.ty.Contents (Elt Ideal)) : (StableHlo.TRef.of (T := ⟨S2x12x10x2560, .f32⟩) main_v25 h1 h2 h3).ofBuf v = v := (rfl)
theorem of_c_8 (h1 h2 h3) (v : main_c_8.ty.Contents (Elt Ideal)) : (StableHlo.TRef.of (T := ⟨S_, .i32⟩) main_c_8 h1 h2 h3).ofBuf v = v := (rfl)
theorem to_v26 (h1 h2 h3) (v : (⟨S2x14x12x2560, .f32⟩ : BufTy).Contents (Elt Ideal)) : (StableHlo.TRef.of (T := ⟨S2x14x12x2560, .f32⟩) main_v26 h1 h2 h3).toBuf v = v := (rfl)
theorem of_c_9 (h1 h2 h3) (v : main_c_9.ty.Contents (Elt Ideal)) : (StableHlo.TRef.of (T := ⟨S_, .i32⟩) main_c_9 h1 h2 h3).ofBuf v = v := (rfl)
theorem of_arg0 (h1 h2 h3) (v : main_arg0.ty.Contents (Elt Ideal)) : (StableHlo.TRef.of (T := ⟨S2x12x10x2560, .bf16⟩) main_arg0 h1 h2 h3).ofBuf v = v := (rfl)
theorem to_v27 (h1 h2 h3) (v : (⟨S2x14x12x2560, .bf16⟩ : BufTy).Contents (Elt Ideal)) : (StableHlo.TRef.of (T := ⟨S2x14x12x2560, .bf16⟩) main_v27 h1 h2 h3).toBuf v = v := (rfl)

variable (V : Valuation τ sig (Elt Ideal))

theorem host_scale : StableHlo.after lines V (Proc.devRef .tc main_v21) = hScale (V (Proc.devRef .tc main_arg0)) := by
  simp only [lines, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  simp only [StableHlo.TRef.ofBuf_toBuf]
  simp only [of_v15, of_v16, of_cst_2, to_v17, of_v20, of_cst_5, of_v18, to_v21, of_v24, of_cst_6, of_cst_7, to_v25, of_v25, of_c_8, to_v26, of_c_9, of_arg0, to_v27]
  rfl

theorem host_clip : StableHlo.after lines V (Proc.devRef .tc main_v25) = hClip (V (Proc.devRef .tc main_arg0)) (hScale (V (Proc.devRef .tc main_arg0))) := by
  simp only [lines, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  simp only [StableHlo.TRef.ofBuf_toBuf]
  simp only [of_v15, of_v16, of_cst_2, to_v17, of_v20, of_cst_5, of_v18, to_v21, of_v24, of_cst_6, of_cst_7, to_v25, of_v25, of_c_8, to_v26, of_c_9, of_arg0, to_v27]
  rfl

theorem host_clip_pad : StableHlo.after lines V (Proc.devRef .tc main_v26)
    = hPad .f32 (hClip (V (Proc.devRef .tc main_arg0)) (hScale (V (Proc.devRef .tc main_arg0)))) := by
  simp only [lines, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  simp only [StableHlo.TRef.ofBuf_toBuf]
  simp only [of_v15, of_v16, of_cst_2, to_v17, of_v20, of_cst_5, of_v18, to_v21, of_v24, of_cst_6, of_cst_7, to_v25, of_v25, of_c_8, to_v26, of_c_9, of_arg0, to_v27]
  rfl

theorem host_x_pad : StableHlo.after lines V (Proc.devRef .tc main_v27) = hPad .bf16 (V (Proc.devRef .tc main_arg0)) := by
  simp only [lines, hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  simp only [StableHlo.TRef.ofBuf_toBuf]
  simp only [of_v15, of_v16, of_cst_2, to_v17, of_v20, of_cst_5, of_v18, to_v21, of_v24, of_cst_6, of_cst_7, to_v25, of_v25, of_c_8, to_v26, of_c_9, of_arg0, to_v27]
  rfl

end Cert.ReferenceIdeal.Hand
-- ==== Proof.RefIdx.lean ====
/-
  The values the reference's host lines compute before its one block, each read at an index.
-/
module

public import proofs.«01_k».proof.Proof.RefLines
public import proofs.«01_k».proof.Proof.CodesVal
public import Idealize.ShloMosaic.Lib.Pointwise
public import Idealize.ShloMosaic.Lib.StableHlo.ReadAt
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

open Cert.KernelIdeal.Hand

theorem drop_ix (h : S2x12x10x2560.ReducesTo [1, 2, 3] S2) (i : S2x12x10x2560.Idx) (b : Fin 2) : h.drop i = ix1 b ↔ i 0 = b := by
  constructor
  · intro e
    exact congrFun e 0
  · intro e
    funext a
    match a with
    | 0 => exact e

theorem hT_value (x : FVec Ideal S2x12x10x2560 .bf16) (b : Fin 2) : hT x (ix1 b) = tOf x b := by
  pointwise [hT]
  rw [f32_bot]
  refine congrArg (· * kap) (eq_of_forall_ge_iff fun y => ?_)
  rw [Finset.fold_max_le, amax_le]
  constructor
  · intro h p q k
    exact h.2 (ix4 b p q k) (Finset.mem_filter.2 ⟨Finset.mem_univ _, (drop_ix _ _ _).2 rfl⟩)
  · intro h
    refine ⟨bot_le, fun i hi => ?_⟩
    have e := (drop_ix _ _ _).1 (Finset.mem_filter.1 hi).2
    subst e
    have e' : i = ix4 (i 0) (i 1) (i 2) (i 3) := by
      funext a
      match a with
      | 0 => rfl
      | 1 => rfl
      | 2 => rfl
      | 3 => rfl
    rw [e']
    exact h (i 1) (i 2) (i 3)

theorem power_word : ∀ i : Fin 254, (IntOp.addi 4294967170#32 (BitVec.ofNat 32 i.val)).toInt = (i.val : ℤ) - 126 := by
  decide +kernel

theorem hP_value (i : Fin 254) : hP (ix1 i) = pk (i.val + 1) := by
  pointwise [hP]
  have e2 : Ideal.ofBits .f32 1073741824#32 = ((2 : ℝ) : EReal) := by
    refine (ofBits_pk 128 (by omega) (by omega)).trans ?_
    unfold pk
    norm_num
  rw [e2]
  change Ideal.pow ((2 : ℝ) : EReal) ((((IntOp.addi 4294967170#32 (BitVec.ofNat 32 i.val)).toInt : ℤ) : ℝ) : EReal) = _
  rw [power_word, Ideal.pow_coe_coe]
  unfold pk
  refine congrArg _ ?_
  refine (Real.rpow_intCast 2 _).trans (congrArg _ ?_)
  push_cast
  omega

theorem above_eq (t : EReal) (ht : t < pk 253) :
    Finset.fold min ⊤ (fun i : Fin 254 => if t < pk (i.val + 1) then pk (i.val + 1) else ⊤) Finset.univ = pk (expo t + 1) := by
  have hl := expo_lt t ht
  refine eq_of_forall_le_iff fun c => ?_
  rw [Finset.le_fold_min]
  constructor
  · intro h
    have := h.2 ⟨expo t, by omega⟩ (Finset.mem_univ _)
    rwa [if_pos] at this
    exact not_le.1 fun h' => absurd ((pk_le_iff t (expo t + 1) (by omega) (by omega)).1 h') (by omega)
  · intro h
    refine ⟨le_top, fun i _ => ?_⟩
    split_ifs with hi
    · refine h.trans ?_
      have : expo t < i.val + 1 := by
        by_contra h'
        exact absurd ((pk_le_iff t (i.val + 1) (by omega) (by omega)).2 (by omega)) (not_le.2 hi)
      rcases (show expo t + 1 ≤ i.val + 1 from this).lt_or_eq with h' | h'
      · exact (pk_lt h').le
      · exact (congrArg pk h').le
    · exact le_top

theorem hAbove_value (t : FVec Ideal S2 .f32) (b : Fin 2) (ht : t (ix1 b) < pk 253) : hAbove hP t (ix1 b) = pk (expo (t (ix1 b)) + 1) := by
  refine Eq.trans ?_ (above_eq _ ht)
  generalize hP = p, (fun i => hP_value i) = hp
  pointwise [hAbove]
  simp only [hp]
  have e : (id (constant (F := Ideal) S_ .f32 2139095040#32) ix0 : EReal) = ⊤ := ofBits_top
  have e' : Ideal.ofBits .f32 2139095040#32 = ⊤ := ofBits_top
  rw [e, e']

theorem hScale_value (x : FVec Ideal S2x12x10x2560 .bf16) (hf : Finite x) (b : Fin 2) : hScale x (ix1 b) = scaleOf (tOf x b) := by
  have ht := tOf_lt x hf b
  have ha := hAbove_value (hT x) b (by rw [hT_value]; exact ht)
  have h1 := hT_value x b
  unfold hScale
  generalize hAbove hP (hT x) = u at *
  generalize hT x = v at *
  pointwise
  rw [ha, h1]
  have e : (id (constant (F := Ideal) S_ .f32 1065353216#32) ix0 : EReal) = pk 127 := ofBits_pk 127 (by omega) (by omega)
  have e' : Ideal.ofBits .f32 8388608#32 = pk 1 := ofBits_pk 1 (by omega) (by omega)
  have hz : tOf x b < pk 1 ↔ expo (tOf x b) = 0 := by
    rw [← not_le, pk_le_iff _ 1 (by omega) (by omega)]
    omega
  rw [e, e', scaleOf]
  by_cases h0 : expo (tOf x b) = 0
  · rw [if_pos (hz.2 h0), if_pos h0]
  · rw [if_neg (fun h => h0 (hz.1 h)), if_neg h0]

theorem pk_inv (a b : ℕ) (h : a + b = 254) : (pk a)⁻¹ = pk b := by
  unfold pk
  rw [← EReal.coe_inv, ← zpow_neg]
  refine congrArg _ (congrArg _ ?_)
  omega

theorem div_scale (x t : EReal) (ht : t < pk 253) : Ideal.div x (scaleOf t) = x * invOf t := by
  have hl := expo_lt t ht
  unfold Ideal.div scaleOf invOf
  rw [if_neg (pk_pos _).ne', pk_inv _ (if expo t = 0 then 127 else 253 - expo t) (by split_ifs <;> omega)]

theorem top_code : Ideal.ofBits .f32 0x43E00000#32 = Ideal.ofBits .bf16 0x43E0#16 := by
  simp [Ideal.ofBits, Ideal.ieee, -EReal.coe_mul]
  norm_num

theorem bot_code : Ideal.ofBits .f32 0xC3E00000#32 = Ideal.ofBits .bf16 0xC3E0#16 := by
  simp [Ideal.ofBits, Ideal.ieee, -EReal.coe_mul]
  norm_num

theorem hClip_value (x : FVec Ideal S2x12x10x2560 .bf16) (hf : Finite x) (s : FVec Ideal S2 .f32) (b : Fin 2) (hs : s (ix1 b) = scaleOf (tOf x b))
    (h : Fin 12) (q : Fin 10) (k : Fin 2560) : hClip x s (ix4 b h q k) = code x b h q k := by
  pointwise [hClip]
  rw [hs, div_scale _ _ (tOf_lt x hf b), code, ← top_code, ← bot_code]
  rfl

theorem hPad_value (φ : FTy) (x : FVec Ideal S2x12x10x2560 φ) (b : Fin 2) (i : Fin 14) (j : Fin 12) (k : Fin 2560) :
    hPad φ x (ix4 b i j k) = if h : (1 ≤ i.val ∧ i.val ≤ 12) ∧ (1 ≤ j.val ∧ j.val ≤ 10) then
      x (ix4 b ⟨i.val - 1, by omega⟩ ⟨j.val - 1, by omega⟩ k) else 0 := by
  pointwise [hPad]
  by_cases h : (1 ≤ i.val ∧ i.val ≤ 12) ∧ (1 ≤ j.val ∧ j.val ≤ 10)
  · rw [dif_pos h, dif_pos (by omega)]
  · rw [dif_neg h, dif_neg (by omega)]
    change ((((0#32 : BitVec 32).toInt : ℤ) : ℝ) : EReal) = 0
    simp

end Cert.ReferenceIdeal.Hand
-- ==== Proof.RefBlock.lean ====
/-
  What the reference's one block computes, place by place.
-/
module

public import proofs.«01_k».proof.Proof.Gen.ReferenceIdeal.Frame
public import Idealize.ShloMosaic.Lib.Pointwise
public import Idealize.ShloMosaic.Lib.ValueIdx
public import Idealize.ShloMosaic.Lib.Pipeline.ValueKit.Basic

@[expose] public section

set_option maxRecDepth 16384

noncomputable section

namespace Cert.ReferenceIdeal.Hand

open Cert.ReferenceIdeal Cert.ReferenceIdeal.Gen
open Idealize.ShloMosaic Idealize.ShloMosaic.TcCoe

/-- One tap of the image convolution at a row of the product. -/
def tapA (v : S2x12x10x2560.Idx → EReal) (w : S1x1x2560x1280.Idx → EReal) (r : Fin 240) (n : Fin 1280) : EReal :=
  ∑ k : Fin 2560, v (ix4 ⟨r.val / 120, by omega⟩ ⟨r.val / 10 % 12, by omega⟩ ⟨r.val % 10, by omega⟩ k) * w (ix4 0 0 k n)

/-- One tap of the first low-rank convolution at a row of the product. -/
def tapH (v : S2x12x10x2560.Idx → EReal) (w : S1x1x2560x32.Idx → EReal) (r : Fin 240) (n : Fin 32) : EReal :=
  ∑ k : Fin 2560, v (ix4 ⟨r.val / 120, by omega⟩ ⟨r.val / 10 % 12, by omega⟩ ⟨r.val % 10, by omega⟩ k) * w (ix4 0 0 k n)

section
variable (a : FVec Ideal S240x1280 .f32) (v v' : Vec Ideal S2x12x10x2560 .f32) (w w' : Vec Ideal S1x1x2560x1280 .fp8e4m3) (r : Fin 240) (n : Fin 1280)

theorem pay2_value : k0_pay2 (F := Ideal) v w (ix2 r n) = tapA v w r n := by
  pointwise [k0_pay2]
  rfl

theorem pay5_value : k0_pay5 (F := Ideal) a (k0_pay4 v) w v' w' (ix2 r n) = a (ix2 r n) + tapA v w r n + tapA v' w' r n := by
  pointwise [k0_pay5, k0_pay4]
  rfl

theorem pay8_value : k0_pay8 (F := Ideal) a v w v' w' (ix2 r n) = a (ix2 r n) + tapA v w r n + tapA v' w' r n := by
  pointwise [k0_pay8]
  rfl

theorem pay12_value : k0_pay12 (F := Ideal) a v w v' w' (ix2 r n) = a (ix2 r n) + tapA v w r n + tapA v' w' r n := by
  pointwise [k0_pay12]
  rfl

theorem pay15_value : k0_pay15 (F := Ideal) a v w v' w' (ix2 r n) = a (ix2 r n) + tapA v w r n + tapA v' w' r n := by
  pointwise [k0_pay15]
  rfl
end

section
variable (a : FVec Ideal S240x32 .f32) (v v' : Vec Ideal S2x12x10x2560 .bf16) (w w' : Vec Ideal S1x1x2560x32 .bf16) (r : Fin 240) (n : Fin 32)

theorem pay3_value : k0_pay3 (F := Ideal) v w (ix2 r n) = tapH v w r n := by
  pointwise [k0_pay3]
  rfl

theorem pay6_value : k0_pay6 (F := Ideal) a v w v' w' (ix2 r n) = a (ix2 r n) + tapH v w r n + tapH v' w' r n := by
  pointwise [k0_pay6]
  rfl

theorem pay7_value : k0_pay7 (F := Ideal) a v w (ix2 r n) = a (ix2 r n) + tapH v w r n := by
  pointwise [k0_pay7]
  rfl

theorem pay11_value : k0_pay11 (F := Ideal) a (k0_pay9 v) (k0_pay10 w) (constant S240x32 .f32 0x00000000#32) v' w' (ix2 r n)
    = a (ix2 r n) + tapH v w r n + tapH v' w' r n := by
  pointwise [k0_pay11, k0_pay9, k0_pay10]
  rfl

theorem pay14_value : k0_pay14 (F := Ideal) a (k0_pay13 v) w v' w' (ix2 r n) = a (ix2 r n) + tapH v w r n + tapH v' w' r n := by
  pointwise [k0_pay14, k0_pay13]
  rfl

theorem pay16_value : k0_pay16 (F := Ideal) a v w (ix2 r n) = a (ix2 r n) + tapH v w r n := by
  pointwise [k0_pay16]
  rfl

theorem pay18_value (b : Fin 2) (h : Fin 12) (q : Fin 10) : k0_pay18 (F := Ideal) a v w (ix4 b h q n)
    = k0_pay16 (F := Ideal) a v w (ix2 ⟨b.val * 120 + h.val * 10 + q.val, by omega⟩ n) := by
  rw [k0_pay18]
  generalize k0_pay16 (F := Ideal) a v w = z
  pointwise
end

/-- The last line: the scales, the bias and the low-rank branch's second product. -/
theorem pay17_value (a : FVec Ideal S240x32 .f32) (y : FVec Ideal S240x1280 .f32) (v : Vec Ideal S2x12x10x2560 .bf16) (w : Vec Ideal S1x1x2560x32 .bf16)
    (u : Vec Ideal S32x1280 .bf16) (s : Vec Ideal S2 .f32) (ws bias : Vec Ideal S1280 .f32) (b : Fin 2) (h : Fin 12) (q : Fin 10) (n : Fin 1280) :
    k0_pay17 (F := Ideal) a y v w u s ws bias (ix4 b h q n)
      = (y (ix2 ⟨b.val * 120 + h.val * 10 + q.val, by omega⟩ n) * (s (ix1 b) * ws (ix1 n)) + bias (ix1 n))
        + Ideal.ofBits .f32 0x3F400000#32 * ∑ r : Fin 32, k0_pay16 (F := Ideal) a v w (ix2 ⟨b.val * 120 + h.val * 10 + q.val, by omega⟩ r) * u (ix2 r n) := by
  unfold k0_pay17
  generalize k0_pay16 (F := Ideal) a v w = z
  pointwise
  simp only [Nat.add_assoc]

theorem pay1_value (v : Vec Ideal S2x12x10x2560 .f32) (b : Fin 2) (h : Fin 12) (q : Fin 10) (k : Fin 2560) : k0_pay1 (F := Ideal) v (ix4 b h q k) = v (ix4 b h q k) := by
  pointwise [k0_pay1]

/-! ## The block's loads -/

theorem ld_x (e : EltTy) (X : Vec Ideal S2x14x12x2560 e) (i j : ℕ) (inb : ∀ a, (![0, i, j, 0] : Fin 4 → ℕ) a + S2x12x10x2560.size a ≤ S2x14x12x2560.size a)
    (hi : i < 3) (hj : j < 3) (b : Fin 2) (h : Fin 12) (q : Fin 10) (k : Fin 2560) :
    View.ld X (Rect.unit (s := S2x14x12x2560) ![0, i, j, 0] S2x12x10x2560.size inb) (ix4 b h q k) = X (ix4 b ⟨h.val + i, by omega⟩ ⟨q.val + j, by omega⟩ k) := by
  refine congrArg X (Rect.emb_eq_of_coords _ _ _ fun a => ?_)
  match a with
  | 0 => show b.val = 0 + 1 * b.val; omega
  | 1 => show h.val + i = i + 1 * h.val; omega
  | 2 => show q.val + j = j + 1 * q.val; omega
  | 3 => show k.val = 0 + 1 * k.val; omega

theorem ld_w (X : Vec Ideal S3x3x2560x1280 .fp8e4m3) (i j : ℕ) (inb : ∀ a, (![i, j, 0, 0] : Fin 4 → ℕ) a + S1x1x2560x1280.size a ≤ S3x3x2560x1280.size a)
    (hi : i < 3) (hj : j < 3) (k : Fin 2560) (n : Fin 1280) :
    View.ld X (Rect.unit (s := S3x3x2560x1280) ![i, j, 0, 0] S1x1x2560x1280.size inb) (ix4 0 0 k n) = X (ix4 ⟨i, hi⟩ ⟨j, hj⟩ k n) := by
  refine congrArg X (Rect.emb_eq_of_coords _ _ _ fun a => ?_)
  match a with
  | 0 => show i = i + 1 * 0; omega
  | 1 => show j = j + 1 * 0; omega
  | 2 => show k.val = 0 + 1 * k.val; omega
  | 3 => show n.val = 0 + 1 * n.val; omega

theorem ld_d (X : Vec Ideal S3x3x2560x32 .bf16) (i j : ℕ) (inb : ∀ a, (![i, j, 0, 0] : Fin 4 → ℕ) a + S1x1x2560x32.size a ≤ S3x3x2560x32.size a)
    (hi : i < 3) (hj : j < 3) (k : Fin 2560) (n : Fin 32) :
    View.ld X (Rect.unit (s := S3x3x2560x32) ![i, j, 0, 0] S1x1x2560x32.size inb) (ix4 0 0 k n) = X (ix4 ⟨i, hi⟩ ⟨j, hj⟩ k n) := by
  refine congrArg X (Rect.emb_eq_of_coords _ _ _ fun a => ?_)
  match a with
  | 0 => show i = i + 1 * 0; omega
  | 1 => show j = j + 1 * 0; omega
  | 2 => show k.val = 0 + 1 * k.val; omega
  | 3 => show n.val = 0 + 1 * n.val; omega

/-- A tap of the image convolution from the padded codes. -/
def tapC (C : S2x14x12x2560.Idx → EReal) (W : S3x3x2560x1280.Idx → EReal) (b : Fin 2) (h : Fin 12) (q : Fin 10) (n : Fin 1280) (i j : Fin 3) : EReal :=
  ∑ k : Fin 2560, C (ix4 b ⟨h.val + i.val, by omega⟩ ⟨q.val + j.val, by omega⟩ k) * W (ix4 i j k n)

/-- A tap of the first low-rank convolution from the padded input. -/
def tapL (C : S2x14x12x2560.Idx → EReal) (W : S3x3x2560x32.Idx → EReal) (b : Fin 2) (h : Fin 12) (q : Fin 10) (n : Fin 32) (i j : Fin 3) : EReal :=
  ∑ k : Fin 2560, C (ix4 b ⟨h.val + i.val, by omega⟩ ⟨q.val + j.val, by omega⟩ k) * W (ix4 i j k n)

theorem row_split : ∀ (b : Fin 2) (h : Fin 12) (q : Fin 10), (b.val * 120 + h.val * 10 + q.val) / 120 = b.val ∧
    (b.val * 120 + h.val * 10 + q.val) / 10 % 12 = h.val ∧ (b.val * 120 + h.val * 10 + q.val) % 10 = q.val := by
  decide +kernel

theorem tapA_ld (C : Vec Ideal S2x14x12x2560 .f32) (W : Vec Ideal S3x3x2560x1280 .fp8e4m3) (b : Fin 2) (h : Fin 12) (q : Fin 10) (n : Fin 1280) (i j : ℕ)
    (hi : i < 3) (hj : j < 3) (i1 : ∀ a, (![0, i, j, 0] : Fin 4 → ℕ) a + S2x12x10x2560.size a ≤ S2x14x12x2560.size a)
    (i2 : ∀ a, (![i, j, 0, 0] : Fin 4 → ℕ) a + S1x1x2560x1280.size a ≤ S3x3x2560x1280.size a) :
    tapA (View.ld C (Rect.unit (s := S2x14x12x2560) ![0, i, j, 0] S2x12x10x2560.size i1)) (View.ld W (Rect.unit (s := S3x3x2560x1280) ![i, j, 0, 0] S1x1x2560x1280.size i2))
      ⟨b.val * 120 + h.val * 10 + q.val, by omega⟩ n = tapC C W b h q n ⟨i, hi⟩ ⟨j, hj⟩ := by
  unfold tapA tapC
  obtain ⟨h1, h2, h3⟩ := row_split b h q
  refine Finset.sum_congr rfl fun k _ => ?_
  rw [ld_x _ C i j i1 hi hj, ld_w W i j i2 hi hj]
  simp only [h1, h2, h3]

theorem tapH_ld (C : Vec Ideal S2x14x12x2560 .bf16) (W : Vec Ideal S3x3x2560x32 .bf16) (b : Fin 2) (h : Fin 12) (q : Fin 10) (n : Fin 32) (i j : ℕ)
    (hi : i < 3) (hj : j < 3) (i1 : ∀ a, (![0, i, j, 0] : Fin 4 → ℕ) a + S2x12x10x2560.size a ≤ S2x14x12x2560.size a)
    (i2 : ∀ a, (![i, j, 0, 0] : Fin 4 → ℕ) a + S1x1x2560x32.size a ≤ S3x3x2560x32.size a) :
    tapH (View.ld C (Rect.unit (s := S2x14x12x2560) ![0, i, j, 0] S2x12x10x2560.size i1)) (View.ld W (Rect.unit (s := S3x3x2560x32) ![i, j, 0, 0] S1x1x2560x32.size i2))
      ⟨b.val * 120 + h.val * 10 + q.val, by omega⟩ n = tapL C W b h q n ⟨i, hi⟩ ⟨j, hj⟩ := by
  unfold tapH tapL
  obtain ⟨h1, h2, h3⟩ := row_split b h q
  refine Finset.sum_congr rfl fun k _ => ?_
  rw [ld_x _ C i j i1 hi hj, ld_d W i j i2 hi hj]
  simp only [h1, h2, h3]

/-- The image convolution. -/
def convC (C : S2x14x12x2560.Idx → EReal) (W : S3x3x2560x1280.Idx → EReal) (b : Fin 2) (h : Fin 12) (q : Fin 10) (n : Fin 1280) : EReal :=
  tapC C W b h q n 0 0 + tapC C W b h q n 0 1 + tapC C W b h q n 0 2 + tapC C W b h q n 1 0 + tapC C W b h q n 1 1 + tapC C W b h q n 1 2
    + tapC C W b h q n 2 0 + tapC C W b h q n 2 1 + tapC C W b h q n 2 2

/-- The first low-rank convolution. -/
def convL (C : S2x14x12x2560.Idx → EReal) (W : S3x3x2560x32.Idx → EReal) (b : Fin 2) (h : Fin 12) (q : Fin 10) (n : Fin 32) : EReal :=
  tapL C W b h q n 0 0 + tapL C W b h q n 0 1 + tapL C W b h q n 0 2 + tapL C W b h q n 1 0 + tapL C W b h q n 1 1 + tapL C W b h q n 1 2
    + tapL C W b h q n 2 0 + tapL C W b h q n 2 1 + tapL C W b h q n 2 2

section
variable (x0 : Vec Ideal S2x12x10x2560 .f32) (x1 : Vec Ideal S2x14x12x2560 .f32) (x2 : Vec Ideal S2 .f32) (x3 : Vec Ideal S2x14x12x2560 .bf16)
  (x4 : Vec Ideal S3x3x2560x1280 .fp8e4m3) (x5 : Vec Ideal S1280 .f32) (x6 : Vec Ideal S1280 .f32) (x7 : Vec Ideal S3x3x2560x32 .bf16)
  (x8 : Vec Ideal S32x1280 .bf16) (b : Fin 2) (h : Fin 12) (q : Fin 10)

theorem hb_value (n : Fin 32) : k0_pay16 (F := Ideal) (k0_pay19 x0 x1 x2 x3 x4 x5 x6 x7 x8) (View.ld x3 r0_25) (View.ld x7 r0_27)
    (ix2 ⟨b.val * 120 + h.val * 10 + q.val, by omega⟩ n) = convL x3 x7 b h q n := by
  rw [pay16_value, k0_pay19, pay14_value, pay11_value, pay7_value, pay6_value, pay3_value, convL]
  rw [tapH_ld x3 x7 b h q n 0 0, tapH_ld x3 x7 b h q n 0 1, tapH_ld x3 x7 b h q n 0 2, tapH_ld x3 x7 b h q n 1 0, tapH_ld x3 x7 b h q n 1 1,
    tapH_ld x3 x7 b h q n 1 2, tapH_ld x3 x7 b h q n 2 0, tapH_ld x3 x7 b h q n 2 1, tapH_ld x3 x7 b h q n 2 2]
  all_goals first | rfl | decide

theorem out11_value (k : Fin 2560) : out0_11 (F := Ideal) x0 x1 x2 x3 x4 x5 x6 x7 x8 (ix4 b h q k) = x0 (ix4 b h q k) := by
  rw [out0_11, View.canon_cons_unit_lit, pay1_value, View.ld_unit_lit] <;> decide

theorem out10_value (n : Fin 32) : out0_10 (F := Ideal) x0 x1 x2 x3 x4 x5 x6 x7 x8 (ix4 b h q n) = convL x3 x7 b h q n := by
  rw [out0_10, View.canon_cons_unit_lit, pay18_value, hb_value]
  decide

theorem out9_value (n : Fin 1280) : out0_9 (F := Ideal) x0 x1 x2 x3 x4 x5 x6 x7 x8 (ix4 b h q n)
    = (convC x1 x4 b h q n * (x2 (ix1 b) * x5 (ix1 n)) + x6 (ix1 n)) + Ideal.ofBits .f32 0x3F400000#32 * ∑ r : Fin 32, convL x3 x7 b h q r * x8 (ix2 r n) := by
  rw [out0_9, View.canon_cons_unit_lit, pay17_value]
  simp only [hb_value]
  rw [pay15_value, pay12_value, pay8_value, pay5_value, pay2_value, convC]
  rw [tapA_ld x1 x4 b h q n 0 0, tapA_ld x1 x4 b h q n 0 1, tapA_ld x1 x4 b h q n 0 2, tapA_ld x1 x4 b h q n 1 0, tapA_ld x1 x4 b h q n 1 1,
    tapA_ld x1 x4 b h q n 1 2, tapA_ld x1 x4 b h q n 2 0, tapA_ld x1 x4 b h q n 2 1, tapA_ld x1 x4 b h q n 2 2]
  · rw [View.ld_unit_lit, View.ld_unit_lit, View.ld_unit_lit, View.ld_unit_lit] <;> first | rfl | decide
  all_goals decide
end

end Cert.ReferenceIdeal.Hand
-- ==== Proof.Equation.lean ====
/-
  The kernel's sums over the nine taps are the reference's.
-/
module

public import proofs.«01_k».proof.Proof.RefBlock
public import proofs.«01_k».proof.Proof.Out

@[expose] public section

set_option maxRecDepth 16384

noncomputable section

namespace Cert.ReferenceIdeal.Hand

open Cert.ReferenceIdeal Cert.ReferenceIdeal.Gen Cert.KernelIdeal.Hand
open Idealize.ShloMosaic Idealize.ShloMosaic.TcCoe

theorem conv_eq (x : S2x12x10x2560.Idx → EReal) (C : S2x14x12x2560.Idx → EReal) (W4 : S3x3x2560x1280.Idx → EReal)
    (W9 : Cert.KernelIdeal.S9x2560x1280.Idx → EReal)
    (hC : ∀ (b : Fin 2) (i : Fin 14) (j : Fin 12) (k : Fin 2560), C (ix4 b i j k) = padCode x b i.val j.val k)
    (hW : ∀ (t : Fin 9) (k : Fin 2560) (n : Fin 1280), W9 (ix3 t k n) = W4 (ix4 ⟨t.val / 3, by omega⟩ ⟨t.val % 3, by omega⟩ k n))
    (b : Fin 2) (h : Fin 12) (q : Fin 10) (n : Fin 1280) : convC C W4 b h q n = conv x W9 b h.val q.val n := by
  have h1 : ∀ t : Fin 9, tapC C W4 b h q n ⟨t.val / 3, by omega⟩ ⟨t.val % 3, by omega⟩ = tapSum x W9 b h.val q.val n t :=
    fun t => Finset.sum_congr rfl fun k _ => by rw [hC, hW]
  rw [conv, sum9]
  exact add9 (h1 0) (h1 1) (h1 2) (h1 3) (h1 4) (h1 5) (h1 6) (h1 7) (h1 8)

theorem low_eq (x : S2x12x10x2560.Idx → EReal) (C : S2x14x12x2560.Idx → EReal) (D4 : S3x3x2560x32.Idx → EReal)
    (D : Cert.KernelIdeal.S288x2560.Idx → EReal)
    (hC : ∀ (b : Fin 2) (i : Fin 14) (j : Fin 12) (k : Fin 2560), C (ix4 b i j k) = padX x b i.val j.val k)
    (hD : ∀ (j : Fin 288) (k : Fin 2560),
      D (ix2 j k) = D4 (ix4 ⟨j.val / 96, by omega⟩ ⟨j.val / 32 % 3, by omega⟩ k ⟨j.val % 32, by omega⟩))
    (b : Fin 2) (h : Fin 12) (q : Fin 10) (r : Fin 32) : convL C D4 b h q r = low x D b h.val q.val r := by
  have h1 : ∀ t : Fin 9, tapL C D4 b h q r ⟨t.val / 3, by omega⟩ ⟨t.val % 3, by omega⟩ = lowTap x D b h.val q.val r t :=
    fun t => Finset.sum_congr rfl fun k _ => by
      rw [hC, hD]
      refine congrArg _ (congrArg D4 ?_)
      rw [show (⟨t.val / 3, by omega⟩ : Fin 3) = ⟨(t.val * 32 + r.val) / 96, by omega⟩ from Fin.ext (by show t.val / 3 = (t.val * 32 + r.val) / 96; omega),
        show (⟨t.val % 3, by omega⟩ : Fin 3) = ⟨(t.val * 32 + r.val) / 32 % 3, by omega⟩ from Fin.ext (by show t.val % 3 = (t.val * 32 + r.val) / 32 % 3; omega)]
      refine congrArg _ (Fin.ext ?_)
      show r.val = (t.val * 32 + r.val) % 32
      omega
  rw [low, sum9]
  exact add9 (h1 0) (h1 1) (h1 2) (h1 3) (h1 4) (h1 5) (h1 6) (h1 7) (h1 8)

end Cert.ReferenceIdeal.Hand
-- ==== Proof.RefEnd.lean ====
/-
  The reference's four results at the end of a run, as functions of its arguments.
-/
module

public import proofs.«01_k».proof.Proof.RefWhole
public import proofs.«01_k».proof.Proof.RefHost
public import proofs.«01_k».proof.Proof.RefIdx
public import proofs.«01_k».proof.Proof.Equation

@[expose] public section

set_option maxRecDepth 16384

noncomputable section

namespace Cert.ReferenceIdeal.Hand

open Cert.ReferenceIdeal Cert.ReferenceIdeal.Gen Cert.KernelIdeal.Hand
open Idealize.ShloMosaic Idealize.ShloMosaic.TcCoe Idealize.SL.Sem

/-- The input image. -/
def rX (m : (ℓ : Loc nD τ sig) → Buf (Elt Ideal) ℓ) (c : Dev nD) : S2x12x10x2560.Idx → EReal := m ((c.tc : Thread nD τ).loc main_arg0)

variable (m : (ℓ : Loc nD τ sig) → Buf (Elt Ideal) ℓ) (ρ : Dev nD → PrngReg) (c : Dev nD)

theorem v21_eq (hf : Finite (rX m c)) (b : Fin 2) : V m c main_v21 (ix1 b) = scaleOf (tOf (rX m c) b) :=
  (congrFun (host_scale (fun b => m (c, b))) (ix1 b)).trans (hScale_value (rX m c) hf b)

theorem v25_eq (hf : Finite (rX m c)) (b : Fin 2) (h : Fin 12) (q : Fin 10) (k : Fin 2560) : V m c main_v25 (ix4 b h q k) = code (rX m c) b h q k :=
  (congrFun (host_clip (fun b => m (c, b))) (ix4 b h q k)).trans
    (hClip_value (rX m c) hf (hScale (rX m c)) b (hScale_value (rX m c) hf b) h q k)

theorem v26_eq (hf : Finite (rX m c)) (b : Fin 2) (i : Fin 14) (j : Fin 12) (k : Fin 2560) :
    V m c main_v26 (ix4 b i j k) = padCode (rX m c) b i.val j.val k := by
  refine (congrFun (host_clip_pad (fun b => m (c, b))) (ix4 b i j k)).trans
    ((hPad_value .f32 (hClip (rX m c) (hScale (rX m c))) b i j k).trans ?_)
  unfold padCode
  by_cases h : 1 ≤ i.val ∧ i.val ≤ 12 ∧ 1 ≤ j.val ∧ j.val ≤ 10
  · rw [dif_pos h, dif_pos ⟨⟨h.1, h.2.1⟩, h.2.2⟩]
    exact hClip_value (rX m c) hf (hScale (rX m c)) b (hScale_value (rX m c) hf b) _ _ k
  · rw [dif_neg h, dif_neg fun h' => h ⟨h'.1.1, h'.1.2, h'.2⟩]

theorem v27_eq (b : Fin 2) (i : Fin 14) (j : Fin 12) (k : Fin 2560) : V m c main_v27 (ix4 b i j k) = padX (rX m c) b i.val j.val k :=
  (congrFun (host_x_pad (fun b => m (c, b))) (ix4 b i j k)).trans (hPad_value .bf16 (rX m c) b i j k)

theorem ref_code (hf : Finite (rX m c)) (b : Fin 2) (h : Fin 12) (q : Fin 10) (k : Fin 2560) :
    (dats m 0 c).arrAt 11 cfg0.N (ix4 b h q k) = code (rX m c) b h q k :=
  (congrFun (final11 m c) (ix4 b h q k)).trans ((out11_value _ _ _ _ _ _ _ _ _ b h q k).trans (v25_eq m c hf b h q k))

theorem ref_low (D : Cert.KernelIdeal.S288x2560.Idx → EReal)
    (hD : ∀ (j : Fin 288) (k : Fin 2560),
      D (ix2 j k) = m ((c.tc : Thread nD τ).loc main_arg4) (ix4 ⟨j.val / 96, by omega⟩ ⟨j.val / 32 % 3, by omega⟩ k ⟨j.val % 32, by omega⟩))
    (b : Fin 2) (h : Fin 12) (q : Fin 10) (r : Fin 32) :
    convL (V m c main_v27) (V m c main_arg4) b h q r = low (rX m c) D b h.val q.val r :=
  low_eq (rX m c) _ _ D (v27_eq m c) (fun j k => (hD j k).trans (congrFun (V_main_arg4 m c).symm _)) b h q r

theorem ref_h (D : Cert.KernelIdeal.S288x2560.Idx → EReal)
    (hD : ∀ (j : Fin 288) (k : Fin 2560),
      D (ix2 j k) = m ((c.tc : Thread nD τ).loc main_arg4) (ix4 ⟨j.val / 96, by omega⟩ ⟨j.val / 32 % 3, by omega⟩ k ⟨j.val % 32, by omega⟩))
    (b : Fin 2) (h : Fin 12) (q : Fin 10) (r : Fin 32) :
    (dats m 0 c).arrAt 10 cfg0.N (ix4 b h q r) = low (rX m c) D b h.val q.val r :=
  (congrFun (final10 m c) (ix4 b h q r)).trans ((out10_value _ _ _ _ _ _ _ _ _ b h q r).trans (ref_low m c D hD b h q r))

theorem ref_y (hf : Finite (rX m c)) (W : Cert.KernelIdeal.S9x2560x1280.Idx → EReal) (D : Cert.KernelIdeal.S288x2560.Idx → EReal)
    (ws bias : S1280.Idx → EReal) (U : S32x1280.Idx → EReal)
    (hW : ∀ (t : Fin 9) (k : Fin 2560) (n : Fin 1280),
      W (ix3 t k n) = m ((c.tc : Thread nD τ).loc main_arg1) (ix4 ⟨t.val / 3, by omega⟩ ⟨t.val % 3, by omega⟩ k n))
    (hs : m ((c.tc : Thread nD τ).loc main_arg2) = ws) (hb : m ((c.tc : Thread nD τ).loc main_arg3) = bias)
    (hD : ∀ (j : Fin 288) (k : Fin 2560),
      D (ix2 j k) = m ((c.tc : Thread nD τ).loc main_arg4) (ix4 ⟨j.val / 96, by omega⟩ ⟨j.val / 32 % 3, by omega⟩ k ⟨j.val % 32, by omega⟩))
    (hu : m ((c.tc : Thread nD τ).loc main_arg5) = U)
    (b : Fin 2) (h : Fin 12) (q : Fin 10) (n : Fin 1280) :
    (dats m 0 c).arrAt 9 cfg0.N (ix4 b h q n) = yVal (rX m c) W ws bias D U b h.val q.val n := by
  refine (congrFun (final9 m c) (ix4 b h q n)).trans ((out9_value _ _ _ _ _ _ _ _ _ b h q n).trans ?_)
  have e1 := conv_eq (rX m c) (V m c main_v26) (V m c main_arg1) W (v26_eq m c hf)
    (fun t k n => (hW t k n).trans (congrFun (V_main_arg1 m c).symm _)) b h q n
  have e2 := v21_eq m c hf b
  have e3 : V m c main_arg2 = ws := (V_main_arg2 m c).trans hs
  have e4 : V m c main_arg3 = bias := (V_main_arg3 m c).trans hb
  have e5 : V m c main_arg5 = U := (V_main_arg5 m c).trans hu
  have e6 := ref_low m c D hD b h q
  rw [e1, e2, e3, e4, e5]
  unfold yVal
  refine congrArg _ (congrArg _ (Finset.sum_congr rfl fun r _ => ?_))
  rw [e6]

/-- The reference's run with its results. -/
theorem run_results : θ_run defs (onTc (τ := τ) (main (F := Ideal))) ⟨m, fun _ => 0, ρ⟩ (fun r => ∀ c : Dev nD,
      r.2.mem ((c.tc : Thread nD τ).loc main_v28_0) = (dats m 0 c).arrAt 9 cfg0.N
      ∧ r.2.mem ((c.tc : Thread nD τ).loc main_v28_1) = (dats m 0 c).arrAt 10 cfg0.N
      ∧ r.2.mem ((c.tc : Thread nD τ).loc main_v28_2) = (dats m 0 c).arrAt 11 cfg0.N
      ∧ r.2.mem ((c.tc : Thread nD τ).loc main_v21) = V m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 9, (h c).1 10, (h c).1 11,
      ((h c).1 2).trans (((dats m 0 c).arrAt_in 2 rfl _).trans (A_eq m c 2)),
      ((h c).2 main_arg0 (Pipeline.mem_restRefs_of main_arg0 (by decide) (by decide))).trans (V_main_arg0 m c),
      ((h c).1 4).trans (((dats m 0 c).arrAt_in 4 rfl _).trans ((A_eq m c 4).trans (V_main_arg1 m c))),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c))),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c)))⟩) (run_main m ρ)

end Cert.ReferenceIdeal.Hand
-- ==== Proof.PreFinite.lean ====
/-
  What the claim's precondition says of the input.
-/
module

public import proofs.«01_k».proof.Proof.Gen.Pre_finite
public import proofs.«01_k».proof.Proof.ScaleVal
public import Idealize.ShloMosaic.Lib.ReduceAll

@[expose] public section

set_option maxRecDepth 16384

noncomputable section

namespace Cert.KernelIdeal.Hand

open Cert.Pre_finite Cert.Pre_finite.Gen
open Idealize.ShloMosaic Idealize.ShloMosaic.TcCoe

theorem largest : Ideal.ofBits .f32 0x7F7F0000#32 ≤ pk 255 := by
  unfold pk
  rw [show Ideal.ofBits .f32 0x7F7F0000#32 = (((255 : ℝ) * 2 ^ 120 : ℝ) : EReal) by
    simp [Ideal.ofBits, Ideal.ieee, -EReal.coe_mul]
    norm_num, EReal.coe_le_coe_iff]
  norm_num

theorem finite_of_pre (x : FVec Ideal S2x12x10x2560 .bf16) (w : FVec Ideal S3x3x2560x1280 .fp8e4m3) (s : FVec Ideal S1280 .f32)
    (b : FVec Ideal S1280 .f32) (d : FVec Ideal S3x3x2560x32 .bf16) (u : FVec Ideal S32x1280 .bf16)
    (h : Cert.Pre_finite.fn (F := Ideal) x w s b d u = fun _ => 1#1) : Finite x := fun i => by
  have h1 := Host.reduce_andi_all _ _ _ _ ix0 (congrFun h ix0) i
  refine le_trans ?_ largest
  have h2 : Ideal.cmp .ole (max (x i) (-x i)) (Ideal.ofBits .f32 0x7F7F0000#32) = 1#1 := h1
  by_contra hc
  simp [Ideal.cmp, hc] at h2

end Cert.KernelIdeal.Hand
-- ==== Proof.Algebraic.lean ====
/-
  From equal arguments the kernel and the reference end with the same four results.
-/
module

public import proofs.«01_k».proof.Defs
public import proofs.«01_k».proof.Proof.KernelEnd
public import proofs.«01_k».proof.Proof.RefEnd
public import proofs.«01_k».proof.Proof.PreFinite

@[expose] public section

set_option maxRecDepth 16384

noncomputable section

namespace Cert.Algebraic

open Idealize.ShloMosaic Idealize.ShloMosaic.TcCoe Idealize.SL.Sem

theorem ext4 {a b c d : ℕ} {f g : (⟨4, ![a, b, c, d]⟩ : Shape).Idx → EReal}
    (h : ∀ (i : Fin a) (j : Fin b) (k : Fin c) (l : Fin d), f (ix4 i j k l) = g (ix4 i j k l)) : f = g := by
  funext y
  have e : y = ix4 (y 0) (y 1) (y 2) (y 3) := by
    funext a
    match a with
    | 0 => rfl
    | 1 => rfl
    | 2 => rfl
    | 3 => rfl
  rw [e]
  exact h _ _ _ _

theorem ext1 {a : ℕ} {f g : (⟨1, ![a]⟩ : Shape).Idx → EReal} (h : ∀ i : Fin a, f (ix1 i) = g (ix1 i)) : f = g := by
  funext y
  have e : y = ix1 (y 0) := by
    funext a
    match a with
    | 0 => rfl
  rw [e]
  exact h _

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf : ∀ c, Cert.KernelIdeal.Hand.Finite (Cert.KernelIdeal.Hand.xIn m c) := fun c =>
    Cert.KernelIdeal.Hand.finite_of_pre _ _ _ _ _ _ (hpre c)
  refine ⟨fun c => Cert.KernelIdeal.Hand.atEnd m c Cert.KernelIdeal.main_v9, fun c => Cert.KernelIdeal.Hand.atEnd m c Cert.KernelIdeal.main_v11,
    fun c => Cert.KernelIdeal.Hand.atEnd m c Cert.KernelIdeal.main_v12, fun c => Cert.KernelIdeal.Hand.atEnd m c Cert.KernelIdeal.main_v6_3,
    Cert.KernelIdeal.Hand.run_results m g hf, (θ_run _ _ _).mono (fun r h c => ?_) (Cert.ReferenceIdeal.Hand.run_results m' g')⟩
  obtain ⟨h0, h1, h2, h3, h4⟩ := h c
  obtain ⟨a0, a1, a2, a3, a4, a5⟩ := hargs c
  have ex : Cert.ReferenceIdeal.Hand.rX m' c = Cert.KernelIdeal.Hand.xIn m c := a0
  have hf' : Cert.KernelIdeal.Hand.Finite (Cert.ReferenceIdeal.Hand.rX m' c) := by rw [ex]; exact hf c
  have hD := fun j k => (Cert.KernelIdeal.Hand.d9_eq m c j k).trans (congrFun a4.symm _)
  have hW := fun t k n => (Cert.KernelIdeal.Hand.w9_eq m c t k n).trans (congrFun a1.symm _)
  refine ⟨h0.trans (ext4 fun b i w n => ?_), h1.trans (ext4 fun b i w n => ?_), h2.trans (ext4 fun b i w n => ?_), h3.trans (ext1 fun b => ?_), h4⟩
  · refine (Cert.ReferenceIdeal.Hand.ref_y m' c hf' (Cert.KernelIdeal.Hand.w9 m c) (Cert.KernelIdeal.Hand.d9 m c) (Cert.KernelIdeal.Hand.sIn m c)
      (Cert.KernelIdeal.Hand.bIn m c) (Cert.KernelIdeal.Hand.uIn m c) hW a2 a3 hD a5 b i w n).trans ?_
    rw [ex]
    exact (Cert.KernelIdeal.Hand.y_end m c b i w n).symm
  · refine (Cert.ReferenceIdeal.Hand.ref_h m' c (Cert.KernelIdeal.Hand.d9 m c) hD b i w n).trans ?_
    rw [ex]
    exact (Cert.KernelIdeal.Hand.h_end m c b i w n).symm
  · refine (Cert.ReferenceIdeal.Hand.ref_code m' c hf' b i w n).trans ?_
    rw [ex]
    exact (Cert.KernelIdeal.Hand.c_end m c b i w n).symm
  · refine (Cert.ReferenceIdeal.Hand.v21_eq m' c hf' b).trans ?_
    rw [ex]
    exact (Cert.KernelIdeal.Hand.s_end m c b).symm

end Cert.Algebraic
-- ==== Proof.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.Pre_finite
public import proofs.«01_k».proof.Proof.Algebraic
public import Idealize.ShloMosaic.Lib.Bf16Pair

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    ⟨IdealRules.bf16_pair.statement _ _, IdealRules.bf16_pair.statement _ _, IdealRules.bf16_pair.statement _ _,
      IdealRules.bf16_pair.statement _ _, IdealRules.bf16_pair.statement _ _, IdealRules.bf16_pair.statement _ _,
      IdealRules.bf16_pair.statement _ _⟩,
    Cert.Algebraic.algebraic⟩

end Cert.Proof

end
